-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v374) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1024x128 : Shape := ⟨2, ![1024, 128]⟩
abbrev S128 : Shape := ⟨1, ![128]⟩
abbrev S128x128 : Shape := ⟨2, ![128, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128 : S_.BroadcastsInDim S128 (![] : Fin 0 → Fin S128.rank)
  reducesTo_S128_S_d0 : S128.ReducesTo [0] S_
  transposes_S128x128_S128x128_1_0 : S128x128.Transposes [1, 0] S128x128
  reducesTo_S128x128_S_d0_1 : S128x128.ReducesTo [0, 1] S_

variable [Facts]

def fn {F : FTy → Type} [FloatOps F] (main_arg0 : FVec F S1024x128 .f32) (main_arg1 : FVec F S128 .f32) (main_arg2 : FVec F S128x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := (transpose S128x128 [1, 0] · transposes_S128x128_S128x128_1_0) main_arg2
  let main_v10 : IVec S128x128 1 := cmpf .oeq main_arg2 main_v9
  let main_c_2 : IVec S_ 1 := constantI S_ 1 1#1
  let main_v11 : IVec S_ 1 := (fun x v => Host.reduce IntOp.andi x v reducesTo_S128x128_S_d0_1 h_S_) main_v10 main_c_2
  let main_v12 : IVec S_ 1 := andi main_v8 main_v11
  main_v12
-- ==== Kernel.lean ====
abbrev S1024x128 : Shape := ⟨2, ![1024, 128]⟩
abbrev S128 : Shape := ⟨1, ![128]⟩
abbrev S128x128 : Shape := ⟨2, ![128, 128]⟩
abbrev S1x128 : Shape := ⟨2, ![1, 128]⟩
abbrev S5x1024x128 : Shape := ⟨3, ![5, 1024, 128]⟩
abbrev S1 : Shape := ⟨1, ![1]⟩
abbrev S1x1 : Shape := ⟨2, ![1, 1]⟩
abbrev S1x1024x128 : Shape := ⟨3, ![1, 1024, 128]⟩

abbrev nBuf : Space → Nat
  | .hbm => 5
  | .vmem => 4
  | .smem => 0
  | _ => 0

abbrev bufTy : (tb : Table) → Fin (tcTables nBuf tb) → BufTy
  | .hbm, ⟨0, _⟩ => ⟨S1024x128, .f32⟩
  | .hbm, ⟨1, _⟩ => ⟨S128, .f32⟩
  | .hbm, ⟨2, _⟩ => ⟨S128x128, .f32⟩
  | .hbm, ⟨3, _⟩ => ⟨S1x128, .f32⟩
  | .hbm, ⟨4, _⟩ => ⟨S5x1024x128, .f32⟩
  | .local _ .vmem, ⟨0, _⟩ => ⟨S1024x128, .f32⟩
  | .local _ .vmem, ⟨1, _⟩ => ⟨S1x128, .f32⟩
  | .local _ .vmem, ⟨2, _⟩ => ⟨S128x128, .f32⟩
  | .local _ .vmem, ⟨3, _⟩ => ⟨S5x1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x128 : Shape := ⟨2, ![1024, 128]⟩
abbrev S128 : Shape := ⟨1, ![128]⟩
abbrev S128x128 : Shape := ⟨2, ![128, 128]⟩
abbrev S_ : Shape := ⟨0, ![]⟩
abbrev S1024x1x128 : Shape := ⟨3, ![1024, 1, 128]⟩
abbrev S1024x1x128x128 : Shape := ⟨4, ![1024, 1, 128, 128]⟩
abbrev S1024x128x128 : Shape := ⟨3, ![1024, 128, 128]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S4x2x1 : Shape := ⟨3, ![4, 2, 1]⟩
abbrev S4x2x2 : Shape := ⟨3, ![4, 2, 2]⟩
abbrev S1x1024x128 : Shape := ⟨3, ![1, 1024, 128]⟩
abbrev S4x2x1x1 : Shape := ⟨4, ![4, 2, 1, 1]⟩
abbrev S1x1x1024x128 : Shape := ⟨4, ![1, 1, 1024, 128]⟩
abbrev S4x2x1024x128 : Shape := ⟨4, ![4, 2, 1024, 128]⟩
abbrev S4x1x1024x128 : Shape := ⟨4, ![4, 1, 1024, 128]⟩
abbrev S4x1024x128 : Shape := ⟨3, ![4, 1024, 128]⟩
abbrev S1x128 : Shape := ⟨2, ![1, 128]⟩
abbrev S1x128x128 : Shape := ⟨3, ![1, 128, 128]⟩
abbrev S1024x128x1 : Shape := ⟨3, ![1024, 128, 1]⟩
abbrev S131072x128 : Shape := ⟨2, ![131072, 128]⟩
abbrev S131072 : Shape := ⟨1, ![131072]⟩
abbrev S5x1024x128 : Shape := ⟨3, ![5, 1024, 128]⟩

abbrev nBuf : Space → Nat
  | .hbm => 1222
  | .vmem => 0
  | .smem => 0
  | _ => 0

abbrev hbmTy0_0 (i : Nat) : BufTy := match i % 128 with
  | 0 => ⟨S1024x128, .f32⟩
  | 1 => ⟨S128, .f32⟩
  | 2 => ⟨S128x128, .f32⟩
  | 3 => ⟨S128x128, .i32⟩
  | 4 => ⟨S128x128, .i32⟩
  | 5 => ⟨S_, .i32⟩
  | 6 => ⟨S128x128, .i32⟩
  | 7 => ⟨S128x128, .i32⟩
  | 8 => ⟨S128x128, .i1⟩
  | 9 => ⟨S128x128, .f32⟩
  | 10 => ⟨S128x128, .f32⟩
  | 11 => ⟨S_, .f32⟩
  | 12 => ⟨S128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S_, .i32⟩
  | 25 => ⟨S_, .i32⟩
  | 26 => ⟨S_, .f32⟩
  | 27 => ⟨S128x128, .f32⟩
  | 28 => ⟨S128x128, .f32⟩
  | 29 => ⟨S_, .i32⟩
  | 30 => ⟨S_, .i32⟩
  | 31 => ⟨S128x128, .f32⟩
  | 32 => ⟨S_, .i32⟩
  | 33 => ⟨S_, .i1⟩
  | 34 => ⟨S_, .i32⟩
  | 35 => ⟨S_, .i32⟩
  | 36 => ⟨S128x128, .f32⟩
  | 37 => ⟨S128x128, .f32⟩
  | 38 => ⟨S128x128, .f32⟩
  | 39 => ⟨S128x128, .f32⟩
  | 40 => ⟨S_, .i32⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i32⟩
  | 47 => ⟨S128x128, .i1⟩
  | 48 => ⟨S_, .f32⟩
  | 49 => ⟨S_, .f32⟩
  | 50 => ⟨S128x128, .f32⟩
  | 51 => ⟨S128x128, .f32⟩
  | 52 => ⟨S_, .f32⟩
  | 53 => ⟨S128, .f32⟩
  | 54 => ⟨S_, .f32⟩
  | 55 => ⟨S128, .f32⟩
  | 56 => ⟨S128, .f32⟩
  | 57 => ⟨S1024x1x128, .f32⟩
  | 58 => ⟨S1024x1x128x128, .f32⟩
  | 59 => ⟨S1024x128x128, .f32⟩
  | 60 => ⟨S_, .i32⟩
  | 61 => ⟨S_, .i32⟩
  | 62 => ⟨S_, .i32⟩
  | 63 => ⟨S_, .i32⟩
  | 64 => ⟨S1, .i32⟩
  | 65 => ⟨S_, .i32⟩
  | 66 => ⟨S_, .i32⟩
  | 67 => ⟨S_, .i32⟩
  | 68 => ⟨S1, .i32⟩
  | 69 => ⟨S2, .i32⟩
  | 70 => ⟨S4, .i32⟩
  | 71 => ⟨S4, .i32⟩
  | 72 => ⟨S_, .i32⟩
  | 73 => ⟨S4, .i32⟩
  | 74 => ⟨S4, .i32⟩
  | 75 => ⟨S4x1, .i32⟩
  | 76 => ⟨S_, .i32⟩
  | 77 => ⟨S4, .i32⟩
  | 78 => ⟨S4, .i32⟩
  | 79 => ⟨S4x1, .i32⟩
  | 80 => ⟨S4x2, .i32⟩
  | 81 => ⟨S1, .i32⟩
  | 82 => ⟨S_, .i32⟩
  | 83 => ⟨S1, .i32⟩
  | 84 => ⟨S_, .i32⟩
  | 85 => ⟨S4x1, .i32⟩
  | 86 => ⟨S4x1, .i32⟩
  | 87 => ⟨S_, .i32⟩
  | 88 => ⟨S_, .i32⟩
  | 89 => ⟨S_, .i32⟩
  | 90 => ⟨S4x1, .i32⟩
  | 91 => ⟨S4x1, .i32⟩
  | 92 => ⟨S4x1, .i32⟩
  | 93 => ⟨S4x1, .i32⟩
  | 94 => ⟨S4x1, .i32⟩
  | 95 => ⟨S_, .i32⟩
  | 96 => ⟨S4x1, .i32⟩
  | 97 => ⟨S4x1, .i32⟩
  | 98 => ⟨S_, .i32⟩
  | 99 => ⟨S4x1, .i32⟩
  | 100 => ⟨S4x1, .i32⟩
  | 101 => ⟨S4x1, .i32⟩
  | 102 => ⟨S4x1, .i32⟩
  | 103 => ⟨S4x1, .i32⟩
  | 104 => ⟨S_, .i32⟩
  | 105 => ⟨S4x1, .i32⟩
  | 106 => ⟨S4x1, .i32⟩
  | 107 => ⟨S_, .i32⟩
  | 108 => ⟨S4x1, .i32⟩
  | 109 => ⟨S4x1, .i32⟩
  | 110 => ⟨S4x1, .i32⟩
  | 111 => ⟨S4x1, .i32⟩
  | 112 => ⟨S4x1, .i32⟩
  | 113 => ⟨S_, .i32⟩
  | 114 => ⟨S4x1, .i32⟩
  | 115 => ⟨S4x1, .i32⟩
  | 116 => ⟨S_, .i32⟩
  | 117 => ⟨S4x1, .i32⟩
  | 118 => ⟨S4x1, .i32⟩
  | 119 => ⟨S4x1, .i32⟩
  | 120 => ⟨S4x1, .i32⟩
  | 121 => ⟨S4x1, .i32⟩
  | 122 => ⟨S_, .i32⟩
  | 123 => ⟨S4x1, .i32⟩
  | 124 => ⟨S4x1, .i32⟩
  | 125 => ⟨S_, .i32⟩
  | 126 => ⟨S4x1, .i32⟩
  | 127 => ⟨S4x1, .i32⟩
  | _ => ⟨S1024x128, .f32⟩

abbrev hbmTy0_1 (i : Nat) : BufTy := match i % 128 with
  | 0 => ⟨S4x1, .i32⟩
  | 1 => ⟨S4x1, .i32⟩
  | 2 => ⟨S4x1, .i32⟩
  | 3 => ⟨S4x1, .i32⟩
  | 4 => ⟨S4x1, .i32⟩
  | 5 => ⟨S4x1, .i32⟩
  | 6 => ⟨S_, .i32⟩
  | 7 => ⟨S4x1, .i32⟩
  | 8 => ⟨S4x1, .i32⟩
  | 9 => ⟨S4x1, .i32⟩
  | 10 => ⟨S_, .i32⟩
  | 11 => ⟨S4x1, .i32⟩
  | 12 => ⟨S4x1, .i32⟩
  | 13 => ⟨S_, .i32⟩
  | 14 => ⟨S4x1, .i32⟩
  | 15 => ⟨S4x1, .i32⟩
  | 16 => ⟨S4x1, .i32⟩
  | 17 => ⟨S4x1, .i32⟩
  | 18 => ⟨S4x1, .i32⟩
  | 19 => ⟨S_, .i32⟩
  | 20 => ⟨S4x1, .i32⟩
  | 21 => ⟨S4x1, .i32⟩
  | 22 => ⟨S_, .i32⟩
  | 23 => ⟨S4x1, .i32⟩
  | 24 => ⟨S4x1, .i32⟩
  | 25 => ⟨S4x1, .i32⟩
  | 26 => ⟨S4x1, .i32⟩
  | 27 => ⟨S4x1, .i32⟩
  | 28 => ⟨S_, .i32⟩
  | 29 => ⟨S4x1, .i32⟩
  | 30 => ⟨S4x1, .i32⟩
  | 31 => ⟨S_, .i32⟩
  | 32 => ⟨S4x1, .i32⟩
  | 33 => ⟨S4x1, .i32⟩
  | 34 => ⟨S4x1, .i32⟩
  | 35 => ⟨S4x1, .i32⟩
  | 36 => ⟨S4x1, .i32⟩
  | 37 => ⟨S_, .i32⟩
  | 38 => ⟨S4x1, .i32⟩
  | 39 => ⟨S4x1, .i32⟩
  | 40 => ⟨S_, .i32⟩
  | 41 => ⟨S4x1, .i32⟩
  | 42 => ⟨S4x1, .i32⟩
  | 43 => ⟨S4x1, .i32⟩
  | 44 => ⟨S4x1, .i32⟩
  | 45 => ⟨S4x1, .i32⟩
  | 46 => ⟨S4x1, .i32⟩
  | 47 => ⟨S4x1, .i32⟩
  | 48 => ⟨S4x1, .i32⟩
  | 49 => ⟨S_, .i32⟩
  | 50 => ⟨S4x1, .i32⟩
  | 51 => ⟨S4x1, .i32⟩
  | 52 => ⟨S4x1, .i32⟩
  | 53 => ⟨S_, .i32⟩
  | 54 => ⟨S4x1, .i32⟩
  | 55 => ⟨S4x1, .i32⟩
  | 56 => ⟨S_, .i32⟩
  | 57 => ⟨S4x1, .i32⟩
  | 58 => ⟨S4x1, .i32⟩
  | 59 => ⟨S4x1, .i32⟩
  | 60 => ⟨S4x1, .i32⟩
  | 61 => ⟨S4x1, .i32⟩
  | 62 => ⟨S_, .i32⟩
  | 63 => ⟨S4x1, .i32⟩
  | 64 => ⟨S4x1, .i32⟩
  | 65 => ⟨S_, .i32⟩
  | 66 => ⟨S4x1, .i32⟩
  | 67 => ⟨S4x1, .i32⟩
  | 68 => ⟨S4x1, .i32⟩
  | 69 => ⟨S4x1, .i32⟩
  | 70 => ⟨S4x1, .i32⟩
  | 71 => ⟨S_, .i32⟩
  | 72 => ⟨S4x1, .i32⟩
  | 73 => ⟨S4x1, .i32⟩
  | 74 => ⟨S_, .i32⟩
  | 75 => ⟨S4x1, .i32⟩
  | 76 => ⟨S4x1, .i32⟩
  | 77 => ⟨S4x1, .i32⟩
  | 78 => ⟨S4x1, .i32⟩
  | 79 => ⟨S4x1, .i32⟩
  | 80 => ⟨S_, .i32⟩
  | 81 => ⟨S4x1, .i32⟩
  | 82 => ⟨S4x1, .i32⟩
  | 83 => ⟨S_, .i32⟩
  | 84 => ⟨S4x1, .i32⟩
  | 85 => ⟨S4x1, .i32⟩
  | 86 => ⟨S4x1, .i32⟩
  | 87 => ⟨S4x1, .i32⟩
  | 88 => ⟨S4x1, .i32⟩
  | 89 => ⟨S4x1, .i32⟩
  | 90 => ⟨S4x1, .i32⟩
  | 91 => ⟨S4x1, .i32⟩
  | 92 => ⟨S_, .i32⟩
  | 93 => ⟨S4x1, .i32⟩
  | 94 => ⟨S4x1, .i32⟩
  | 95 => ⟨S4x1, .i32⟩
  | 96 => ⟨S_, .i32⟩
  | 97 => ⟨S4x1, .i32⟩
  | 98 => ⟨S4x1, .i32⟩
  | 99 => ⟨S_, .i32⟩
  | 100 => ⟨S4x1, .i32⟩
  | 101 => ⟨S4x1, .i32⟩
  | 102 => ⟨S4x1, .i32⟩
  | 103 => ⟨S4x1, .i32⟩
  | 104 => ⟨S4x1, .i32⟩
  | 105 => ⟨S_, .i32⟩
  | 106 => ⟨S4x1, .i32⟩
  | 107 => ⟨S4x1, .i32⟩
  | 108 => ⟨S_, .i32⟩
  | 109 => ⟨S4x1, .i32⟩
  | 110 => ⟨S4x1, .i32⟩
  | 111 => ⟨S4x1, .i32⟩
  | 112 => ⟨S4x1, .i32⟩
  | 113 => ⟨S4x1, .i32⟩
  | 114 => ⟨S_, .i32⟩
  | 115 => ⟨S4x1, .i32⟩
  | 116 => ⟨S4x1, .i32⟩
  | 117 => ⟨S_, .i32⟩
  | 118 => ⟨S4x1, .i32⟩
  | 119 => ⟨S4x1, .i32⟩
  | 120 => ⟨S4x1, .i32⟩
  | 121 => ⟨S4x1, .i32⟩
  | 122 => ⟨S4x1, .i32⟩
  | 123 => ⟨S_, .i32⟩
  | 124 => ⟨S4x1, .i32⟩
  | 125 => ⟨S4x1, .i32⟩
  | 126 => ⟨S_, .i32⟩
  | 127 => ⟨S4x1, .i32⟩
  | _ => ⟨S1024x128, .f32⟩

abbrev hbmTy0_2 (i : Nat) : BufTy := match i % 128 with
  | 0 => ⟨S4x1, .i32⟩
  | 1 => ⟨S4x1, .i32⟩
  | 2 => ⟨S4x1, .i32⟩
  | 3 => ⟨S4x1, .i32⟩
  | 4 => ⟨S4x1, .i32⟩
  | 5 => ⟨S4x1, .i32⟩
  | 6 => ⟨S4x1, .i32⟩
  | 7 => ⟨S_, .i32⟩
  | 8 => ⟨S4x1, .i32⟩
  | 9 => ⟨S4x1, .i32⟩
  | 10 => ⟨S4x1, .i32⟩
  | 11 => ⟨S_, .i32⟩
  | 12 => ⟨S4x1, .i32⟩
  | 13 => ⟨S4x1, .i32⟩
  | 14 => ⟨S_, .i32⟩
  | 15 => ⟨S4x1, .i32⟩
  | 16 => ⟨S4x1, .i32⟩
  | 17 => ⟨S4x1, .i32⟩
  | 18 => ⟨S4x1, .i32⟩
  | 19 => ⟨S4x1, .i32⟩
  | 20 => ⟨S_, .i32⟩
  | 21 => ⟨S4x1, .i32⟩
  | 22 => ⟨S4x1, .i32⟩
  | 23 => ⟨S_, .i32⟩
  | 24 => ⟨S4x1, .i32⟩
  | 25 => ⟨S4x1, .i32⟩
  | 26 => ⟨S4x1, .i32⟩
  | 27 => ⟨S4x1, .i32⟩
  | 28 => ⟨S4x1, .i32⟩
  | 29 => ⟨S_, .i32⟩
  | 30 => ⟨S4x1, .i32⟩
  | 31 => ⟨S4x1, .i32⟩
  | 32 => ⟨S_, .i32⟩
  | 33 => ⟨S4x1, .i32⟩
  | 34 => ⟨S4x1, .i32⟩
  | 35 => ⟨S4x1, .i32⟩
  | 36 => ⟨S4x1, .i32⟩
  | 37 => ⟨S4x1, .i32⟩
  | 38 => ⟨S_, .i32⟩
  | 39 => ⟨S4x1, .i32⟩
  | 40 => ⟨S4x1, .i32⟩
  | 41 => ⟨S_, .i32⟩
  | 42 => ⟨S4x1, .i32⟩
  | 43 => ⟨S4x1, .i32⟩
  | 44 => ⟨S4x1, .i32⟩
  | 45 => ⟨S4x1, .i32⟩
  | 46 => ⟨S4x1, .i32⟩
  | 47 => ⟨S4x1, .i32⟩
  | 48 => ⟨S4x1, .i32⟩
  | 49 => ⟨S4x1, .i32⟩
  | 50 => ⟨S_, .i32⟩
  | 51 => ⟨S4x1, .i32⟩
  | 52 => ⟨S4x1, .i32⟩
  | 53 => ⟨S4x2, .i32⟩
  | 54 => ⟨S4x1, .i32⟩
  | 55 => ⟨S4, .i32⟩
  | 56 => ⟨S4x1, .i32⟩
  | 57 => ⟨S4, .i32⟩
  | 58 => ⟨S2, .i64⟩
  | 59 => ⟨S_, .i64⟩
  | 60 => ⟨S2, .i64⟩
  | 61 => ⟨S2, .i64⟩
  | 62 => ⟨S_, .i64⟩
  | 63 => ⟨S2, .i64⟩
  | 64 => ⟨S2, .i64⟩
  | 65 => ⟨S2, .i32⟩
  | 66 => ⟨S2, .i32⟩
  | 67 => ⟨S1x2, .i32⟩
  | 68 => ⟨S1x2, .i32⟩
  | 69 => ⟨S4x1, .i32⟩
  | 70 => ⟨S4x1, .i32⟩
  | 71 => ⟨S4x1, .i32⟩
  | 72 => ⟨S_, .i32⟩
  | 73 => ⟨S4x1, .i32⟩
  | 74 => ⟨S4x1, .i32⟩
  | 75 => ⟨S4x2, .i32⟩
  | 76 => ⟨S4x2, .i32⟩
  | 77 => ⟨S4x2, .i32⟩
  | 78 => ⟨S4x2, .i32⟩
  | 79 => ⟨S4x2, .i32⟩
  | 80 => ⟨S4x2, .i32⟩
  | 81 => ⟨S4x2, .i32⟩
  | 82 => ⟨S_, .i32⟩
  | 83 => ⟨S4x2, .i32⟩
  | 84 => ⟨S4x2, .i32⟩
  | 85 => ⟨S_, .i32⟩
  | 86 => ⟨S4x2, .i32⟩
  | 87 => ⟨S4x2, .i32⟩
  | 88 => ⟨S4x2, .i32⟩
  | 89 => ⟨S4x2, .i32⟩
  | 90 => ⟨S4x2, .i32⟩
  | 91 => ⟨S_, .i32⟩
  | 92 => ⟨S4x2, .i32⟩
  | 93 => ⟨S4x2, .i32⟩
  | 94 => ⟨S_, .i32⟩
  | 95 => ⟨S4x2, .i32⟩
  | 96 => ⟨S4x2, .i32⟩
  | 97 => ⟨S4x2, .i32⟩
  | 98 => ⟨S4x2, .i32⟩
  | 99 => ⟨S4x2, .i32⟩
  | 100 => ⟨S_, .i32⟩
  | 101 => ⟨S4x2, .i32⟩
  | 102 => ⟨S4x2, .i32⟩
  | 103 => ⟨S_, .i32⟩
  | 104 => ⟨S4x2, .i32⟩
  | 105 => ⟨S4x2, .i32⟩
  | 106 => ⟨S4x2, .i32⟩
  | 107 => ⟨S4x2, .i32⟩
  | 108 => ⟨S4x2, .i32⟩
  | 109 => ⟨S_, .i32⟩
  | 110 => ⟨S4x2, .i32⟩
  | 111 => ⟨S4x2, .i32⟩
  | 112 => ⟨S_, .i32⟩
  | 113 => ⟨S4x2, .i32⟩
  | 114 => ⟨S4x2, .i32⟩
  | 115 => ⟨S4x2, .i32⟩
  | 116 => ⟨S4x2, .i32⟩
  | 117 => ⟨S4x2, .i32⟩
  | 118 => ⟨S4x2, .i32⟩
  | 119 => ⟨S4x2, .i32⟩
  | 120 => ⟨S4x2, .i32⟩
  | 121 => ⟨S_, .i32⟩
  | 122 => ⟨S4x2, .i32⟩
  | 123 => ⟨S4x2, .i32⟩
  | 124 => ⟨S4x2, .i32⟩
  | 125 => ⟨S_, .i32⟩
  | 126 => ⟨S4x2, .i32⟩
  | 127 => ⟨S4x2, .i32⟩
  | _ => ⟨S1024x128, .f32⟩

abbrev hbmTy0_3 (i : Nat) : BufTy := match i % 128 with
  | 0 => ⟨S_, .i32⟩
  | 1 => ⟨S4x2, .i32⟩
  | 2 => ⟨S4x2, .i32⟩
  | 3 => ⟨S4x2, .i32⟩
  | 4 => ⟨S4x2, .i32⟩
  | 5 => ⟨S4x2, .i32⟩
  | 6 => ⟨S_, .i32⟩
  | 7 => ⟨S4x2, .i32⟩
  | 8 => ⟨S4x2, .i32⟩
  | 9 => ⟨S_, .i32⟩
  | 10 => ⟨S4x2, .i32⟩
  | 11 => ⟨S4x2, .i32⟩
  | 12 => ⟨S4x2, .i32⟩
  | 13 => ⟨S4x2, .i32⟩
  | 14 => ⟨S4x2, .i32⟩
  | 15 => ⟨S_, .i32⟩
  | 16 => ⟨S4x2, .i32⟩
  | 17 => ⟨S4x2, .i32⟩
  | 18 => ⟨S_, .i32⟩
  | 19 => ⟨S4x2, .i32⟩
  | 20 => ⟨S4x2, .i32⟩
  | 21 => ⟨S4x2, .i32⟩
  | 22 => ⟨S4x2, .i32⟩
  | 23 => ⟨S4x2, .i32⟩
  | 24 => ⟨S_, .i32⟩
  | 25 => ⟨S4x2, .i32⟩
  | 26 => ⟨S4x2, .i32⟩
  | 27 => ⟨S_, .i32⟩
  | 28 => ⟨S4x2, .i32⟩
  | 29 => ⟨S4x2, .i32⟩
  | 30 => ⟨S4x2, .i32⟩
  | 31 => ⟨S4x2, .i32⟩
  | 32 => ⟨S4x2, .i32⟩
  | 33 => ⟨S4x2, .i32⟩
  | 34 => ⟨S4x2, .i32⟩
  | 35 => ⟨S4x2, .i32⟩
  | 36 => ⟨S_, .i32⟩
  | 37 => ⟨S4x2, .i32⟩
  | 38 => ⟨S4x2, .i32⟩
  | 39 => ⟨S4x2, .i32⟩
  | 40 => ⟨S_, .i32⟩
  | 41 => ⟨S4x2, .i32⟩
  | 42 => ⟨S4x2, .i32⟩
  | 43 => ⟨S_, .i32⟩
  | 44 => ⟨S4x2, .i32⟩
  | 45 => ⟨S4x2, .i32⟩
  | 46 => ⟨S4x2, .i32⟩
  | 47 => ⟨S4x2, .i32⟩
  | 48 => ⟨S4x2, .i32⟩
  | 49 => ⟨S_, .i32⟩
  | 50 => ⟨S4x2, .i32⟩
  | 51 => ⟨S4x2, .i32⟩
  | 52 => ⟨S_, .i32⟩
  | 53 => ⟨S4x2, .i32⟩
  | 54 => ⟨S4x2, .i32⟩
  | 55 => ⟨S4x2, .i32⟩
  | 56 => ⟨S4x2, .i32⟩
  | 57 => ⟨S4x2, .i32⟩
  | 58 => ⟨S_, .i32⟩
  | 59 => ⟨S4x2, .i32⟩
  | 60 => ⟨S4x2, .i32⟩
  | 61 => ⟨S_, .i32⟩
  | 62 => ⟨S4x2, .i32⟩
  | 63 => ⟨S4x2, .i32⟩
  | 64 => ⟨S4x2, .i32⟩
  | 65 => ⟨S4x2, .i32⟩
  | 66 => ⟨S4x2, .i32⟩
  | 67 => ⟨S_, .i32⟩
  | 68 => ⟨S4x2, .i32⟩
  | 69 => ⟨S4x2, .i32⟩
  | 70 => ⟨S_, .i32⟩
  | 71 => ⟨S4x2, .i32⟩
  | 72 => ⟨S4x2, .i32⟩
  | 73 => ⟨S4x2, .i32⟩
  | 74 => ⟨S4x2, .i32⟩
  | 75 => ⟨S4x2, .i32⟩
  | 76 => ⟨S4x2, .i32⟩
  | 77 => ⟨S4x2, .i32⟩
  | 78 => ⟨S4x2, .i32⟩
  | 79 => ⟨S_, .i32⟩
  | 80 => ⟨S4x2, .i32⟩
  | 81 => ⟨S4x2, .i32⟩
  | 82 => ⟨S4x2, .i32⟩
  | 83 => ⟨S_, .i32⟩
  | 84 => ⟨S4x2, .i32⟩
  | 85 => ⟨S4x2, .i32⟩
  | 86 => ⟨S_, .i32⟩
  | 87 => ⟨S4x2, .i32⟩
  | 88 => ⟨S4x2, .i32⟩
  | 89 => ⟨S4x2, .i32⟩
  | 90 => ⟨S4x2, .i32⟩
  | 91 => ⟨S4x2, .i32⟩
  | 92 => ⟨S_, .i32⟩
  | 93 => ⟨S4x2, .i32⟩
  | 94 => ⟨S4x2, .i32⟩
  | 95 => ⟨S_, .i32⟩
  | 96 => ⟨S4x2, .i32⟩
  | 97 => ⟨S4x2, .i32⟩
  | 98 => ⟨S4x2, .i32⟩
  | 99 => ⟨S4x2, .i32⟩
  | 100 => ⟨S4x2, .i32⟩
  | 101 => ⟨S_, .i32⟩
  | 102 => ⟨S4x2, .i32⟩
  | 103 => ⟨S4x2, .i32⟩
  | 104 => ⟨S_, .i32⟩
  | 105 => ⟨S4x2, .i32⟩
  | 106 => ⟨S4x2, .i32⟩
  | 107 => ⟨S4x2, .i32⟩
  | 108 => ⟨S4x2, .i32⟩
  | 109 => ⟨S4x2, .i32⟩
  | 110 => ⟨S_, .i32⟩
  | 111 => ⟨S4x2, .i32⟩
  | 112 => ⟨S4x2, .i32⟩
  | 113 => ⟨S_, .i32⟩
  | 114 => ⟨S4x2, .i32⟩
  | 115 => ⟨S4x2, .i32⟩
  | 116 => ⟨S4x2, .i32⟩
  | 117 => ⟨S4x2, .i32⟩
  | 118 => ⟨S4x2, .i32⟩
  | 119 => ⟨S4x2, .i32⟩
  | 120 => ⟨S4x2, .i32⟩
  | 121 => ⟨S4x2, .i32⟩
  | 122 => ⟨S_, .i32⟩
  | 123 => ⟨S4x2, .i32⟩
  | 124 => ⟨S4x2, .i32⟩
  | 125 => ⟨S4x2, .i32⟩
  | 126 => ⟨S_, .i32⟩
  | 127 => ⟨S4x2, .i32⟩
  | _ => ⟨S1024x128, .f32⟩

abbrev hbmTy0_4 (i : Nat) : BufTy := match i % 128 with
  | 0 => ⟨S4x2, .i32⟩
  | 1 => ⟨S_, .i32⟩
  | 2 => ⟨S4x2, .i32⟩
  | 3 => ⟨S4x2, .i32⟩
  | 4 => ⟨S4x2, .i32⟩
  | 5 => ⟨S4x2, .i32⟩
  | 6 => ⟨S4x2, .i32⟩
  | 7 => ⟨S_, .i32⟩
  | 8 => ⟨S4x2, .i32⟩
  | 9 => ⟨S4x2, .i32⟩
  | 10 => ⟨S_, .i32⟩
  | 11 => ⟨S4x2, .i32⟩
  | 12 => ⟨S4x2, .i32⟩
  | 13 => ⟨S4x2, .i32⟩
  | 14 => ⟨S4x2, .i32⟩
  | 15 => ⟨S4x2, .i32⟩
  | 16 => ⟨S_, .i32⟩
  | 17 => ⟨S4x2, .i32⟩
  | 18 => ⟨S4x2, .i32⟩
  | 19 => ⟨S_, .i32⟩
  | 20 => ⟨S4x2, .i32⟩
  | 21 => ⟨S4x2, .i32⟩
  | 22 => ⟨S4x2, .i32⟩
  | 23 => ⟨S4x2, .i32⟩
  | 24 => ⟨S4x2, .i32⟩
  | 25 => ⟨S_, .i32⟩
  | 26 => ⟨S4x2, .i32⟩
  | 27 => ⟨S4x2, .i32⟩
  | 28 => ⟨S_, .i32⟩
  | 29 => ⟨S4x2, .i32⟩
  | 30 => ⟨S4x2, .i32⟩
  | 31 => ⟨S4x2, .i32⟩
  | 32 => ⟨S4x2, .i32⟩
  | 33 => ⟨S4x2, .i32⟩
  | 34 => ⟨S4x2, .i32⟩
  | 35 => ⟨S4x2, .i32⟩
  | 36 => ⟨S4x2, .i32⟩
  | 37 => ⟨S_, .i32⟩
  | 38 => ⟨S4x2, .i32⟩
  | 39 => ⟨S4x2, .i32⟩
  | 40 => ⟨S4x2x1, .i32⟩
  | 41 => ⟨S4x2x1, .i32⟩
  | 42 => ⟨S4x2x2, .i32⟩
  | 43 => ⟨S4x2x1, .i32⟩
  | 44 => ⟨S4x2, .i32⟩
  | 45 => ⟨S4x2x1, .i32⟩
  | 46 => ⟨S4x2, .i32⟩
  | 47 => ⟨S1024x128, .i64⟩
  | 48 => ⟨S1024x128, .i64⟩
  | 49 => ⟨S_, .i64⟩
  | 50 => ⟨S1024x128, .i64⟩
  | 51 => ⟨S1024x128, .i64⟩
  | 52 => ⟨S_, .i64⟩
  | 53 => ⟨S1024x128, .i64⟩
  | 54 => ⟨S1024x128, .i64⟩
  | 55 => ⟨S1024x128, .i64⟩
  | 56 => ⟨S_, .i64⟩
  | 57 => ⟨S1024x128, .i64⟩
  | 58 => ⟨S1024x128, .i64⟩
  | 59 => ⟨S1024x128, .i32⟩
  | 60 => ⟨S1024x128, .i32⟩
  | 61 => ⟨S1x1024x128, .i32⟩
  | 62 => ⟨S1x1024x128, .i32⟩
  | 63 => ⟨S4x2x1x1, .i32⟩
  | 64 => ⟨S4x2x1x1, .i32⟩
  | 65 => ⟨S1x1x1024x128, .i32⟩
  | 66 => ⟨S1x1x1024x128, .i32⟩
  | 67 => ⟨S4x2x1x1, .i32⟩
  | 68 => ⟨S_, .i32⟩
  | 69 => ⟨S4x2x1x1, .i32⟩
  | 70 => ⟨S4x2x1x1, .i32⟩
  | 71 => ⟨S4x2x1024x128, .i32⟩
  | 72 => ⟨S4x2x1024x128, .i32⟩
  | 73 => ⟨S4x2x1024x128, .i32⟩
  | 74 => ⟨S4x2x1024x128, .i32⟩
  | 75 => ⟨S4x2x1024x128, .i32⟩
  | 76 => ⟨S4x2x1024x128, .i32⟩
  | 77 => ⟨S4x2x1024x128, .i32⟩
  | 78 => ⟨S_, .i32⟩
  | 79 => ⟨S4x2x1024x128, .i32⟩
  | 80 => ⟨S4x2x1024x128, .i32⟩
  | 81 => ⟨S_, .i32⟩
  | 82 => ⟨S4x2x1024x128, .i32⟩
  | 83 => ⟨S4x2x1024x128, .i32⟩
  | 84 => ⟨S4x2x1024x128, .i32⟩
  | 85 => ⟨S4x2x1024x128, .i32⟩
  | 86 => ⟨S4x2x1024x128, .i32⟩
  | 87 => ⟨S_, .i32⟩
  | 88 => ⟨S4x2x1024x128, .i32⟩
  | 89 => ⟨S4x2x1024x128, .i32⟩
  | 90 => ⟨S_, .i32⟩
  | 91 => ⟨S4x2x1024x128, .i32⟩
  | 92 => ⟨S4x2x1024x128, .i32⟩
  | 93 => ⟨S4x2x1024x128, .i32⟩
  | 94 => ⟨S4x2x1024x128, .i32⟩
  | 95 => ⟨S4x2x1024x128, .i32⟩
  | 96 => ⟨S_, .i32⟩
  | 97 => ⟨S4x2x1024x128, .i32⟩
  | 98 => ⟨S4x2x1024x128, .i32⟩
  | 99 => ⟨S_, .i32⟩
  | 100 => ⟨S4x2x1024x128, .i32⟩
  | 101 => ⟨S4x2x1024x128, .i32⟩
  | 102 => ⟨S4x2x1024x128, .i32⟩
  | 103 => ⟨S4x2x1024x128, .i32⟩
  | 104 => ⟨S4x2x1024x128, .i32⟩
  | 105 => ⟨S_, .i32⟩
  | 106 => ⟨S4x2x1024x128, .i32⟩
  | 107 => ⟨S4x2x1024x128, .i32⟩
  | 108 => ⟨S_, .i32⟩
  | 109 => ⟨S4x2x1024x128, .i32⟩
  | 110 => ⟨S4x2x1024x128, .i32⟩
  | 111 => ⟨S4x2x1024x128, .i32⟩
  | 112 => ⟨S4x2x1024x128, .i32⟩
  | 113 => ⟨S4x2x1024x128, .i32⟩
  | 114 => ⟨S4x2x1024x128, .i32⟩
  | 115 => ⟨S4x2x1024x128, .i32⟩
  | 116 => ⟨S4x2x1024x128, .i32⟩
  | 117 => ⟨S_, .i32⟩
  | 118 => ⟨S4x2x1024x128, .i32⟩
  | 119 => ⟨S4x2x1024x128, .i32⟩
  | 120 => ⟨S4x2x1024x128, .i32⟩
  | 121 => ⟨S_, .i32⟩
  | 122 => ⟨S4x2x1024x128, .i32⟩
  | 123 => ⟨S4x2x1024x128, .i32⟩
  | 124 => ⟨S_, .i32⟩
  | 125 => ⟨S4x2x1024x128, .i32⟩
  | 126 => ⟨S4x2x1024x128, .i32⟩
  | 127 => ⟨S4x2x1024x128, .i32⟩
  | _ => ⟨S1024x128, .f32⟩

abbrev hbmTy0_5 (i : Nat) : BufTy := match i % 128 with
  | 0 => ⟨S4x2x1024x128, .i32⟩
  | 1 => ⟨S4x2x1024x128, .i32⟩
  | 2 => ⟨S_, .i32⟩
  | 3 => ⟨S4x2x1024x128, .i32⟩
  | 4 => ⟨S4x2x1024x128, .i32⟩
  | 5 => ⟨S_, .i32⟩
  | 6 => ⟨S4x2x1024x128, .i32⟩
  | 7 => ⟨S4x2x1024x128, .i32⟩
  | 8 => ⟨S4x2x1024x128, .i32⟩
  | 9 => ⟨S4x2x1024x128, .i32⟩
  | 10 => ⟨S4x2x1024x128, .i32⟩
  | 11 => ⟨S_, .i32⟩
  | 12 => ⟨S4x2x1024x128, .i32⟩
  | 13 => ⟨S4x2x1024x128, .i32⟩
  | 14 => ⟨S_, .i32⟩
  | 15 => ⟨S4x2x1024x128, .i32⟩
  | 16 => ⟨S4x2x1024x128, .i32⟩
  | 17 => ⟨S4x2x1024x128, .i32⟩
  | 18 => ⟨S4x2x1024x128, .i32⟩
  | 19 => ⟨S4x2x1024x128, .i32⟩
  | 20 => ⟨S_, .i32⟩
  | 21 => ⟨S4x2x1024x128, .i32⟩
  | 22 => ⟨S4x2x1024x128, .i32⟩
  | 23 => ⟨S_, .i32⟩
  | 24 => ⟨S4x2x1024x128, .i32⟩
  | 25 => ⟨S4x2x1024x128, .i32⟩
  | 26 => ⟨S4x2x1024x128, .i32⟩
  | 27 => ⟨S4x2x1024x128, .i32⟩
  | 28 => ⟨S4x2x1024x128, .i32⟩
  | 29 => ⟨S4x2x1024x128, .i32⟩
  | 30 => ⟨S4x2x1024x128, .i32⟩
  | 31 => ⟨S4x2x1024x128, .i32⟩
  | 32 => ⟨S_, .i32⟩
  | 33 => ⟨S4x2x1024x128, .i32⟩
  | 34 => ⟨S4x2x1024x128, .i32⟩
  | 35 => ⟨S4x2x1024x128, .i32⟩
  | 36 => ⟨S_, .i32⟩
  | 37 => ⟨S4x2x1024x128, .i32⟩
  | 38 => ⟨S4x2x1024x128, .i32⟩
  | 39 => ⟨S_, .i32⟩
  | 40 => ⟨S4x2x1024x128, .i32⟩
  | 41 => ⟨S4x2x1024x128, .i32⟩
  | 42 => ⟨S4x2x1024x128, .i32⟩
  | 43 => ⟨S4x2x1024x128, .i32⟩
  | 44 => ⟨S4x2x1024x128, .i32⟩
  | 45 => ⟨S_, .i32⟩
  | 46 => ⟨S4x2x1024x128, .i32⟩
  | 47 => ⟨S4x2x1024x128, .i32⟩
  | 48 => ⟨S_, .i32⟩
  | 49 => ⟨S4x2x1024x128, .i32⟩
  | 50 => ⟨S4x2x1024x128, .i32⟩
  | 51 => ⟨S4x2x1024x128, .i32⟩
  | 52 => ⟨S4x2x1024x128, .i32⟩
  | 53 => ⟨S4x2x1024x128, .i32⟩
  | 54 => ⟨S_, .i32⟩
  | 55 => ⟨S4x2x1024x128, .i32⟩
  | 56 => ⟨S4x2x1024x128, .i32⟩
  | 57 => ⟨S_, .i32⟩
  | 58 => ⟨S4x2x1024x128, .i32⟩
  | 59 => ⟨S4x2x1024x128, .i32⟩
  | 60 => ⟨S4x2x1024x128, .i32⟩
  | 61 => ⟨S4x2x1024x128, .i32⟩
  | 62 => ⟨S4x2x1024x128, .i32⟩
  | 63 => ⟨S_, .i32⟩
  | 64 => ⟨S4x2x1024x128, .i32⟩
  | 65 => ⟨S4x2x1024x128, .i32⟩
  | 66 => ⟨S_, .i32⟩
  | 67 => ⟨S4x2x1024x128, .i32⟩
  | 68 => ⟨S4x2x1024x128, .i32⟩
  | 69 => ⟨S4x2x1024x128, .i32⟩
  | 70 => ⟨S4x2x1024x128, .i32⟩
  | 71 => ⟨S4x2x1024x128, .i32⟩
  | 72 => ⟨S4x2x1024x128, .i32⟩
  | 73 => ⟨S4x2x1024x128, .i32⟩
  | 74 => ⟨S4x2x1024x128, .i32⟩
  | 75 => ⟨S_, .i32⟩
  | 76 => ⟨S4x2x1024x128, .i32⟩
  | 77 => ⟨S4x2x1024x128, .i32⟩
  | 78 => ⟨S4x2x1024x128, .i32⟩
  | 79 => ⟨S_, .i32⟩
  | 80 => ⟨S4x2x1024x128, .i32⟩
  | 81 => ⟨S4x2x1024x128, .i32⟩
  | 82 => ⟨S_, .i32⟩
  | 83 => ⟨S4x2x1024x128, .i32⟩
  | 84 => ⟨S4x2x1024x128, .i32⟩
  | 85 => ⟨S4x2x1024x128, .i32⟩
  | 86 => ⟨S4x2x1024x128, .i32⟩
  | 87 => ⟨S4x2x1024x128, .i32⟩
  | 88 => ⟨S_, .i32⟩
  | 89 => ⟨S4x2x1024x128, .i32⟩
  | 90 => ⟨S4x2x1024x128, .i32⟩
  | 91 => ⟨S_, .i32⟩
  | 92 => ⟨S4x2x1024x128, .i32⟩
  | 93 => ⟨S4x2x1024x128, .i32⟩
  | 94 => ⟨S4x2x1024x128, .i32⟩
  | 95 => ⟨S4x2x1024x128, .i32⟩
  | 96 => ⟨S4x2x1024x128, .i32⟩
  | 97 => ⟨S_, .i32⟩
  | 98 => ⟨S4x2x1024x128, .i32⟩
  | 99 => ⟨S4x2x1024x128, .i32⟩
  | 100 => ⟨S_, .i32⟩
  | 101 => ⟨S4x2x1024x128, .i32⟩
  | 102 => ⟨S4x2x1024x128, .i32⟩
  | 103 => ⟨S4x2x1024x128, .i32⟩
  | 104 => ⟨S4x2x1024x128, .i32⟩
  | 105 => ⟨S4x2x1024x128, .i32⟩
  | 106 => ⟨S_, .i32⟩
  | 107 => ⟨S4x2x1024x128, .i32⟩
  | 108 => ⟨S4x2x1024x128, .i32⟩
  | 109 => ⟨S_, .i32⟩
  | 110 => ⟨S4x2x1024x128, .i32⟩
  | 111 => ⟨S4x2x1024x128, .i32⟩
  | 112 => ⟨S4x2x1024x128, .i32⟩
  | 113 => ⟨S4x2x1024x128, .i32⟩
  | 114 => ⟨S4x2x1024x128, .i32⟩
  | 115 => ⟨S4x2x1024x128, .i32⟩
  | 116 => ⟨S4x2x1024x128, .i32⟩
  | 117 => ⟨S4x2x1024x128, .i32⟩
  | 118 => ⟨S_, .i32⟩
  | 119 => ⟨S4x2x1024x128, .i32⟩
  | 120 => ⟨S4x2x1024x128, .i32⟩
  | 121 => ⟨S4x2x1024x128, .i32⟩
  | 122 => ⟨S_, .i32⟩
  | 123 => ⟨S4x2x1024x128, .i32⟩
  | 124 => ⟨S4x2x1024x128, .i32⟩
  | 125 => ⟨S_, .i32⟩
  | 126 => ⟨S4x2x1024x128, .i32⟩
  | 127 => ⟨S4x2x1024x128, .i32⟩
  | _ => ⟨S1024x128, .f32⟩

abbrev hbmTy0_6 (i : Nat) : BufTy := match i % 128 with
  | 0 => ⟨S4x2x1024x128, .i32⟩
  | 1 => ⟨S4x2x1024x128, .i32⟩
  | 2 => ⟨S4x2x1024x128, .i32⟩
  | 3 => ⟨S_, .i32⟩
  | 4 => ⟨S4x2x1024x128, .i32⟩
  | 5 => ⟨S4x2x1024x128, .i32⟩
  | 6 => ⟨S_, .i32⟩
  | 7 => ⟨S4x2x1024x128, .i32⟩
  | 8 => ⟨S4x2x1024x128, .i32⟩
  | 9 => ⟨S4x2x1024x128, .i32⟩
  | 10 => ⟨S4x2x1024x128, .i32⟩
  | 11 => ⟨S4x2x1024x128, .i32⟩
  | 12 => ⟨S_, .i32⟩
  | 13 => ⟨S4x2x1024x128, .i32⟩
  | 14 => ⟨S4x2x1024x128, .i32⟩
  | 15 => ⟨S_, .i32⟩
  | 16 => ⟨S4x2x1024x128, .i32⟩
  | 17 => ⟨S4x2x1024x128, .i32⟩
  | 18 => ⟨S4x2x1024x128, .i32⟩
  | 19 => ⟨S4x2x1024x128, .i32⟩
  | 20 => ⟨S4x2x1024x128, .i32⟩
  | 21 => ⟨S_, .i32⟩
  | 22 => ⟨S4x2x1024x128, .i32⟩
  | 23 => ⟨S4x2x1024x128, .i32⟩
  | 24 => ⟨S_, .i32⟩
  | 25 => ⟨S4x2x1024x128, .i32⟩
  | 26 => ⟨S4x2x1024x128, .i32⟩
  | 27 => ⟨S4x2x1024x128, .i32⟩
  | 28 => ⟨S4x2x1024x128, .i32⟩
  | 29 => ⟨S4x2x1024x128, .i32⟩
  | 30 => ⟨S4x2x1024x128, .i32⟩
  | 31 => ⟨S4x2x1024x128, .i32⟩
  | 32 => ⟨S4x2x1024x128, .i32⟩
  | 33 => ⟨S_, .i32⟩
  | 34 => ⟨S4x2x1024x128, .i32⟩
  | 35 => ⟨S4x2x1024x128, .i32⟩
  | 36 => ⟨S4x2x1024x128, .i32⟩
  | 37 => ⟨S4x1x1024x128, .i32⟩
  | 38 => ⟨S4x1024x128, .i32⟩
  | 39 => ⟨S_, .i32⟩
  | 40 => ⟨S4x1024x128, .i32⟩
  | 41 => ⟨S4x1024x128, .i32⟩
  | 42 => ⟨S_, .i32⟩
  | 43 => ⟨S4x1024x128, .i32⟩
  | 44 => ⟨S4x1024x128, .i32⟩
  | 45 => ⟨S4x1024x128, .f32⟩
  | 46 => ⟨S_, .f32⟩
  | 47 => ⟨S4x1024x128, .f32⟩
  | 48 => ⟨S4x1024x128, .f32⟩
  | 49 => ⟨S_, .f32⟩
  | 50 => ⟨S4x1024x128, .f32⟩
  | 51 => ⟨S4x1024x128, .f32⟩
  | 52 => ⟨S_, .f32⟩
  | 53 => ⟨S4x1024x128, .f32⟩
  | 54 => ⟨S4x1024x128, .f32⟩
  | 55 => ⟨S_, .f32⟩
  | 56 => ⟨S4x1024x128, .f32⟩
  | 57 => ⟨S4x1024x128, .f32⟩
  | 58 => ⟨S4x1024x128, .f32⟩
  | 59 => ⟨S4x1024x128, .f32⟩
  | 60 => ⟨S4x1024x128, .f32⟩
  | 61 => ⟨S4x1024x128, .f32⟩
  | 62 => ⟨S_, .f32⟩
  | 63 => ⟨S4x1024x128, .f32⟩
  | 64 => ⟨S4x1024x128, .i1⟩
  | 65 => ⟨S_, .f32⟩
  | 66 => ⟨S4x1024x128, .f32⟩
  | 67 => ⟨S4x1024x128, .f32⟩
  | 68 => ⟨S4x1024x128, .f32⟩
  | 69 => ⟨S_, .f32⟩
  | 70 => ⟨S4x1024x128, .f32⟩
  | 71 => ⟨S4x1024x128, .f32⟩
  | 72 => ⟨S4x1024x128, .f32⟩
  | 73 => ⟨S_, .f32⟩
  | 74 => ⟨S_, .f32⟩
  | 75 => ⟨S4x1024x128, .f32⟩
  | 76 => ⟨S4x1024x128, .f32⟩
  | 77 => ⟨S4x1024x128, .f32⟩
  | 78 => ⟨S_, .f32⟩
  | 79 => ⟨S_, .f32⟩
  | 80 => ⟨S4x1024x128, .f32⟩
  | 81 => ⟨S4x1024x128, .f32⟩
  | 82 => ⟨S4x1024x128, .f32⟩
  | 83 => ⟨S4x1024x128, .f32⟩
  | 84 => ⟨S4x1024x128, .f32⟩
  | 85 => ⟨S4x1024x128, .f32⟩
  | 86 => ⟨S4x1024x128, .f32⟩
  | 87 => ⟨S_, .f32⟩
  | 88 => ⟨S_, .f32⟩
  | 89 => ⟨S4x1024x128, .f32⟩
  | 90 => ⟨S4x1024x128, .f32⟩
  | 91 => ⟨S4x1024x128, .f32⟩
  | 92 => ⟨S4x1024x128, .f32⟩
  | 93 => ⟨S4x1024x128, .f32⟩
  | 94 => ⟨S4x1024x128, .f32⟩
  | 95 => ⟨S_, .f32⟩
  | 96 => ⟨S_, .f32⟩
  | 97 => ⟨S4x1024x128, .f32⟩
  | 98 => ⟨S4x1024x128, .f32⟩
  | 99 => ⟨S4x1024x128, .f32⟩
  | 100 => ⟨S4x1024x128, .f32⟩
  | 101 => ⟨S4x1024x128, .f32⟩
  | 102 => ⟨S4x1024x128, .f32⟩
  | 103 => ⟨S_, .f32⟩
  | 104 => ⟨S_, .f32⟩
  | 105 => ⟨S4x1024x128, .f32⟩
  | 106 => ⟨S4x1024x128, .f32⟩
  | 107 => ⟨S4x1024x128, .f32⟩
  | 108 => ⟨S4x1024x128, .f32⟩
  | 109 => ⟨S4x1024x128, .f32⟩
  | 110 => ⟨S4x1024x128, .f32⟩
  | 111 => ⟨S_, .f32⟩
  | 112 => ⟨S_, .f32⟩
  | 113 => ⟨S4x1024x128, .f32⟩
  | 114 => ⟨S4x1024x128, .f32⟩
  | 115 => ⟨S4x1024x128, .f32⟩
  | 116 => ⟨S4x1024x128, .f32⟩
  | 117 => ⟨S4x1024x128, .f32⟩
  | 118 => ⟨S4x1024x128, .f32⟩
  | 119 => ⟨S_, .f32⟩
  | 120 => ⟨S_, .f32⟩
  | 121 => ⟨S4x1024x128, .f32⟩
  | 122 => ⟨S4x1024x128, .f32⟩
  | 123 => ⟨S4x1024x128, .f32⟩
  | 124 => ⟨S4x1024x128, .f32⟩
  | 125 => ⟨S4x1024x128, .f32⟩
  | 126 => ⟨S4x1024x128, .f32⟩
  | 127 => ⟨S_, .f32⟩
  | _ => ⟨S1024x128, .f32⟩

abbrev hbmTy0_7 (i : Nat) : BufTy := match i % 128 with
  | 0 => ⟨S_, .f32⟩
  | 1 => ⟨S4x1024x128, .f32⟩
  | 2 => ⟨S4x1024x128, .f32⟩
  | 3 => ⟨S4x1024x128, .f32⟩
  | 4 => ⟨S4x1024x128, .f32⟩
  | 5 => ⟨S4x1024x128, .f32⟩
  | 6 => ⟨S4x1024x128, .f32⟩
  | 7 => ⟨S_, .f32⟩
  | 8 => ⟨S_, .f32⟩
  | 9 => ⟨S4x1024x128, .f32⟩
  | 10 => ⟨S4x1024x128, .f32⟩
  | 11 => ⟨S4x1024x128, .f32⟩
  | 12 => ⟨S4x1024x128, .f32⟩
  | 13 => ⟨S4x1024x128, .f32⟩
  | 14 => ⟨S4x1024x128, .f32⟩
  | 15 => ⟨S4x1024x128, .f32⟩
  | 16 => ⟨S_, .f32⟩
  | 17 => ⟨S4x1024x128, .f32⟩
  | 18 => ⟨S4x1024x128, .f32⟩
  | 19 => ⟨S4x1x1024x128, .i32⟩
  | 20 => ⟨S4x1024x128, .i32⟩
  | 21 => ⟨S_, .i32⟩
  | 22 => ⟨S4x1024x128, .i32⟩
  | 23 => ⟨S4x1024x128, .i32⟩
  | 24 => ⟨S_, .i32⟩
  | 25 => ⟨S4x1024x128, .i32⟩
  | 26 => ⟨S4x1024x128, .i32⟩
  | 27 => ⟨S4x1024x128, .f32⟩
  | 28 => ⟨S_, .f32⟩
  | 29 => ⟨S4x1024x128, .f32⟩
  | 30 => ⟨S4x1024x128, .f32⟩
  | 31 => ⟨S4x1024x128, .f32⟩
  | 32 => ⟨S128, .f32⟩
  | 33 => ⟨S1x128, .f32⟩
  | 34 => ⟨S1x1024x128, .f32⟩
  | 35 => ⟨S1024x128, .f32⟩
  | 36 => ⟨S1024x128, .f32⟩
  | 37 => ⟨S1024x128, .f32⟩
  | 38 => ⟨S1024x128, .f32⟩
  | 39 => ⟨S128x128, .i32⟩
  | 40 => ⟨S128x128, .i32⟩
  | 41 => ⟨S_, .i32⟩
  | 42 => ⟨S128x128, .i32⟩
  | 43 => ⟨S128x128, .i32⟩
  | 44 => ⟨S128x128, .i1⟩
  | 45 => ⟨S1x128x128, .i1⟩
  | 46 => ⟨S1024x128x1, .f32⟩
  | 47 => ⟨S1024x128x128, .i1⟩
  | 48 => ⟨S1024x128x128, .f32⟩
  | 49 => ⟨S1024x128x128, .f32⟩
  | 50 => ⟨S131072x128, .f32⟩
  | 51 => ⟨S1x128, .f32⟩
  | 52 => ⟨S131072x128, .f32⟩
  | 53 => ⟨S131072x128, .f32⟩
  | 54 => ⟨S131072x128, .f32⟩
  | 55 => ⟨S131072x128, .f32⟩
  | 56 => ⟨S_, .f32⟩
  | 57 => ⟨S131072, .f32⟩
  | 58 => ⟨S_, .f32⟩
  | 59 => ⟨S_, .f32⟩
  | 60 => ⟨S_, .f32⟩
  | 61 => ⟨S_, .f32⟩
  | 62 => ⟨S_, .f32⟩
  | 63 => ⟨S131072, .f32⟩
  | 64 => ⟨S131072, .f32⟩
  | 65 => ⟨S_, .f32⟩
  | 66 => ⟨S131072, .f32⟩
  | 67 => ⟨S131072, .f32⟩
  | 68 => ⟨S1024x128, .f32⟩
  | 69 => ⟨S128x128, .i32⟩
  | 70 => ⟨S128x128, .i32⟩
  | 71 => ⟨S_, .i32⟩
  | 72 => ⟨S128x128, .i32⟩
  | 73 => ⟨S128x128, .i32⟩
  | 74 => ⟨S128x128, .i1⟩
  | 75 => ⟨S1x128x128, .i1⟩
  | 76 => ⟨S1024x128x1, .f32⟩
  | 77 => ⟨S1024x128x128, .i1⟩
  | 78 => ⟨S1024x128x128, .f32⟩
  | 79 => ⟨S1024x128x128, .f32⟩
  | 80 => ⟨S131072x128, .f32⟩
  | 81 => ⟨S1x128, .f32⟩
  | 82 => ⟨S131072x128, .f32⟩
  | 83 => ⟨S131072x128, .f32⟩
  | 84 => ⟨S131072x128, .f32⟩
  | 85 => ⟨S131072x128, .f32⟩
  | 86 => ⟨S_, .f32⟩
  | 87 => ⟨S131072, .f32⟩
  | 88 => ⟨S_, .f32⟩
  | 89 => ⟨S_, .f32⟩
  | 90 => ⟨S_, .f32⟩
  | 91 => ⟨S_, .f32⟩
  | 92 => ⟨S_, .f32⟩
  | 93 => ⟨S131072, .f32⟩
  | 94 => ⟨S131072, .f32⟩
  | 95 => ⟨S_, .f32⟩
  | 96 => ⟨S131072, .f32⟩
  | 97 => ⟨S131072, .f32⟩
  | 98 => ⟨S1024x128, .f32⟩
  | 99 => ⟨S1x1024x128, .f32⟩
  | 100 => ⟨S1024x128, .f32⟩
  | 101 => ⟨S1024x128, .f32⟩
  | 102 => ⟨S1024x128, .i1⟩
  | 103 => ⟨S1024x128, .f32⟩
  | 104 => ⟨S128, .f32⟩
  | 105 => ⟨S1x128, .f32⟩
  | 106 => ⟨S1x1024x128, .f32⟩
  | 107 => ⟨S1024x128, .f32⟩
  | 108 => ⟨S1024x128, .f32⟩
  | 109 => ⟨S1024x128, .f32⟩
  | 110 => ⟨S1024x128, .f32⟩
  | 111 => ⟨S128x128, .i32⟩
  | 112 => ⟨S128x128, .i32⟩
  | 113 => ⟨S_, .i32⟩
  | 114 => ⟨S128x128, .i32⟩
  | 115 => ⟨S128x128, .i32⟩
  | 116 => ⟨S128x128, .i1⟩
  | 117 => ⟨S1x128x128, .i1⟩
  | 118 => ⟨S1024x128x1, .f32⟩
  | 119 => ⟨S1024x128x128, .i1⟩
  | 120 => ⟨S1024x128x128, .f32⟩
  | 121 => ⟨S1024x128x128, .f32⟩
  | 122 => ⟨S131072x128, .f32⟩
  | 123 => ⟨S1x128, .f32⟩
  | 124 => ⟨S131072x128, .f32⟩
  | 125 => ⟨S131072x128, .f32⟩
  | 126 => ⟨S131072x128, .f32⟩
  | 127 => ⟨S131072x128, .f32⟩
  | _ => ⟨S1024x128, .f32⟩

abbrev hbmTy0_8 (i : Nat) : BufTy := match i % 128 with
  | 0 => ⟨S_, .f32⟩
  | 1 => ⟨S131072, .f32⟩
  | 2 => ⟨S_, .f32⟩
  | 3 => ⟨S_, .f32⟩
  | 4 => ⟨S_, .f32⟩
  | 5 => ⟨S_, .f32⟩
  | 6 => ⟨S_, .f32⟩
  | 7 => ⟨S131072, .f32⟩
  | 8 => ⟨S131072, .f32⟩
  | 9 => ⟨S_, .f32⟩
  | 10 => ⟨S131072, .f32⟩
  | 11 => ⟨S131072, .f32⟩
  | 12 => ⟨S1024x128, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S1x128x128, .i1⟩
  | 20 => ⟨S1024x128x1, .f32⟩
  | 21 => ⟨S1024x128x128, .i1⟩
  | 22 => ⟨S1024x128x128, .f32⟩
  | 23 => ⟨S1024x128x128, .f32⟩
  | 24 => ⟨S131072x128, .f32⟩
  | 25 => ⟨S1x128, .f32⟩
  | 26 => ⟨S131072x128, .f32⟩
  | 27 => ⟨S131072x128, .f32⟩
  | 28 => ⟨S131072x128, .f32⟩
  | 29 => ⟨S131072x128, .f32⟩
  | 30 => ⟨S_, .f32⟩
  | 31 => ⟨S131072, .f32⟩
  | 32 => ⟨S_, .f32⟩
  | 33 => ⟨S_, .f32⟩
  | 34 => ⟨S_, .f32⟩
  | 35 => ⟨S_, .f32⟩
  | 36 => ⟨S_, .f32⟩
  | 37 => ⟨S131072, .f32⟩
  | 38 => ⟨S131072, .f32⟩
  | 39 => ⟨S_, .f32⟩
  | 40 => ⟨S131072, .f32⟩
  | 41 => ⟨S131072, .f32⟩
  | 42 => ⟨S1024x128, .f32⟩
  | 43 => ⟨S1x1024x128, .f32⟩
  | 44 => ⟨S1024x128, .f32⟩
  | 45 => ⟨S1024x128, .f32⟩
  | 46 => ⟨S1024x128, .i1⟩
  | 47 => ⟨S1024x128, .f32⟩
  | 48 => ⟨S128, .f32⟩
  | 49 => ⟨S1x128, .f32⟩
  | 50 => ⟨S1x1024x128, .f32⟩
  | 51 => ⟨S1024x128, .f32⟩
  | 52 => ⟨S1024x128, .f32⟩
  | 53 => ⟨S1024x128, .f32⟩
  | 54 => ⟨S1024x128, .f32⟩
  | 55 => ⟨S128x128, .i32⟩
  | 56 => ⟨S128x128, .i32⟩
  | 57 => ⟨S_, .i32⟩
  | 58 => ⟨S128x128, .i32⟩
  | 59 => ⟨S128x128, .i32⟩
  | 60 => ⟨S128x128, .i1⟩
  | 61 => ⟨S1x128x128, .i1⟩
  | 62 => ⟨S1024x128x1, .f32⟩
  | 63 => ⟨S1024x128x128, .i1⟩
  | 64 => ⟨S1024x128x128, .f32⟩
  | 65 => ⟨S1024x128x128, .f32⟩
  | 66 => ⟨S131072x128, .f32⟩
  | 67 => ⟨S1x128, .f32⟩
  | 68 => ⟨S131072x128, .f32⟩
  | 69 => ⟨S131072x128, .f32⟩
  | 70 => ⟨S131072x128, .f32⟩
  | 71 => ⟨S131072x128, .f32⟩
  | 72 => ⟨S_, .f32⟩
  | 73 => ⟨S131072, .f32⟩
  | 74 => ⟨S_, .f32⟩
  | 75 => ⟨S_, .f32⟩
  | 76 => ⟨S_, .f32⟩
  | 77 => ⟨S_, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S1024x128, .f32⟩
  | 85 => ⟨S128x128, .i32⟩
  | 86 => ⟨S128x128, .i32⟩
  | 87 => ⟨S_, .i32⟩
  | 88 => ⟨S128x128, .i32⟩
  | 89 => ⟨S128x128, .i32⟩
  | 90 => ⟨S128x128, .i1⟩
  | 91 => ⟨S1x128x128, .i1⟩
  | 92 => ⟨S1024x128x1, .f32⟩
  | 93 => ⟨S1024x128x128, .i1⟩
  | 94 => ⟨S1024x128x128, .f32⟩
  | 95 => ⟨S1024x128x128, .f32⟩
  | 96 => ⟨S131072x128, .f32⟩
  | 97 => ⟨S1x128, .f32⟩
  | 98 => ⟨S131072x128, .f32⟩
  | 99 => ⟨S131072x128, .f32⟩
  | 100 => ⟨S131072x128, .f32⟩
  | 101 => ⟨S131072x128, .f32⟩
  | 102 => ⟨S_, .f32⟩
  | 103 => ⟨S131072, .f32⟩
  | 104 => ⟨S_, .f32⟩
  | 105 => ⟨S_, .f32⟩
  | 106 => ⟨S_, .f32⟩
  | 107 => ⟨S_, .f32⟩
  | 108 => ⟨S_, .f32⟩
  | 109 => ⟨S131072, .f32⟩
  | 110 => ⟨S131072, .f32⟩
  | 111 => ⟨S_, .f32⟩
  | 112 => ⟨S131072, .f32⟩
  | 113 => ⟨S131072, .f32⟩
  | 114 => ⟨S1024x128, .f32⟩
  | 115 => ⟨S1x1024x128, .f32⟩
  | 116 => ⟨S1024x128, .f32⟩
  | 117 => ⟨S1024x128, .f32⟩
  | 118 => ⟨S1024x128, .i1⟩
  | 119 => ⟨S1024x128, .f32⟩
  | 120 => ⟨S128, .f32⟩
  | 121 => ⟨S1x128, .f32⟩
  | 122 => ⟨S1x1024x128, .f32⟩
  | 123 => ⟨S1024x128, .f32⟩
  | 124 => ⟨S1024x128, .f32⟩
  | 125 => ⟨S1024x128, .f32⟩
  | 126 => ⟨S1024x128, .f32⟩
  | 127 => ⟨S128x128, .i32⟩
  | _ => ⟨S1024x128, .f32⟩

abbrev hbmTy0_9 (i : Nat) : BufTy := match i % 128 with
  | 0 => ⟨S128x128, .i32⟩
  | 1 => ⟨S_, .i32⟩
  | 2 => ⟨S128x128, .i32⟩
  | 3 => ⟨S128x128, .i32⟩
  | 4 => ⟨S128x128, .i1⟩
  | 5 => ⟨S1x128x128, .i1⟩
  | 6 => ⟨S1024x128x1, .f32⟩
  | 7 => ⟨S1024x128x128, .i1⟩
  | 8 => ⟨S1024x128x128, .f32⟩
  | 9 => ⟨S1024x128x128, .f32⟩
  | 10 => ⟨S131072x128, .f32⟩
  | 11 => ⟨S1x128, .f32⟩
  | 12 => ⟨S131072x128, .f32⟩
  | 13 => ⟨S131072x128, .f32⟩
  | 14 => ⟨S131072x128, .f32⟩
  | 15 => ⟨S131072x128, .f32⟩
  | 16 => ⟨S_, .f32⟩
  | 17 => ⟨S131072, .f32⟩
  | 18 => ⟨S_, .f32⟩
  | 19 => ⟨S_, .f32⟩
  | 20 => ⟨S_, .f32⟩
  | 21 => ⟨S_, .f32⟩
  | 22 => ⟨S_, .f32⟩
  | 23 => ⟨S131072, .f32⟩
  | 24 => ⟨S131072, .f32⟩
  | 25 => ⟨S_, .f32⟩
  | 26 => ⟨S131072, .f32⟩
  | 27 => ⟨S131072, .f32⟩
  | 28 => ⟨S1024x128, .f32⟩
  | 29 => ⟨S128x128, .i32⟩
  | 30 => ⟨S128x128, .i32⟩
  | 31 => ⟨S_, .i32⟩
  | 32 => ⟨S128x128, .i32⟩
  | 33 => ⟨S128x128, .i32⟩
  | 34 => ⟨S128x128, .i1⟩
  | 35 => ⟨S1x128x128, .i1⟩
  | 36 => ⟨S1024x128x1, .f32⟩
  | 37 => ⟨S1024x128x128, .i1⟩
  | 38 => ⟨S1024x128x128, .f32⟩
  | 39 => ⟨S1024x128x128, .f32⟩
  | 40 => ⟨S131072x128, .f32⟩
  | 41 => ⟨S1x128, .f32⟩
  | 42 => ⟨S131072x128, .f32⟩
  | 43 => ⟨S131072x128, .f32⟩
  | 44 => ⟨S131072x128, .f32⟩
  | 45 => ⟨S131072x128, .f32⟩
  | 46 => ⟨S_, .f32⟩
  | 47 => ⟨S131072, .f32⟩
  | 48 => ⟨S_, .f32⟩
  | 49 => ⟨S_, .f32⟩
  | 50 => ⟨S_, .f32⟩
  | 51 => ⟨S_, .f32⟩
  | 52 => ⟨S_, .f32⟩
  | 53 => ⟨S131072, .f32⟩
  | 54 => ⟨S131072, .f32⟩
  | 55 => ⟨S_, .f32⟩
  | 56 => ⟨S131072, .f32⟩
  | 57 => ⟨S131072, .f32⟩
  | 58 => ⟨S1024x128, .f32⟩
  | 59 => ⟨S1x1024x128, .f32⟩
  | 60 => ⟨S1024x128, .f32⟩
  | 61 => ⟨S1024x128, .f32⟩
  | 62 => ⟨S1024x128, .i1⟩
  | 63 => ⟨S1024x128, .f32⟩
  | 64 => ⟨S1x1024x128, .f32⟩
  | 65 => ⟨S1x1024x128, .f32⟩
  | 66 => ⟨S1x1024x128, .f32⟩
  | 67 => ⟨S1x1024x128, .f32⟩
  | 68 => ⟨S1x1024x128, .f32⟩
  | 69 => ⟨S5x1024x128, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_c_4 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_while0c_c_91 : Ref sig .tc := ⟨.hbm, 32, rfl⟩
abbrev main_while0c_v375 : Ref sig .tc := ⟨.hbm, 33, rfl⟩
abbrev main_while0b_c_91 : Ref sig .tc := ⟨.hbm, 34, rfl⟩
abbrev main_while0b_v375 : Ref sig .tc := ⟨.hbm, 35, rfl⟩
abbrev main_while0b_v376 : Ref sig .tc := ⟨.hbm, 36, rfl⟩
abbrev main_while0b_v377 : Ref sig .tc := ⟨.hbm, 37, rfl⟩
abbrev main_while0b_v378 : Ref sig .tc := ⟨.hbm, 38, rfl⟩
abbrev main_while0b_v379 : Ref sig .tc := ⟨.hbm, 39, rfl⟩
abbrev main_while0b_c_92 : Ref sig .tc := ⟨.hbm, 40, rfl⟩
abbrev main_while0b_v380 : Ref sig .tc := ⟨.hbm, 41, rfl⟩
abbrev main_v17 : Ref sig .tc := ⟨.hbm, 42, rfl⟩
abbrev main_v18 : Ref sig .tc := ⟨.hbm, 43, rfl⟩
abbrev main_c_5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_cst_8 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_9 : Ref sig .tc := ⟨.hbm, 60, rfl⟩
abbrev main_c_10 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_11 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_c_0 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_call0_v0 : Ref sig .tc := ⟨.hbm, 87, rfl⟩
abbrev main_call1_call0_c : Ref sig .tc := ⟨.hbm, 88, rfl⟩
abbrev main_call1_call0_v1 : Ref sig .tc := ⟨.hbm, 89, rfl⟩
abbrev main_call1_call0_v2 : Ref sig .tc := ⟨.hbm, 90, rfl⟩
abbrev main_call1_call0_v3 : Ref sig .tc := ⟨.hbm, 91, rfl⟩
abbrev main_call1_call0_v4 : Ref sig .tc := ⟨.hbm, 92, rfl⟩
abbrev main_call1_call0_v5 : Ref sig .tc := ⟨.hbm, 93, rfl⟩
abbrev main_call1_call0_v6 : Ref sig .tc := ⟨.hbm, 94, rfl⟩
abbrev main_call1_call0_c_0 : Ref sig .tc := ⟨.hbm, 95, rfl⟩
abbrev main_call1_call0_v7 : Ref sig .tc := ⟨.hbm, 96, rfl⟩
abbrev main_call1_call0_v8 : Ref sig .tc := ⟨.hbm, 97, rfl⟩
abbrev main_call1_call0_c_1 : Ref sig .tc := ⟨.hbm, 98, rfl⟩
abbrev main_call1_call0_v9 : Ref sig .tc := ⟨.hbm, 99, rfl⟩
abbrev main_call1_call0_v10 : Ref sig .tc := ⟨.hbm, 100, rfl⟩
abbrev main_call1_call0_v11 : Ref sig .tc := ⟨.hbm, 101, rfl⟩
abbrev main_call1_call0_v12 : Ref sig .tc := ⟨.hbm, 102, rfl⟩
abbrev main_call1_call0_v13 : Ref sig .tc := ⟨.hbm, 103, rfl⟩
abbrev main_call1_call0_c_2 : Ref sig .tc := ⟨.hbm, 104, rfl⟩
abbrev main_call1_call0_v14 : Ref sig .tc := ⟨.hbm, 105, rfl⟩
abbrev main_call1_call0_v15 : Ref sig .tc := ⟨.hbm, 106, rfl⟩
abbrev main_call1_call0_c_3 : Ref sig .tc := ⟨.hbm, 107, rfl⟩
abbrev main_call1_call0_v16 : Ref sig .tc := ⟨.hbm, 108, rfl⟩
abbrev main_call1_call0_v17 : Ref sig .tc := ⟨.hbm, 109, rfl⟩
abbrev main_call1_call0_v18 : Ref sig .tc := ⟨.hbm, 110, rfl⟩
abbrev main_call1_call0_v19 : Ref sig .tc := ⟨.hbm, 111, rfl⟩
abbrev main_call1_call0_v20 : Ref sig .tc := ⟨.hbm, 112, rfl⟩
abbrev main_call1_call0_c_4 : Ref sig .tc := ⟨.hbm, 113, rfl⟩
abbrev main_call1_call0_v21 : Ref sig .tc := ⟨.hbm, 114, rfl⟩
abbrev main_call1_call0_v22 : Ref sig .tc := ⟨.hbm, 115, rfl⟩
abbrev main_call1_call0_c_5 : Ref sig .tc := ⟨.hbm, 116, rfl⟩
abbrev main_call1_call0_v23 : Ref sig .tc := ⟨.hbm, 117, rfl⟩
abbrev main_call1_call0_v24 : Ref sig .tc := ⟨.hbm, 118, rfl⟩
abbrev main_call1_call0_v25 : Ref sig .tc := ⟨.hbm, 119, rfl⟩
abbrev main_call1_call0_v26 : Ref sig .tc := ⟨.hbm, 120, rfl⟩
abbrev main_call1_call0_v27 : Ref sig .tc := ⟨.hbm, 121, rfl⟩
abbrev main_call1_call0_c_6 : Ref sig .tc := ⟨.hbm, 122, rfl⟩
abbrev main_call1_call0_v28 : Ref sig .tc := ⟨.hbm, 123, rfl⟩
abbrev main_call1_call0_v29 : Ref sig .tc := ⟨.hbm, 124, rfl⟩
abbrev main_call1_call0_c_7 : Ref sig .tc := ⟨.hbm, 125, rfl⟩
abbrev main_call1_call0_v30 : Ref sig .tc := ⟨.hbm, 126, rfl⟩
abbrev main_call1_call0_v31 : Ref sig .tc := ⟨.hbm, 127, rfl⟩
abbrev main_call1_call0_v32 : Ref sig .tc := ⟨.hbm, 128, rfl⟩
abbrev main_call1_call0_v33 : Ref sig .tc := ⟨.hbm, 129, rfl⟩
abbrev main_call1_call0_v34 : Ref sig .tc := ⟨.hbm, 130, rfl⟩
abbrev main_call1_call0_v35 : Ref sig .tc := ⟨.hbm, 131, rfl⟩
abbrev main_call1_call0_v36 : Ref sig .tc := ⟨.hbm, 132, rfl⟩
abbrev main_call1_call0_v37 : Ref sig .tc := ⟨.hbm, 133, rfl⟩
abbrev main_call1_call0_c_8 : Ref sig .tc := ⟨.hbm, 134, rfl⟩
abbrev main_call1_call0_v38 : Ref sig .tc := ⟨.hbm, 135, rfl⟩
abbrev main_call1_call0_v39 : Ref sig .tc := ⟨.hbm, 136, rfl⟩
abbrev main_call1_call0_v40 : Ref sig .tc := ⟨.hbm, 137, rfl⟩
abbrev main_call1_call0_c_9 : Ref sig .tc := ⟨.hbm, 138, rfl⟩
abbrev main_call1_call0_v41 : Ref sig .tc := ⟨.hbm, 139, rfl⟩
abbrev main_call1_call0_v42 : Ref sig .tc := ⟨.hbm, 140, rfl⟩
abbrev main_call1_call0_c_10 : Ref sig .tc := ⟨.hbm, 141, rfl⟩
abbrev main_call1_call0_v43 : Ref sig .tc := ⟨.hbm, 142, rfl⟩
abbrev main_call1_call0_v44 : Ref sig .tc := ⟨.hbm, 143, rfl⟩
abbrev main_call1_call0_v45 : Ref sig .tc := ⟨.hbm, 144, rfl⟩
abbrev main_call1_call0_v46 : Ref sig .tc := ⟨.hbm, 145, rfl⟩
abbrev main_call1_call0_v47 : Ref sig .tc := ⟨.hbm, 146, rfl⟩
abbrev main_call1_call0_c_11 : Ref sig .tc := ⟨.hbm, 147, rfl⟩
abbrev main_call1_call0_v48 : Ref sig .tc := ⟨.hbm, 148, rfl⟩
abbrev main_call1_call0_v49 : Ref sig .tc := ⟨.hbm, 149, rfl⟩
abbrev main_call1_call0_c_12 : Ref sig .tc := ⟨.hbm, 150, rfl⟩
abbrev main_call1_call0_v50 : Ref sig .tc := ⟨.hbm, 151, rfl⟩
abbrev main_call1_call0_v51 : Ref sig .tc := ⟨.hbm, 152, rfl⟩
abbrev main_call1_call0_v52 : Ref sig .tc := ⟨.hbm, 153, rfl⟩
abbrev main_call1_call0_v53 : Ref sig .tc := ⟨.hbm, 154, rfl⟩
abbrev main_call1_call0_v54 : Ref sig .tc := ⟨.hbm, 155, rfl⟩
abbrev main_call1_call0_c_13 : Ref sig .tc := ⟨.hbm, 156, rfl⟩
abbrev main_call1_call0_v55 : Ref sig .tc := ⟨.hbm, 157, rfl⟩
abbrev main_call1_call0_v56 : Ref sig .tc := ⟨.hbm, 158, rfl⟩
abbrev main_call1_call0_c_14 : Ref sig .tc := ⟨.hbm, 159, rfl⟩
abbrev main_call1_call0_v57 : Ref sig .tc := ⟨.hbm, 160, rfl⟩
abbrev main_call1_call0_v58 : Ref sig .tc := ⟨.hbm, 161, rfl⟩
abbrev main_call1_call0_v59 : Ref sig .tc := ⟨.hbm, 162, rfl⟩
abbrev main_call1_call0_v60 : Ref sig .tc := ⟨.hbm, 163, rfl⟩
abbrev main_call1_call0_v61 : Ref sig .tc := ⟨.hbm, 164, rfl⟩
abbrev main_call1_call0_c_15 : Ref sig .tc := ⟨.hbm, 165, rfl⟩
abbrev main_call1_call0_v62 : Ref sig .tc := ⟨.hbm, 166, rfl⟩
abbrev main_call1_call0_v63 : Ref sig .tc := ⟨.hbm, 167, rfl⟩
abbrev main_call1_call0_c_16 : Ref sig .tc := ⟨.hbm, 168, rfl⟩
abbrev main_call1_call0_v64 : Ref sig .tc := ⟨.hbm, 169, rfl⟩
abbrev main_call1_call0_v65 : Ref sig .tc := ⟨.hbm, 170, rfl⟩
abbrev main_call1_call0_v66 : Ref sig .tc := ⟨.hbm, 171, rfl⟩
abbrev main_call1_call0_v67 : Ref sig .tc := ⟨.hbm, 172, rfl⟩
abbrev main_call1_call0_v68 : Ref sig .tc := ⟨.hbm, 173, rfl⟩
abbrev main_call1_call0_v69 : Ref sig .tc := ⟨.hbm, 174, rfl⟩
abbrev main_call1_call0_v70 : Ref sig .tc := ⟨.hbm, 175, rfl⟩
abbrev main_call1_call0_v71 : Ref sig .tc := ⟨.hbm, 176, rfl⟩
abbrev main_call1_call0_c_17 : Ref sig .tc := ⟨.hbm, 177, rfl⟩
abbrev main_call1_call0_v72 : Ref sig .tc := ⟨.hbm, 178, rfl⟩
abbrev main_call1_call0_v73 : Ref sig .tc := ⟨.hbm, 179, rfl⟩
abbrev main_call1_call0_v74 : Ref sig .tc := ⟨.hbm, 180, rfl⟩
abbrev main_call1_call0_c_18 : Ref sig .tc := ⟨.hbm, 181, rfl⟩
abbrev main_call1_call0_v75 : Ref sig .tc := ⟨.hbm, 182, rfl⟩
abbrev main_call1_call0_v76 : Ref sig .tc := ⟨.hbm, 183, rfl⟩
abbrev main_call1_call0_c_19 : Ref sig .tc := ⟨.hbm, 184, rfl⟩
abbrev main_call1_call0_v77 : Ref sig .tc := ⟨.hbm, 185, rfl⟩
abbrev main_call1_call0_v78 : Ref sig .tc := ⟨.hbm, 186, rfl⟩
abbrev main_call1_call0_v79 : Ref sig .tc := ⟨.hbm, 187, rfl⟩
abbrev main_call1_call0_v80 : Ref sig .tc := ⟨.hbm, 188, rfl⟩
abbrev main_call1_call0_v81 : Ref sig .tc := ⟨.hbm, 189, rfl⟩
abbrev main_call1_call0_c_20 : Ref sig .tc := ⟨.hbm, 190, rfl⟩
abbrev main_call1_call0_v82 : Ref sig .tc := ⟨.hbm, 191, rfl⟩
abbrev main_call1_call0_v83 : Ref sig .tc := ⟨.hbm, 192, rfl⟩
abbrev main_call1_call0_c_21 : Ref sig .tc := ⟨.hbm, 193, rfl⟩
abbrev main_call1_call0_v84 : Ref sig .tc := ⟨.hbm, 194, rfl⟩
abbrev main_call1_call0_v85 : Ref sig .tc := ⟨.hbm, 195, rfl⟩
abbrev main_call1_call0_v86 : Ref sig .tc := ⟨.hbm, 196, rfl⟩
abbrev main_call1_call0_v87 : Ref sig .tc := ⟨.hbm, 197, rfl⟩
abbrev main_call1_call0_v88 : Ref sig .tc := ⟨.hbm, 198, rfl⟩
abbrev main_call1_call0_c_22 : Ref sig .tc := ⟨.hbm, 199, rfl⟩
abbrev main_call1_call0_v89 : Ref sig .tc := ⟨.hbm, 200, rfl⟩
abbrev main_call1_call0_v90 : Ref sig .tc := ⟨.hbm, 201, rfl⟩
abbrev main_call1_call0_c_23 : Ref sig .tc := ⟨.hbm, 202, rfl⟩
abbrev main_call1_call0_v91 : Ref sig .tc := ⟨.hbm, 203, rfl⟩
abbrev main_call1_call0_v92 : Ref sig .tc := ⟨.hbm, 204, rfl⟩
abbrev main_call1_call0_v93 : Ref sig .tc := ⟨.hbm, 205, rfl⟩
abbrev main_call1_call0_v94 : Ref sig .tc := ⟨.hbm, 206, rfl⟩
abbrev main_call1_call0_v95 : Ref sig .tc := ⟨.hbm, 207, rfl⟩
abbrev main_call1_call0_c_24 : Ref sig .tc := ⟨.hbm, 208, rfl⟩
abbrev main_call1_call0_v96 : Ref sig .tc := ⟨.hbm, 209, rfl⟩
abbrev main_call1_call0_v97 : Ref sig .tc := ⟨.hbm, 210, rfl⟩
abbrev main_call1_call0_c_25 : Ref sig .tc := ⟨.hbm, 211, rfl⟩
abbrev main_call1_call0_v98 : Ref sig .tc := ⟨.hbm, 212, rfl⟩
abbrev main_call1_call0_v99 : Ref sig .tc := ⟨.hbm, 213, rfl⟩
abbrev main_call1_call0_v100 : Ref sig .tc := ⟨.hbm, 214, rfl⟩
abbrev main_call1_call0_v101 : Ref sig .tc := ⟨.hbm, 215, rfl⟩
abbrev main_call1_call0_v102 : Ref sig .tc := ⟨.hbm, 216, rfl⟩
abbrev main_call1_call0_v103 : Ref sig .tc := ⟨.hbm, 217, rfl⟩
abbrev main_call1_call0_v104 : Ref sig .tc := ⟨.hbm, 218, rfl⟩
abbrev main_call1_call0_v105 : Ref sig .tc := ⟨.hbm, 219, rfl⟩
abbrev main_call1_call0_c_26 : Ref sig .tc := ⟨.hbm, 220, rfl⟩
abbrev main_call1_call0_v106 : Ref sig .tc := ⟨.hbm, 221, rfl⟩
abbrev main_call1_call0_v107 : Ref sig .tc := ⟨.hbm, 222, rfl⟩
abbrev main_call1_call0_v108 : Ref sig .tc := ⟨.hbm, 223, rfl⟩
abbrev main_call1_call0_c_27 : Ref sig .tc := ⟨.hbm, 224, rfl⟩
abbrev main_call1_call0_v109 : Ref sig .tc := ⟨.hbm, 225, rfl⟩
abbrev main_call1_call0_v110 : Ref sig .tc := ⟨.hbm, 226, rfl⟩
abbrev main_call1_call0_c_28 : Ref sig .tc := ⟨.hbm, 227, rfl⟩
abbrev main_call1_call0_v111 : Ref sig .tc := ⟨.hbm, 228, rfl⟩
abbrev main_call1_call0_v112 : Ref sig .tc := ⟨.hbm, 229, rfl⟩
abbrev main_call1_call0_v113 : Ref sig .tc := ⟨.hbm, 230, rfl⟩
abbrev main_call1_call0_v114 : Ref sig .tc := ⟨.hbm, 231, rfl⟩
abbrev main_call1_call0_v115 : Ref sig .tc := ⟨.hbm, 232, rfl⟩
abbrev main_call1_call0_c_29 : Ref sig .tc := ⟨.hbm, 233, rfl⟩
abbrev main_call1_call0_v116 : Ref sig .tc := ⟨.hbm, 234, rfl⟩
abbrev main_call1_call0_v117 : Ref sig .tc := ⟨.hbm, 235, rfl⟩
abbrev main_call1_call0_c_30 : Ref sig .tc := ⟨.hbm, 236, rfl⟩
abbrev main_call1_call0_v118 : Ref sig .tc := ⟨.hbm, 237, rfl⟩
abbrev main_call1_call0_v119 : Ref sig .tc := ⟨.hbm, 238, rfl⟩
abbrev main_call1_call0_v120 : Ref sig .tc := ⟨.hbm, 239, rfl⟩
abbrev main_call1_call0_v121 : Ref sig .tc := ⟨.hbm, 240, rfl⟩
abbrev main_call1_call0_v122 : Ref sig .tc := ⟨.hbm, 241, rfl⟩
abbrev main_call1_call0_c_31 : Ref sig .tc := ⟨.hbm, 242, rfl⟩
abbrev main_call1_call0_v123 : Ref sig .tc := ⟨.hbm, 243, rfl⟩
abbrev main_call1_call0_v124 : Ref sig .tc := ⟨.hbm, 244, rfl⟩
abbrev main_call1_call0_c_32 : Ref sig .tc := ⟨.hbm, 245, rfl⟩
abbrev main_call1_call0_v125 : Ref sig .tc := ⟨.hbm, 246, rfl⟩
abbrev main_call1_call0_v126 : Ref sig .tc := ⟨.hbm, 247, rfl⟩
abbrev main_call1_call0_v127 : Ref sig .tc := ⟨.hbm, 248, rfl⟩
abbrev main_call1_call0_v128 : Ref sig .tc := ⟨.hbm, 249, rfl⟩
abbrev main_call1_call0_v129 : Ref sig .tc := ⟨.hbm, 250, rfl⟩
abbrev main_call1_call0_c_33 : Ref sig .tc := ⟨.hbm, 251, rfl⟩
abbrev main_call1_call0_v130 : Ref sig .tc := ⟨.hbm, 252, rfl⟩
abbrev main_call1_call0_v131 : Ref sig .tc := ⟨.hbm, 253, rfl⟩
abbrev main_call1_call0_c_34 : Ref sig .tc := ⟨.hbm, 254, rfl⟩
abbrev main_call1_call0_v132 : Ref sig .tc := ⟨.hbm, 255, rfl⟩
abbrev main_call1_call0_v133 : Ref sig .tc := ⟨.hbm, 256, rfl⟩
abbrev main_call1_call0_v134 : Ref sig .tc := ⟨.hbm, 257, rfl⟩
abbrev main_call1_call0_v135 : Ref sig .tc := ⟨.hbm, 258, rfl⟩
abbrev main_call1_call0_v136 : Ref sig .tc := ⟨.hbm, 259, rfl⟩
abbrev main_call1_call0_v137 : Ref sig .tc := ⟨.hbm, 260, rfl⟩
abbrev main_call1_call0_v138 : Ref sig .tc := ⟨.hbm, 261, rfl⟩
abbrev main_call1_call0_v139 : Ref sig .tc := ⟨.hbm, 262, rfl⟩
abbrev main_call1_call0_c_35 : Ref sig .tc := ⟨.hbm, 263, rfl⟩
abbrev main_call1_call0_v140 : Ref sig .tc := ⟨.hbm, 264, rfl⟩
abbrev main_call1_call0_v141 : Ref sig .tc := ⟨.hbm, 265, rfl⟩
abbrev main_call1_call0_v142 : Ref sig .tc := ⟨.hbm, 266, rfl⟩
abbrev main_call1_call0_c_36 : Ref sig .tc := ⟨.hbm, 267, rfl⟩
abbrev main_call1_call0_v143 : Ref sig .tc := ⟨.hbm, 268, rfl⟩
abbrev main_call1_call0_v144 : Ref sig .tc := ⟨.hbm, 269, rfl⟩
abbrev main_call1_call0_c_37 : Ref sig .tc := ⟨.hbm, 270, rfl⟩
abbrev main_call1_call0_v145 : Ref sig .tc := ⟨.hbm, 271, rfl⟩
abbrev main_call1_call0_v146 : Ref sig .tc := ⟨.hbm, 272, rfl⟩
abbrev main_call1_call0_v147 : Ref sig .tc := ⟨.hbm, 273, rfl⟩
abbrev main_call1_call0_v148 : Ref sig .tc := ⟨.hbm, 274, rfl⟩
abbrev main_call1_call0_v149 : Ref sig .tc := ⟨.hbm, 275, rfl⟩
abbrev main_call1_call0_c_38 : Ref sig .tc := ⟨.hbm, 276, rfl⟩
abbrev main_call1_call0_v150 : Ref sig .tc := ⟨.hbm, 277, rfl⟩
abbrev main_call1_call0_v151 : Ref sig .tc := ⟨.hbm, 278, rfl⟩
abbrev main_call1_call0_c_39 : Ref sig .tc := ⟨.hbm, 279, rfl⟩
abbrev main_call1_call0_v152 : Ref sig .tc := ⟨.hbm, 280, rfl⟩
abbrev main_call1_call0_v153 : Ref sig .tc := ⟨.hbm, 281, rfl⟩
abbrev main_call1_call0_v154 : Ref sig .tc := ⟨.hbm, 282, rfl⟩
abbrev main_call1_call0_v155 : Ref sig .tc := ⟨.hbm, 283, rfl⟩
abbrev main_call1_call0_v156 : Ref sig .tc := ⟨.hbm, 284, rfl⟩
abbrev main_call1_call0_c_40 : Ref sig .tc := ⟨.hbm, 285, rfl⟩
abbrev main_call1_call0_v157 : Ref sig .tc := ⟨.hbm, 286, rfl⟩
abbrev main_call1_call0_v158 : Ref sig .tc := ⟨.hbm, 287, rfl⟩
abbrev main_call1_call0_c_41 : Ref sig .tc := ⟨.hbm, 288, rfl⟩
abbrev main_call1_call0_v159 : Ref sig .tc := ⟨.hbm, 289, rfl⟩
abbrev main_call1_call0_v160 : Ref sig .tc := ⟨.hbm, 290, rfl⟩
abbrev main_call1_call0_v161 : Ref sig .tc := ⟨.hbm, 291, rfl⟩
abbrev main_call1_call0_v162 : Ref sig .tc := ⟨.hbm, 292, rfl⟩
abbrev main_call1_call0_v163 : Ref sig .tc := ⟨.hbm, 293, rfl⟩
abbrev main_call1_call0_c_42 : Ref sig .tc := ⟨.hbm, 294, rfl⟩
abbrev main_call1_call0_v164 : Ref sig .tc := ⟨.hbm, 295, rfl⟩
abbrev main_call1_call0_v165 : Ref sig .tc := ⟨.hbm, 296, rfl⟩
abbrev main_call1_call0_c_43 : Ref sig .tc := ⟨.hbm, 297, rfl⟩
abbrev main_call1_call0_v166 : Ref sig .tc := ⟨.hbm, 298, rfl⟩
abbrev main_call1_call0_v167 : Ref sig .tc := ⟨.hbm, 299, rfl⟩
abbrev main_call1_call0_v168 : Ref sig .tc := ⟨.hbm, 300, rfl⟩
abbrev main_call1_call0_v169 : Ref sig .tc := ⟨.hbm, 301, rfl⟩
abbrev main_call1_call0_v170 : Ref sig .tc := ⟨.hbm, 302, rfl⟩
abbrev main_call1_v13_0 : Ref sig .tc := ⟨.hbm, 303, rfl⟩
abbrev main_call1_call0_v172 : Ref sig .tc := ⟨.hbm, 304, rfl⟩
abbrev main_call1_call0_v173 : Ref sig .tc := ⟨.hbm, 305, rfl⟩
abbrev main_call1_call0_c_44 : Ref sig .tc := ⟨.hbm, 306, rfl⟩
abbrev main_call1_call0_v174 : Ref sig .tc := ⟨.hbm, 307, rfl⟩
abbrev main_call1_v13_1 : Ref sig .tc := ⟨.hbm, 308, rfl⟩
abbrev main_v38 : Ref sig .tc := ⟨.hbm, 309, rfl⟩
abbrev main_call2_v0 : Ref sig .tc := ⟨.hbm, 310, rfl⟩
abbrev main_call2_v1 : Ref sig .tc := ⟨.hbm, 311, rfl⟩
abbrev main_call2_v2 : Ref sig .tc := ⟨.hbm, 312, rfl⟩
abbrev main_call2_v3 : Ref sig .tc := ⟨.hbm, 313, rfl⟩
abbrev main_call2_v4 : Ref sig .tc := ⟨.hbm, 314, rfl⟩
abbrev main_call2_c : Ref sig .tc := ⟨.hbm, 315, rfl⟩
abbrev main_call2_v5 : Ref sig .tc := ⟨.hbm, 316, rfl⟩
abbrev main_call2_v6 : Ref sig .tc := ⟨.hbm, 317, rfl⟩
abbrev main_call2_c_0 : Ref sig .tc := ⟨.hbm, 318, rfl⟩
abbrev main_call2_v7 : Ref sig .tc := ⟨.hbm, 319, rfl⟩
abbrev main_call2_v8 : Ref sig .tc := ⟨.hbm, 320, rfl⟩
abbrev main_call2_v9 : Ref sig .tc := ⟨.hbm, 321, rfl⟩
abbrev main_call2_v10 : Ref sig .tc := ⟨.hbm, 322, rfl⟩
abbrev main_call2_v11 : Ref sig .tc := ⟨.hbm, 323, rfl⟩
abbrev main_call2_v12 : Ref sig .tc := ⟨.hbm, 324, rfl⟩
abbrev main_call2_v13 : Ref sig .tc := ⟨.hbm, 325, rfl⟩
abbrev main_call2_v14 : Ref sig .tc := ⟨.hbm, 326, rfl⟩
abbrev main_call2_call0_v0 : Ref sig .tc := ⟨.hbm, 327, rfl⟩
abbrev main_call2_call0_c : Ref sig .tc := ⟨.hbm, 328, rfl⟩
abbrev main_call2_call0_v1 : Ref sig .tc := ⟨.hbm, 329, rfl⟩
abbrev main_call2_call0_v2 : Ref sig .tc := ⟨.hbm, 330, rfl⟩
abbrev main_call2_call0_v3 : Ref sig .tc := ⟨.hbm, 331, rfl⟩
abbrev main_call2_call0_v4 : Ref sig .tc := ⟨.hbm, 332, rfl⟩
abbrev main_call2_call0_v5 : Ref sig .tc := ⟨.hbm, 333, rfl⟩
abbrev main_call2_call0_v6 : Ref sig .tc := ⟨.hbm, 334, rfl⟩
abbrev main_call2_call0_v7 : Ref sig .tc := ⟨.hbm, 335, rfl⟩
abbrev main_call2_call0_v8 : Ref sig .tc := ⟨.hbm, 336, rfl⟩
abbrev main_call2_call0_v9 : Ref sig .tc := ⟨.hbm, 337, rfl⟩
abbrev main_call2_call0_c_0 : Ref sig .tc := ⟨.hbm, 338, rfl⟩
abbrev main_call2_call0_v10 : Ref sig .tc := ⟨.hbm, 339, rfl⟩
abbrev main_call2_call0_v11 : Ref sig .tc := ⟨.hbm, 340, rfl⟩
abbrev main_call2_call0_c_1 : Ref sig .tc := ⟨.hbm, 341, rfl⟩
abbrev main_call2_call0_v12 : Ref sig .tc := ⟨.hbm, 342, rfl⟩
abbrev main_call2_call0_v13 : Ref sig .tc := ⟨.hbm, 343, rfl⟩
abbrev main_call2_call0_v14 : Ref sig .tc := ⟨.hbm, 344, rfl⟩
abbrev main_call2_call0_v15 : Ref sig .tc := ⟨.hbm, 345, rfl⟩
abbrev main_call2_call0_v16 : Ref sig .tc := ⟨.hbm, 346, rfl⟩
abbrev main_call2_call0_c_2 : Ref sig .tc := ⟨.hbm, 347, rfl⟩
abbrev main_call2_call0_v17 : Ref sig .tc := ⟨.hbm, 348, rfl⟩
abbrev main_call2_call0_v18 : Ref sig .tc := ⟨.hbm, 349, rfl⟩
abbrev main_call2_call0_c_3 : Ref sig .tc := ⟨.hbm, 350, rfl⟩
abbrev main_call2_call0_v19 : Ref sig .tc := ⟨.hbm, 351, rfl⟩
abbrev main_call2_call0_v20 : Ref sig .tc := ⟨.hbm, 352, rfl⟩
abbrev main_call2_call0_v21 : Ref sig .tc := ⟨.hbm, 353, rfl⟩
abbrev main_call2_call0_v22 : Ref sig .tc := ⟨.hbm, 354, rfl⟩
abbrev main_call2_call0_v23 : Ref sig .tc := ⟨.hbm, 355, rfl⟩
abbrev main_call2_call0_c_4 : Ref sig .tc := ⟨.hbm, 356, rfl⟩
abbrev main_call2_call0_v24 : Ref sig .tc := ⟨.hbm, 357, rfl⟩
abbrev main_call2_call0_v25 : Ref sig .tc := ⟨.hbm, 358, rfl⟩
abbrev main_call2_call0_c_5 : Ref sig .tc := ⟨.hbm, 359, rfl⟩
abbrev main_call2_call0_v26 : Ref sig .tc := ⟨.hbm, 360, rfl⟩
abbrev main_call2_call0_v27 : Ref sig .tc := ⟨.hbm, 361, rfl⟩
abbrev main_call2_call0_v28 : Ref sig .tc := ⟨.hbm, 362, rfl⟩
abbrev main_call2_call0_v29 : Ref sig .tc := ⟨.hbm, 363, rfl⟩
abbrev main_call2_call0_v30 : Ref sig .tc := ⟨.hbm, 364, rfl⟩
abbrev main_call2_call0_c_6 : Ref sig .tc := ⟨.hbm, 365, rfl⟩
abbrev main_call2_call0_v31 : Ref sig .tc := ⟨.hbm, 366, rfl⟩
abbrev main_call2_call0_v32 : Ref sig .tc := ⟨.hbm, 367, rfl⟩
abbrev main_call2_call0_c_7 : Ref sig .tc := ⟨.hbm, 368, rfl⟩
abbrev main_call2_call0_v33 : Ref sig .tc := ⟨.hbm, 369, rfl⟩
abbrev main_call2_call0_v34 : Ref sig .tc := ⟨.hbm, 370, rfl⟩
abbrev main_call2_call0_v35 : Ref sig .tc := ⟨.hbm, 371, rfl⟩
abbrev main_call2_call0_v36 : Ref sig .tc := ⟨.hbm, 372, rfl⟩
abbrev main_call2_call0_v37 : Ref sig .tc := ⟨.hbm, 373, rfl⟩
abbrev main_call2_call0_v38 : Ref sig .tc := ⟨.hbm, 374, rfl⟩
abbrev main_call2_call0_v39 : Ref sig .tc := ⟨.hbm, 375, rfl⟩
abbrev main_call2_call0_v40 : Ref sig .tc := ⟨.hbm, 376, rfl⟩
abbrev main_call2_call0_c_8 : Ref sig .tc := ⟨.hbm, 377, rfl⟩
abbrev main_call2_call0_v41 : Ref sig .tc := ⟨.hbm, 378, rfl⟩
abbrev main_call2_call0_v42 : Ref sig .tc := ⟨.hbm, 379, rfl⟩
abbrev main_call2_call0_v43 : Ref sig .tc := ⟨.hbm, 380, rfl⟩
abbrev main_call2_call0_c_9 : Ref sig .tc := ⟨.hbm, 381, rfl⟩
abbrev main_call2_call0_v44 : Ref sig .tc := ⟨.hbm, 382, rfl⟩
abbrev main_call2_call0_v45 : Ref sig .tc := ⟨.hbm, 383, rfl⟩
abbrev main_call2_call0_c_10 : Ref sig .tc := ⟨.hbm, 384, rfl⟩
abbrev main_call2_call0_v46 : Ref sig .tc := ⟨.hbm, 385, rfl⟩
abbrev main_call2_call0_v47 : Ref sig .tc := ⟨.hbm, 386, rfl⟩
abbrev main_call2_call0_v48 : Ref sig .tc := ⟨.hbm, 387, rfl⟩
abbrev main_call2_call0_v49 : Ref sig .tc := ⟨.hbm, 388, rfl⟩
abbrev main_call2_call0_v50 : Ref sig .tc := ⟨.hbm, 389, rfl⟩
abbrev main_call2_call0_c_11 : Ref sig .tc := ⟨.hbm, 390, rfl⟩
abbrev main_call2_call0_v51 : Ref sig .tc := ⟨.hbm, 391, rfl⟩
abbrev main_call2_call0_v52 : Ref sig .tc := ⟨.hbm, 392, rfl⟩
abbrev main_call2_call0_c_12 : Ref sig .tc := ⟨.hbm, 393, rfl⟩
abbrev main_call2_call0_v53 : Ref sig .tc := ⟨.hbm, 394, rfl⟩
abbrev main_call2_call0_v54 : Ref sig .tc := ⟨.hbm, 395, rfl⟩
abbrev main_call2_call0_v55 : Ref sig .tc := ⟨.hbm, 396, rfl⟩
abbrev main_call2_call0_v56 : Ref sig .tc := ⟨.hbm, 397, rfl⟩
abbrev main_call2_call0_v57 : Ref sig .tc := ⟨.hbm, 398, rfl⟩
abbrev main_call2_call0_c_13 : Ref sig .tc := ⟨.hbm, 399, rfl⟩
abbrev main_call2_call0_v58 : Ref sig .tc := ⟨.hbm, 400, rfl⟩
abbrev main_call2_call0_v59 : Ref sig .tc := ⟨.hbm, 401, rfl⟩
abbrev main_call2_call0_c_14 : Ref sig .tc := ⟨.hbm, 402, rfl⟩
abbrev main_call2_call0_v60 : Ref sig .tc := ⟨.hbm, 403, rfl⟩
abbrev main_call2_call0_v61 : Ref sig .tc := ⟨.hbm, 404, rfl⟩
abbrev main_call2_call0_v62 : Ref sig .tc := ⟨.hbm, 405, rfl⟩
abbrev main_call2_call0_v63 : Ref sig .tc := ⟨.hbm, 406, rfl⟩
abbrev main_call2_call0_v64 : Ref sig .tc := ⟨.hbm, 407, rfl⟩
abbrev main_call2_call0_c_15 : Ref sig .tc := ⟨.hbm, 408, rfl⟩
abbrev main_call2_call0_v65 : Ref sig .tc := ⟨.hbm, 409, rfl⟩
abbrev main_call2_call0_v66 : Ref sig .tc := ⟨.hbm, 410, rfl⟩
abbrev main_call2_call0_c_16 : Ref sig .tc := ⟨.hbm, 411, rfl⟩
abbrev main_call2_call0_v67 : Ref sig .tc := ⟨.hbm, 412, rfl⟩
abbrev main_call2_call0_v68 : Ref sig .tc := ⟨.hbm, 413, rfl⟩
abbrev main_call2_call0_v69 : Ref sig .tc := ⟨.hbm, 414, rfl⟩
abbrev main_call2_call0_v70 : Ref sig .tc := ⟨.hbm, 415, rfl⟩
abbrev main_call2_call0_v71 : Ref sig .tc := ⟨.hbm, 416, rfl⟩
abbrev main_call2_call0_v72 : Ref sig .tc := ⟨.hbm, 417, rfl⟩
abbrev main_call2_call0_v73 : Ref sig .tc := ⟨.hbm, 418, rfl⟩
abbrev main_call2_call0_v74 : Ref sig .tc := ⟨.hbm, 419, rfl⟩
abbrev main_call2_call0_c_17 : Ref sig .tc := ⟨.hbm, 420, rfl⟩
abbrev main_call2_call0_v75 : Ref sig .tc := ⟨.hbm, 421, rfl⟩
abbrev main_call2_call0_v76 : Ref sig .tc := ⟨.hbm, 422, rfl⟩
abbrev main_call2_call0_v77 : Ref sig .tc := ⟨.hbm, 423, rfl⟩
abbrev main_call2_call0_c_18 : Ref sig .tc := ⟨.hbm, 424, rfl⟩
abbrev main_call2_call0_v78 : Ref sig .tc := ⟨.hbm, 425, rfl⟩
abbrev main_call2_call0_v79 : Ref sig .tc := ⟨.hbm, 426, rfl⟩
abbrev main_call2_call0_c_19 : Ref sig .tc := ⟨.hbm, 427, rfl⟩
abbrev main_call2_call0_v80 : Ref sig .tc := ⟨.hbm, 428, rfl⟩
abbrev main_call2_call0_v81 : Ref sig .tc := ⟨.hbm, 429, rfl⟩
abbrev main_call2_call0_v82 : Ref sig .tc := ⟨.hbm, 430, rfl⟩
abbrev main_call2_call0_v83 : Ref sig .tc := ⟨.hbm, 431, rfl⟩
abbrev main_call2_call0_v84 : Ref sig .tc := ⟨.hbm, 432, rfl⟩
abbrev main_call2_call0_c_20 : Ref sig .tc := ⟨.hbm, 433, rfl⟩
abbrev main_call2_call0_v85 : Ref sig .tc := ⟨.hbm, 434, rfl⟩
abbrev main_call2_call0_v86 : Ref sig .tc := ⟨.hbm, 435, rfl⟩
abbrev main_call2_call0_c_21 : Ref sig .tc := ⟨.hbm, 436, rfl⟩
abbrev main_call2_call0_v87 : Ref sig .tc := ⟨.hbm, 437, rfl⟩
abbrev main_call2_call0_v88 : Ref sig .tc := ⟨.hbm, 438, rfl⟩
abbrev main_call2_call0_v89 : Ref sig .tc := ⟨.hbm, 439, rfl⟩
abbrev main_call2_call0_v90 : Ref sig .tc := ⟨.hbm, 440, rfl⟩
abbrev main_call2_call0_v91 : Ref sig .tc := ⟨.hbm, 441, rfl⟩
abbrev main_call2_call0_c_22 : Ref sig .tc := ⟨.hbm, 442, rfl⟩
abbrev main_call2_call0_v92 : Ref sig .tc := ⟨.hbm, 443, rfl⟩
abbrev main_call2_call0_v93 : Ref sig .tc := ⟨.hbm, 444, rfl⟩
abbrev main_call2_call0_c_23 : Ref sig .tc := ⟨.hbm, 445, rfl⟩
abbrev main_call2_call0_v94 : Ref sig .tc := ⟨.hbm, 446, rfl⟩
abbrev main_call2_call0_v95 : Ref sig .tc := ⟨.hbm, 447, rfl⟩
abbrev main_call2_call0_v96 : Ref sig .tc := ⟨.hbm, 448, rfl⟩
abbrev main_call2_call0_v97 : Ref sig .tc := ⟨.hbm, 449, rfl⟩
abbrev main_call2_call0_v98 : Ref sig .tc := ⟨.hbm, 450, rfl⟩
abbrev main_call2_call0_c_24 : Ref sig .tc := ⟨.hbm, 451, rfl⟩
abbrev main_call2_call0_v99 : Ref sig .tc := ⟨.hbm, 452, rfl⟩
abbrev main_call2_call0_v100 : Ref sig .tc := ⟨.hbm, 453, rfl⟩
abbrev main_call2_call0_c_25 : Ref sig .tc := ⟨.hbm, 454, rfl⟩
abbrev main_call2_call0_v101 : Ref sig .tc := ⟨.hbm, 455, rfl⟩
abbrev main_call2_call0_v102 : Ref sig .tc := ⟨.hbm, 456, rfl⟩
abbrev main_call2_call0_v103 : Ref sig .tc := ⟨.hbm, 457, rfl⟩
abbrev main_call2_call0_v104 : Ref sig .tc := ⟨.hbm, 458, rfl⟩
abbrev main_call2_call0_v105 : Ref sig .tc := ⟨.hbm, 459, rfl⟩
abbrev main_call2_call0_v106 : Ref sig .tc := ⟨.hbm, 460, rfl⟩
abbrev main_call2_call0_v107 : Ref sig .tc := ⟨.hbm, 461, rfl⟩
abbrev main_call2_call0_v108 : Ref sig .tc := ⟨.hbm, 462, rfl⟩
abbrev main_call2_call0_c_26 : Ref sig .tc := ⟨.hbm, 463, rfl⟩
abbrev main_call2_call0_v109 : Ref sig .tc := ⟨.hbm, 464, rfl⟩
abbrev main_call2_call0_v110 : Ref sig .tc := ⟨.hbm, 465, rfl⟩
abbrev main_call2_call0_v111 : Ref sig .tc := ⟨.hbm, 466, rfl⟩
abbrev main_call2_call0_c_27 : Ref sig .tc := ⟨.hbm, 467, rfl⟩
abbrev main_call2_call0_v112 : Ref sig .tc := ⟨.hbm, 468, rfl⟩
abbrev main_call2_call0_v113 : Ref sig .tc := ⟨.hbm, 469, rfl⟩
abbrev main_call2_call0_c_28 : Ref sig .tc := ⟨.hbm, 470, rfl⟩
abbrev main_call2_call0_v114 : Ref sig .tc := ⟨.hbm, 471, rfl⟩
abbrev main_call2_call0_v115 : Ref sig .tc := ⟨.hbm, 472, rfl⟩
abbrev main_call2_call0_v116 : Ref sig .tc := ⟨.hbm, 473, rfl⟩
abbrev main_call2_call0_v117 : Ref sig .tc := ⟨.hbm, 474, rfl⟩
abbrev main_call2_call0_v118 : Ref sig .tc := ⟨.hbm, 475, rfl⟩
abbrev main_call2_call0_c_29 : Ref sig .tc := ⟨.hbm, 476, rfl⟩
abbrev main_call2_call0_v119 : Ref sig .tc := ⟨.hbm, 477, rfl⟩
abbrev main_call2_call0_v120 : Ref sig .tc := ⟨.hbm, 478, rfl⟩
abbrev main_call2_call0_c_30 : Ref sig .tc := ⟨.hbm, 479, rfl⟩
abbrev main_call2_call0_v121 : Ref sig .tc := ⟨.hbm, 480, rfl⟩
abbrev main_call2_call0_v122 : Ref sig .tc := ⟨.hbm, 481, rfl⟩
abbrev main_call2_call0_v123 : Ref sig .tc := ⟨.hbm, 482, rfl⟩
abbrev main_call2_call0_v124 : Ref sig .tc := ⟨.hbm, 483, rfl⟩
abbrev main_call2_call0_v125 : Ref sig .tc := ⟨.hbm, 484, rfl⟩
abbrev main_call2_call0_c_31 : Ref sig .tc := ⟨.hbm, 485, rfl⟩
abbrev main_call2_call0_v126 : Ref sig .tc := ⟨.hbm, 486, rfl⟩
abbrev main_call2_call0_v127 : Ref sig .tc := ⟨.hbm, 487, rfl⟩
abbrev main_call2_call0_c_32 : Ref sig .tc := ⟨.hbm, 488, rfl⟩
abbrev main_call2_call0_v128 : Ref sig .tc := ⟨.hbm, 489, rfl⟩
abbrev main_call2_call0_v129 : Ref sig .tc := ⟨.hbm, 490, rfl⟩
abbrev main_call2_call0_v130 : Ref sig .tc := ⟨.hbm, 491, rfl⟩
abbrev main_call2_call0_v131 : Ref sig .tc := ⟨.hbm, 492, rfl⟩
abbrev main_call2_call0_v132 : Ref sig .tc := ⟨.hbm, 493, rfl⟩
abbrev main_call2_call0_c_33 : Ref sig .tc := ⟨.hbm, 494, rfl⟩
abbrev main_call2_call0_v133 : Ref sig .tc := ⟨.hbm, 495, rfl⟩
abbrev main_call2_call0_v134 : Ref sig .tc := ⟨.hbm, 496, rfl⟩
abbrev main_call2_call0_c_34 : Ref sig .tc := ⟨.hbm, 497, rfl⟩
abbrev main_call2_call0_v135 : Ref sig .tc := ⟨.hbm, 498, rfl⟩
abbrev main_call2_call0_v136 : Ref sig .tc := ⟨.hbm, 499, rfl⟩
abbrev main_call2_call0_v137 : Ref sig .tc := ⟨.hbm, 500, rfl⟩
abbrev main_call2_call0_v138 : Ref sig .tc := ⟨.hbm, 501, rfl⟩
abbrev main_call2_call0_v139 : Ref sig .tc := ⟨.hbm, 502, rfl⟩
abbrev main_call2_call0_v140 : Ref sig .tc := ⟨.hbm, 503, rfl⟩
abbrev main_call2_call0_v141 : Ref sig .tc := ⟨.hbm, 504, rfl⟩
abbrev main_call2_call0_v142 : Ref sig .tc := ⟨.hbm, 505, rfl⟩
abbrev main_call2_call0_c_35 : Ref sig .tc := ⟨.hbm, 506, rfl⟩
abbrev main_call2_call0_v143 : Ref sig .tc := ⟨.hbm, 507, rfl⟩
abbrev main_call2_call0_v144 : Ref sig .tc := ⟨.hbm, 508, rfl⟩
abbrev main_call2_call0_v145 : Ref sig .tc := ⟨.hbm, 509, rfl⟩
abbrev main_call2_call0_c_36 : Ref sig .tc := ⟨.hbm, 510, rfl⟩
abbrev main_call2_call0_v146 : Ref sig .tc := ⟨.hbm, 511, rfl⟩
abbrev main_call2_call0_v147 : Ref sig .tc := ⟨.hbm, 512, rfl⟩
abbrev main_call2_call0_c_37 : Ref sig .tc := ⟨.hbm, 513, rfl⟩
abbrev main_call2_call0_v148 : Ref sig .tc := ⟨.hbm, 514, rfl⟩
abbrev main_call2_call0_v149 : Ref sig .tc := ⟨.hbm, 515, rfl⟩
abbrev main_call2_call0_v150 : Ref sig .tc := ⟨.hbm, 516, rfl⟩
abbrev main_call2_call0_v151 : Ref sig .tc := ⟨.hbm, 517, rfl⟩
abbrev main_call2_call0_v152 : Ref sig .tc := ⟨.hbm, 518, rfl⟩
abbrev main_call2_call0_c_38 : Ref sig .tc := ⟨.hbm, 519, rfl⟩
abbrev main_call2_call0_v153 : Ref sig .tc := ⟨.hbm, 520, rfl⟩
abbrev main_call2_call0_v154 : Ref sig .tc := ⟨.hbm, 521, rfl⟩
abbrev main_call2_call0_c_39 : Ref sig .tc := ⟨.hbm, 522, rfl⟩
abbrev main_call2_call0_v155 : Ref sig .tc := ⟨.hbm, 523, rfl⟩
abbrev main_call2_call0_v156 : Ref sig .tc := ⟨.hbm, 524, rfl⟩
abbrev main_call2_call0_v157 : Ref sig .tc := ⟨.hbm, 525, rfl⟩
abbrev main_call2_call0_v158 : Ref sig .tc := ⟨.hbm, 526, rfl⟩
abbrev main_call2_call0_v159 : Ref sig .tc := ⟨.hbm, 527, rfl⟩
abbrev main_call2_call0_c_40 : Ref sig .tc := ⟨.hbm, 528, rfl⟩
abbrev main_call2_call0_v160 : Ref sig .tc := ⟨.hbm, 529, rfl⟩
abbrev main_call2_call0_v161 : Ref sig .tc := ⟨.hbm, 530, rfl⟩
abbrev main_call2_call0_c_41 : Ref sig .tc := ⟨.hbm, 531, rfl⟩
abbrev main_call2_call0_v162 : Ref sig .tc := ⟨.hbm, 532, rfl⟩
abbrev main_call2_call0_v163 : Ref sig .tc := ⟨.hbm, 533, rfl⟩
abbrev main_call2_call0_v164 : Ref sig .tc := ⟨.hbm, 534, rfl⟩
abbrev main_call2_call0_v165 : Ref sig .tc := ⟨.hbm, 535, rfl⟩
abbrev main_call2_call0_v166 : Ref sig .tc := ⟨.hbm, 536, rfl⟩
abbrev main_call2_call0_c_42 : Ref sig .tc := ⟨.hbm, 537, rfl⟩
abbrev main_call2_call0_v167 : Ref sig .tc := ⟨.hbm, 538, rfl⟩
abbrev main_call2_call0_v168 : Ref sig .tc := ⟨.hbm, 539, rfl⟩
abbrev main_call2_call0_c_43 : Ref sig .tc := ⟨.hbm, 540, rfl⟩
abbrev main_call2_call0_v169 : Ref sig .tc := ⟨.hbm, 541, rfl⟩
abbrev main_call2_call0_v170 : Ref sig .tc := ⟨.hbm, 542, rfl⟩
abbrev main_call2_call0_v171 : Ref sig .tc := ⟨.hbm, 543, rfl⟩
abbrev main_call2_call0_v172 : Ref sig .tc := ⟨.hbm, 544, rfl⟩
abbrev main_call2_call0_v173 : Ref sig .tc := ⟨.hbm, 545, rfl⟩
abbrev main_call2_v15_0 : Ref sig .tc := ⟨.hbm, 546, rfl⟩
abbrev main_call2_call0_v175 : Ref sig .tc := ⟨.hbm, 547, rfl⟩
abbrev main_call2_call0_v176 : Ref sig .tc := ⟨.hbm, 548, rfl⟩
abbrev main_call2_call0_c_44 : Ref sig .tc := ⟨.hbm, 549, rfl⟩
abbrev main_call2_call0_v177 : Ref sig .tc := ⟨.hbm, 550, rfl⟩
abbrev main_call2_v15_1 : Ref sig .tc := ⟨.hbm, 551, rfl⟩
abbrev main_call2_v16 : Ref sig .tc := ⟨.hbm, 552, rfl⟩
abbrev main_call2_v17 : Ref sig .tc := ⟨.hbm, 553, rfl⟩
abbrev main_v39 : Ref sig .tc := ⟨.hbm, 554, rfl⟩
abbrev main_v40 : Ref sig .tc := ⟨.hbm, 555, rfl⟩
abbrev main_v41 : Ref sig .tc := ⟨.hbm, 556, rfl⟩
abbrev main_v42 : Ref sig .tc := ⟨.hbm, 557, rfl⟩
abbrev main_v43 : Ref sig .tc := ⟨.hbm, 558, rfl⟩
abbrev main_v44 : Ref sig .tc := ⟨.hbm, 559, rfl⟩
abbrev main_v45 : Ref sig .tc := ⟨.hbm, 560, rfl⟩
abbrev main_c_12 : Ref sig .tc := ⟨.hbm, 561, rfl⟩
abbrev main_v46 : Ref sig .tc := ⟨.hbm, 562, rfl⟩
abbrev main_v47 : Ref sig .tc := ⟨.hbm, 563, rfl⟩
abbrev main_c_13 : Ref sig .tc := ⟨.hbm, 564, rfl⟩
abbrev main_v48 : Ref sig .tc := ⟨.hbm, 565, rfl⟩
abbrev main_v49 : Ref sig .tc := ⟨.hbm, 566, rfl⟩
abbrev main_v50 : Ref sig .tc := ⟨.hbm, 567, rfl⟩
abbrev main_c_14 : Ref sig .tc := ⟨.hbm, 568, rfl⟩
abbrev main_v51 : Ref sig .tc := ⟨.hbm, 569, rfl⟩
abbrev main_v52 : Ref sig .tc := ⟨.hbm, 570, rfl⟩
abbrev main_v53 : Ref sig .tc := ⟨.hbm, 571, rfl⟩
abbrev main_v54 : Ref sig .tc := ⟨.hbm, 572, rfl⟩
abbrev main_v55 : Ref sig .tc := ⟨.hbm, 573, rfl⟩
abbrev main_v56 : Ref sig .tc := ⟨.hbm, 574, rfl⟩
abbrev main_v57 : Ref sig .tc := ⟨.hbm, 575, rfl⟩
abbrev main_v58 : Ref sig .tc := ⟨.hbm, 576, rfl⟩
abbrev main_v59 : Ref sig .tc := ⟨.hbm, 577, rfl⟩
abbrev main_v60 : Ref sig .tc := ⟨.hbm, 578, rfl⟩
abbrev main_call3_v0 : Ref sig .tc := ⟨.hbm, 579, rfl⟩
abbrev main_call3_c : Ref sig .tc := ⟨.hbm, 580, rfl⟩
abbrev main_call3_v1 : Ref sig .tc := ⟨.hbm, 581, rfl⟩
abbrev main_call3_v2 : Ref sig .tc := ⟨.hbm, 582, rfl⟩
abbrev main_call3_v3 : Ref sig .tc := ⟨.hbm, 583, rfl⟩
abbrev main_call3_v4 : Ref sig .tc := ⟨.hbm, 584, rfl⟩
abbrev main_call3_v5 : Ref sig .tc := ⟨.hbm, 585, rfl⟩
abbrev main_call3_v6 : Ref sig .tc := ⟨.hbm, 586, rfl⟩
abbrev main_call3_v7 : Ref sig .tc := ⟨.hbm, 587, rfl⟩
abbrev main_call3_v8 : Ref sig .tc := ⟨.hbm, 588, rfl⟩
abbrev main_call3_v9 : Ref sig .tc := ⟨.hbm, 589, rfl⟩
abbrev main_call3_c_0 : Ref sig .tc := ⟨.hbm, 590, rfl⟩
abbrev main_call3_v10 : Ref sig .tc := ⟨.hbm, 591, rfl⟩
abbrev main_call3_v11 : Ref sig .tc := ⟨.hbm, 592, rfl⟩
abbrev main_call3_c_1 : Ref sig .tc := ⟨.hbm, 593, rfl⟩
abbrev main_call3_v12 : Ref sig .tc := ⟨.hbm, 594, rfl⟩
abbrev main_call3_v13 : Ref sig .tc := ⟨.hbm, 595, rfl⟩
abbrev main_call3_v14 : Ref sig .tc := ⟨.hbm, 596, rfl⟩
abbrev main_call3_v15 : Ref sig .tc := ⟨.hbm, 597, rfl⟩
abbrev main_call3_v16 : Ref sig .tc := ⟨.hbm, 598, rfl⟩
abbrev main_call3_c_2 : Ref sig .tc := ⟨.hbm, 599, rfl⟩
abbrev main_call3_v17 : Ref sig .tc := ⟨.hbm, 600, rfl⟩
abbrev main_call3_v18 : Ref sig .tc := ⟨.hbm, 601, rfl⟩
abbrev main_call3_c_3 : Ref sig .tc := ⟨.hbm, 602, rfl⟩
abbrev main_call3_v19 : Ref sig .tc := ⟨.hbm, 603, rfl⟩
abbrev main_call3_v20 : Ref sig .tc := ⟨.hbm, 604, rfl⟩
abbrev main_call3_v21 : Ref sig .tc := ⟨.hbm, 605, rfl⟩
abbrev main_call3_v22 : Ref sig .tc := ⟨.hbm, 606, rfl⟩
abbrev main_call3_v23 : Ref sig .tc := ⟨.hbm, 607, rfl⟩
abbrev main_call3_c_4 : Ref sig .tc := ⟨.hbm, 608, rfl⟩
abbrev main_call3_v24 : Ref sig .tc := ⟨.hbm, 609, rfl⟩
abbrev main_call3_v25 : Ref sig .tc := ⟨.hbm, 610, rfl⟩
abbrev main_call3_c_5 : Ref sig .tc := ⟨.hbm, 611, rfl⟩
abbrev main_call3_v26 : Ref sig .tc := ⟨.hbm, 612, rfl⟩
abbrev main_call3_v27 : Ref sig .tc := ⟨.hbm, 613, rfl⟩
abbrev main_call3_v28 : Ref sig .tc := ⟨.hbm, 614, rfl⟩
abbrev main_call3_v29 : Ref sig .tc := ⟨.hbm, 615, rfl⟩
abbrev main_call3_v30 : Ref sig .tc := ⟨.hbm, 616, rfl⟩
abbrev main_call3_c_6 : Ref sig .tc := ⟨.hbm, 617, rfl⟩
abbrev main_call3_v31 : Ref sig .tc := ⟨.hbm, 618, rfl⟩
abbrev main_call3_v32 : Ref sig .tc := ⟨.hbm, 619, rfl⟩
abbrev main_call3_c_7 : Ref sig .tc := ⟨.hbm, 620, rfl⟩
abbrev main_call3_v33 : Ref sig .tc := ⟨.hbm, 621, rfl⟩
abbrev main_call3_v34 : Ref sig .tc := ⟨.hbm, 622, rfl⟩
abbrev main_call3_v35 : Ref sig .tc := ⟨.hbm, 623, rfl⟩
abbrev main_call3_v36 : Ref sig .tc := ⟨.hbm, 624, rfl⟩
abbrev main_call3_v37 : Ref sig .tc := ⟨.hbm, 625, rfl⟩
abbrev main_call3_v38 : Ref sig .tc := ⟨.hbm, 626, rfl⟩
abbrev main_call3_v39 : Ref sig .tc := ⟨.hbm, 627, rfl⟩
abbrev main_call3_v40 : Ref sig .tc := ⟨.hbm, 628, rfl⟩
abbrev main_call3_c_8 : Ref sig .tc := ⟨.hbm, 629, rfl⟩
abbrev main_call3_v41 : Ref sig .tc := ⟨.hbm, 630, rfl⟩
abbrev main_call3_v42 : Ref sig .tc := ⟨.hbm, 631, rfl⟩
abbrev main_call3_v43 : Ref sig .tc := ⟨.hbm, 632, rfl⟩
abbrev main_call3_c_9 : Ref sig .tc := ⟨.hbm, 633, rfl⟩
abbrev main_call3_v44 : Ref sig .tc := ⟨.hbm, 634, rfl⟩
abbrev main_call3_v45 : Ref sig .tc := ⟨.hbm, 635, rfl⟩
abbrev main_call3_c_10 : Ref sig .tc := ⟨.hbm, 636, rfl⟩
abbrev main_call3_v46 : Ref sig .tc := ⟨.hbm, 637, rfl⟩
abbrev main_call3_v47 : Ref sig .tc := ⟨.hbm, 638, rfl⟩
abbrev main_call3_v48 : Ref sig .tc := ⟨.hbm, 639, rfl⟩
abbrev main_call3_v49 : Ref sig .tc := ⟨.hbm, 640, rfl⟩
abbrev main_call3_v50 : Ref sig .tc := ⟨.hbm, 641, rfl⟩
abbrev main_call3_c_11 : Ref sig .tc := ⟨.hbm, 642, rfl⟩
abbrev main_call3_v51 : Ref sig .tc := ⟨.hbm, 643, rfl⟩
abbrev main_call3_v52 : Ref sig .tc := ⟨.hbm, 644, rfl⟩
abbrev main_call3_c_12 : Ref sig .tc := ⟨.hbm, 645, rfl⟩
abbrev main_call3_v53 : Ref sig .tc := ⟨.hbm, 646, rfl⟩
abbrev main_call3_v54 : Ref sig .tc := ⟨.hbm, 647, rfl⟩
abbrev main_call3_v55 : Ref sig .tc := ⟨.hbm, 648, rfl⟩
abbrev main_call3_v56 : Ref sig .tc := ⟨.hbm, 649, rfl⟩
abbrev main_call3_v57 : Ref sig .tc := ⟨.hbm, 650, rfl⟩
abbrev main_call3_c_13 : Ref sig .tc := ⟨.hbm, 651, rfl⟩
abbrev main_call3_v58 : Ref sig .tc := ⟨.hbm, 652, rfl⟩
abbrev main_call3_v59 : Ref sig .tc := ⟨.hbm, 653, rfl⟩
abbrev main_call3_c_14 : Ref sig .tc := ⟨.hbm, 654, rfl⟩
abbrev main_call3_v60 : Ref sig .tc := ⟨.hbm, 655, rfl⟩
abbrev main_call3_v61 : Ref sig .tc := ⟨.hbm, 656, rfl⟩
abbrev main_call3_v62 : Ref sig .tc := ⟨.hbm, 657, rfl⟩
abbrev main_call3_v63 : Ref sig .tc := ⟨.hbm, 658, rfl⟩
abbrev main_call3_v64 : Ref sig .tc := ⟨.hbm, 659, rfl⟩
abbrev main_call3_c_15 : Ref sig .tc := ⟨.hbm, 660, rfl⟩
abbrev main_call3_v65 : Ref sig .tc := ⟨.hbm, 661, rfl⟩
abbrev main_call3_v66 : Ref sig .tc := ⟨.hbm, 662, rfl⟩
abbrev main_call3_c_16 : Ref sig .tc := ⟨.hbm, 663, rfl⟩
abbrev main_call3_v67 : Ref sig .tc := ⟨.hbm, 664, rfl⟩
abbrev main_call3_v68 : Ref sig .tc := ⟨.hbm, 665, rfl⟩
abbrev main_call3_v69 : Ref sig .tc := ⟨.hbm, 666, rfl⟩
abbrev main_call3_v70 : Ref sig .tc := ⟨.hbm, 667, rfl⟩
abbrev main_call3_v71 : Ref sig .tc := ⟨.hbm, 668, rfl⟩
abbrev main_call3_v72 : Ref sig .tc := ⟨.hbm, 669, rfl⟩
abbrev main_call3_v73 : Ref sig .tc := ⟨.hbm, 670, rfl⟩
abbrev main_call3_v74 : Ref sig .tc := ⟨.hbm, 671, rfl⟩
abbrev main_call3_c_17 : Ref sig .tc := ⟨.hbm, 672, rfl⟩
abbrev main_call3_v75 : Ref sig .tc := ⟨.hbm, 673, rfl⟩
abbrev main_call3_v76 : Ref sig .tc := ⟨.hbm, 674, rfl⟩
abbrev main_call3_v77 : Ref sig .tc := ⟨.hbm, 675, rfl⟩
abbrev main_call3_c_18 : Ref sig .tc := ⟨.hbm, 676, rfl⟩
abbrev main_call3_v78 : Ref sig .tc := ⟨.hbm, 677, rfl⟩
abbrev main_call3_v79 : Ref sig .tc := ⟨.hbm, 678, rfl⟩
abbrev main_call3_c_19 : Ref sig .tc := ⟨.hbm, 679, rfl⟩
abbrev main_call3_v80 : Ref sig .tc := ⟨.hbm, 680, rfl⟩
abbrev main_call3_v81 : Ref sig .tc := ⟨.hbm, 681, rfl⟩
abbrev main_call3_v82 : Ref sig .tc := ⟨.hbm, 682, rfl⟩
abbrev main_call3_v83 : Ref sig .tc := ⟨.hbm, 683, rfl⟩
abbrev main_call3_v84 : Ref sig .tc := ⟨.hbm, 684, rfl⟩
abbrev main_call3_c_20 : Ref sig .tc := ⟨.hbm, 685, rfl⟩
abbrev main_call3_v85 : Ref sig .tc := ⟨.hbm, 686, rfl⟩
abbrev main_call3_v86 : Ref sig .tc := ⟨.hbm, 687, rfl⟩
abbrev main_call3_c_21 : Ref sig .tc := ⟨.hbm, 688, rfl⟩
abbrev main_call3_v87 : Ref sig .tc := ⟨.hbm, 689, rfl⟩
abbrev main_call3_v88 : Ref sig .tc := ⟨.hbm, 690, rfl⟩
abbrev main_call3_v89 : Ref sig .tc := ⟨.hbm, 691, rfl⟩
abbrev main_call3_v90 : Ref sig .tc := ⟨.hbm, 692, rfl⟩
abbrev main_call3_v91 : Ref sig .tc := ⟨.hbm, 693, rfl⟩
abbrev main_call3_c_22 : Ref sig .tc := ⟨.hbm, 694, rfl⟩
abbrev main_call3_v92 : Ref sig .tc := ⟨.hbm, 695, rfl⟩
abbrev main_call3_v93 : Ref sig .tc := ⟨.hbm, 696, rfl⟩
abbrev main_call3_c_23 : Ref sig .tc := ⟨.hbm, 697, rfl⟩
abbrev main_call3_v94 : Ref sig .tc := ⟨.hbm, 698, rfl⟩
abbrev main_call3_v95 : Ref sig .tc := ⟨.hbm, 699, rfl⟩
abbrev main_call3_v96 : Ref sig .tc := ⟨.hbm, 700, rfl⟩
abbrev main_call3_v97 : Ref sig .tc := ⟨.hbm, 701, rfl⟩
abbrev main_call3_v98 : Ref sig .tc := ⟨.hbm, 702, rfl⟩
abbrev main_call3_c_24 : Ref sig .tc := ⟨.hbm, 703, rfl⟩
abbrev main_call3_v99 : Ref sig .tc := ⟨.hbm, 704, rfl⟩
abbrev main_call3_v100 : Ref sig .tc := ⟨.hbm, 705, rfl⟩
abbrev main_call3_c_25 : Ref sig .tc := ⟨.hbm, 706, rfl⟩
abbrev main_call3_v101 : Ref sig .tc := ⟨.hbm, 707, rfl⟩
abbrev main_call3_v102 : Ref sig .tc := ⟨.hbm, 708, rfl⟩
abbrev main_call3_v103 : Ref sig .tc := ⟨.hbm, 709, rfl⟩
abbrev main_call3_v104 : Ref sig .tc := ⟨.hbm, 710, rfl⟩
abbrev main_call3_v105 : Ref sig .tc := ⟨.hbm, 711, rfl⟩
abbrev main_call3_v106 : Ref sig .tc := ⟨.hbm, 712, rfl⟩
abbrev main_call3_v107 : Ref sig .tc := ⟨.hbm, 713, rfl⟩
abbrev main_call3_v108 : Ref sig .tc := ⟨.hbm, 714, rfl⟩
abbrev main_call3_c_26 : Ref sig .tc := ⟨.hbm, 715, rfl⟩
abbrev main_call3_v109 : Ref sig .tc := ⟨.hbm, 716, rfl⟩
abbrev main_call3_v110 : Ref sig .tc := ⟨.hbm, 717, rfl⟩
abbrev main_call3_v111 : Ref sig .tc := ⟨.hbm, 718, rfl⟩
abbrev main_call3_c_27 : Ref sig .tc := ⟨.hbm, 719, rfl⟩
abbrev main_call3_v112 : Ref sig .tc := ⟨.hbm, 720, rfl⟩
abbrev main_call3_v113 : Ref sig .tc := ⟨.hbm, 721, rfl⟩
abbrev main_call3_c_28 : Ref sig .tc := ⟨.hbm, 722, rfl⟩
abbrev main_call3_v114 : Ref sig .tc := ⟨.hbm, 723, rfl⟩
abbrev main_call3_v115 : Ref sig .tc := ⟨.hbm, 724, rfl⟩
abbrev main_call3_v116 : Ref sig .tc := ⟨.hbm, 725, rfl⟩
abbrev main_call3_v117 : Ref sig .tc := ⟨.hbm, 726, rfl⟩
abbrev main_call3_v118 : Ref sig .tc := ⟨.hbm, 727, rfl⟩
abbrev main_call3_c_29 : Ref sig .tc := ⟨.hbm, 728, rfl⟩
abbrev main_call3_v119 : Ref sig .tc := ⟨.hbm, 729, rfl⟩
abbrev main_call3_v120 : Ref sig .tc := ⟨.hbm, 730, rfl⟩
abbrev main_call3_c_30 : Ref sig .tc := ⟨.hbm, 731, rfl⟩
abbrev main_call3_v121 : Ref sig .tc := ⟨.hbm, 732, rfl⟩
abbrev main_call3_v122 : Ref sig .tc := ⟨.hbm, 733, rfl⟩
abbrev main_call3_v123 : Ref sig .tc := ⟨.hbm, 734, rfl⟩
abbrev main_call3_v124 : Ref sig .tc := ⟨.hbm, 735, rfl⟩
abbrev main_call3_v125 : Ref sig .tc := ⟨.hbm, 736, rfl⟩
abbrev main_call3_c_31 : Ref sig .tc := ⟨.hbm, 737, rfl⟩
abbrev main_call3_v126 : Ref sig .tc := ⟨.hbm, 738, rfl⟩
abbrev main_call3_v127 : Ref sig .tc := ⟨.hbm, 739, rfl⟩
abbrev main_call3_c_32 : Ref sig .tc := ⟨.hbm, 740, rfl⟩
abbrev main_call3_v128 : Ref sig .tc := ⟨.hbm, 741, rfl⟩
abbrev main_call3_v129 : Ref sig .tc := ⟨.hbm, 742, rfl⟩
abbrev main_call3_v130 : Ref sig .tc := ⟨.hbm, 743, rfl⟩
abbrev main_call3_v131 : Ref sig .tc := ⟨.hbm, 744, rfl⟩
abbrev main_call3_v132 : Ref sig .tc := ⟨.hbm, 745, rfl⟩
abbrev main_call3_c_33 : Ref sig .tc := ⟨.hbm, 746, rfl⟩
abbrev main_call3_v133 : Ref sig .tc := ⟨.hbm, 747, rfl⟩
abbrev main_call3_v134 : Ref sig .tc := ⟨.hbm, 748, rfl⟩
abbrev main_call3_c_34 : Ref sig .tc := ⟨.hbm, 749, rfl⟩
abbrev main_call3_v135 : Ref sig .tc := ⟨.hbm, 750, rfl⟩
abbrev main_call3_v136 : Ref sig .tc := ⟨.hbm, 751, rfl⟩
abbrev main_call3_v137 : Ref sig .tc := ⟨.hbm, 752, rfl⟩
abbrev main_call3_v138 : Ref sig .tc := ⟨.hbm, 753, rfl⟩
abbrev main_call3_v139 : Ref sig .tc := ⟨.hbm, 754, rfl⟩
abbrev main_call3_v140 : Ref sig .tc := ⟨.hbm, 755, rfl⟩
abbrev main_call3_v141 : Ref sig .tc := ⟨.hbm, 756, rfl⟩
abbrev main_call3_v142 : Ref sig .tc := ⟨.hbm, 757, rfl⟩
abbrev main_call3_c_35 : Ref sig .tc := ⟨.hbm, 758, rfl⟩
abbrev main_call3_v143 : Ref sig .tc := ⟨.hbm, 759, rfl⟩
abbrev main_call3_v144 : Ref sig .tc := ⟨.hbm, 760, rfl⟩
abbrev main_call3_v145 : Ref sig .tc := ⟨.hbm, 761, rfl⟩
abbrev main_call3_c_36 : Ref sig .tc := ⟨.hbm, 762, rfl⟩
abbrev main_call3_v146 : Ref sig .tc := ⟨.hbm, 763, rfl⟩
abbrev main_call3_v147 : Ref sig .tc := ⟨.hbm, 764, rfl⟩
abbrev main_call3_c_37 : Ref sig .tc := ⟨.hbm, 765, rfl⟩
abbrev main_call3_v148 : Ref sig .tc := ⟨.hbm, 766, rfl⟩
abbrev main_call3_v149 : Ref sig .tc := ⟨.hbm, 767, rfl⟩
abbrev main_call3_v150 : Ref sig .tc := ⟨.hbm, 768, rfl⟩
abbrev main_call3_v151 : Ref sig .tc := ⟨.hbm, 769, rfl⟩
abbrev main_call3_v152 : Ref sig .tc := ⟨.hbm, 770, rfl⟩
abbrev main_call3_c_38 : Ref sig .tc := ⟨.hbm, 771, rfl⟩
abbrev main_call3_v153 : Ref sig .tc := ⟨.hbm, 772, rfl⟩
abbrev main_call3_v154 : Ref sig .tc := ⟨.hbm, 773, rfl⟩
abbrev main_call3_c_39 : Ref sig .tc := ⟨.hbm, 774, rfl⟩
abbrev main_call3_v155 : Ref sig .tc := ⟨.hbm, 775, rfl⟩
abbrev main_call3_v156 : Ref sig .tc := ⟨.hbm, 776, rfl⟩
abbrev main_call3_v157 : Ref sig .tc := ⟨.hbm, 777, rfl⟩
abbrev main_call3_v158 : Ref sig .tc := ⟨.hbm, 778, rfl⟩
abbrev main_call3_v159 : Ref sig .tc := ⟨.hbm, 779, rfl⟩
abbrev main_call3_c_40 : Ref sig .tc := ⟨.hbm, 780, rfl⟩
abbrev main_call3_v160 : Ref sig .tc := ⟨.hbm, 781, rfl⟩
abbrev main_call3_v161 : Ref sig .tc := ⟨.hbm, 782, rfl⟩
abbrev main_call3_c_41 : Ref sig .tc := ⟨.hbm, 783, rfl⟩
abbrev main_call3_v162 : Ref sig .tc := ⟨.hbm, 784, rfl⟩
abbrev main_call3_v163 : Ref sig .tc := ⟨.hbm, 785, rfl⟩
abbrev main_call3_v164 : Ref sig .tc := ⟨.hbm, 786, rfl⟩
abbrev main_call3_v165 : Ref sig .tc := ⟨.hbm, 787, rfl⟩
abbrev main_call3_v166 : Ref sig .tc := ⟨.hbm, 788, rfl⟩
abbrev main_call3_c_42 : Ref sig .tc := ⟨.hbm, 789, rfl⟩
abbrev main_call3_v167 : Ref sig .tc := ⟨.hbm, 790, rfl⟩
abbrev main_call3_v168 : Ref sig .tc := ⟨.hbm, 791, rfl⟩
abbrev main_call3_c_43 : Ref sig .tc := ⟨.hbm, 792, rfl⟩
abbrev main_call3_v169 : Ref sig .tc := ⟨.hbm, 793, rfl⟩
abbrev main_call3_v170 : Ref sig .tc := ⟨.hbm, 794, rfl⟩
abbrev main_call3_v171 : Ref sig .tc := ⟨.hbm, 795, rfl⟩
abbrev main_call3_v172 : Ref sig .tc := ⟨.hbm, 796, rfl⟩
abbrev main_call3_v173 : Ref sig .tc := ⟨.hbm, 797, rfl⟩
abbrev main_v61_0 : Ref sig .tc := ⟨.hbm, 798, rfl⟩
abbrev main_call3_v175 : Ref sig .tc := ⟨.hbm, 799, rfl⟩
abbrev main_call3_v176 : Ref sig .tc := ⟨.hbm, 800, rfl⟩
abbrev main_call3_c_44 : Ref sig .tc := ⟨.hbm, 801, rfl⟩
abbrev main_call3_v177 : Ref sig .tc := ⟨.hbm, 802, rfl⟩
abbrev main_v61_1 : Ref sig .tc := ⟨.hbm, 803, rfl⟩
abbrev main_v62 : Ref sig .tc := ⟨.hbm, 804, rfl⟩
abbrev main_v63 : Ref sig .tc := ⟨.hbm, 805, rfl⟩
abbrev main_v64 : Ref sig .tc := ⟨.hbm, 806, rfl⟩
abbrev main_c_15 : Ref sig .tc := ⟨.hbm, 807, rfl⟩
abbrev main_v65 : Ref sig .tc := ⟨.hbm, 808, rfl⟩
abbrev main_v66 : Ref sig .tc := ⟨.hbm, 809, rfl⟩
abbrev main_c_16 : Ref sig .tc := ⟨.hbm, 810, rfl⟩
abbrev main_v67 : Ref sig .tc := ⟨.hbm, 811, rfl⟩
abbrev main_v68 : Ref sig .tc := ⟨.hbm, 812, rfl⟩
abbrev main_v69 : Ref sig .tc := ⟨.hbm, 813, rfl⟩
abbrev main_cst_17 : Ref sig .tc := ⟨.hbm, 814, rfl⟩
abbrev main_v70 : Ref sig .tc := ⟨.hbm, 815, rfl⟩
abbrev main_v71 : Ref sig .tc := ⟨.hbm, 816, rfl⟩
abbrev main_cst_18 : Ref sig .tc := ⟨.hbm, 817, rfl⟩
abbrev main_v72 : Ref sig .tc := ⟨.hbm, 818, rfl⟩
abbrev main_v73 : Ref sig .tc := ⟨.hbm, 819, rfl⟩
abbrev main_cst_19 : Ref sig .tc := ⟨.hbm, 820, rfl⟩
abbrev main_v74 : Ref sig .tc := ⟨.hbm, 821, rfl⟩
abbrev main_v75 : Ref sig .tc := ⟨.hbm, 822, rfl⟩
abbrev main_cst_20 : Ref sig .tc := ⟨.hbm, 823, rfl⟩
abbrev main_v76 : Ref sig .tc := ⟨.hbm, 824, rfl⟩
abbrev main_v77 : Ref sig .tc := ⟨.hbm, 825, rfl⟩
abbrev main_v78 : Ref sig .tc := ⟨.hbm, 826, rfl⟩
abbrev main_v79 : Ref sig .tc := ⟨.hbm, 827, rfl⟩
abbrev main_v80 : Ref sig .tc := ⟨.hbm, 828, rfl⟩
abbrev main_v81 : Ref sig .tc := ⟨.hbm, 829, rfl⟩
abbrev main_cst_21 : Ref sig .tc := ⟨.hbm, 830, rfl⟩
abbrev main_v82 : Ref sig .tc := ⟨.hbm, 831, rfl⟩
abbrev main_v83 : Ref sig .tc := ⟨.hbm, 832, rfl⟩
abbrev main_cst_22 : Ref sig .tc := ⟨.hbm, 833, rfl⟩
abbrev main_v84 : Ref sig .tc := ⟨.hbm, 834, rfl⟩
abbrev main_v85 : Ref sig .tc := ⟨.hbm, 835, rfl⟩
abbrev main_v86 : Ref sig .tc := ⟨.hbm, 836, rfl⟩
abbrev main_cst_23 : Ref sig .tc := ⟨.hbm, 837, rfl⟩
abbrev main_v87 : Ref sig .tc := ⟨.hbm, 838, rfl⟩
abbrev main_v88 : Ref sig .tc := ⟨.hbm, 839, rfl⟩
abbrev main_v89 : Ref sig .tc := ⟨.hbm, 840, rfl⟩
abbrev main_cst_24 : Ref sig .tc := ⟨.hbm, 841, rfl⟩
abbrev main_cst_25 : Ref sig .tc := ⟨.hbm, 842, rfl⟩
abbrev main_call5_v0 : Ref sig .tc := ⟨.hbm, 843, rfl⟩
abbrev main_call5_v1 : Ref sig .tc := ⟨.hbm, 844, rfl⟩
abbrev main_v90 : Ref sig .tc := ⟨.hbm, 845, rfl⟩
abbrev main_cst_26 : Ref sig .tc := ⟨.hbm, 846, rfl⟩
abbrev main_cst_27 : Ref sig .tc := ⟨.hbm, 847, rfl⟩
abbrev main_call6_v0 : Ref sig .tc := ⟨.hbm, 848, rfl⟩
abbrev main_call6_v1 : Ref sig .tc := ⟨.hbm, 849, rfl⟩
abbrev main_v91 : Ref sig .tc := ⟨.hbm, 850, rfl⟩
abbrev main_v92 : Ref sig .tc := ⟨.hbm, 851, rfl⟩
abbrev main_v93 : Ref sig .tc := ⟨.hbm, 852, rfl⟩
abbrev main_v94 : Ref sig .tc := ⟨.hbm, 853, rfl⟩
abbrev main_v95 : Ref sig .tc := ⟨.hbm, 854, rfl⟩
abbrev main_cst_28 : Ref sig .tc := ⟨.hbm, 855, rfl⟩
abbrev main_cst_29 : Ref sig .tc := ⟨.hbm, 856, rfl⟩
abbrev main_call7_v0 : Ref sig .tc := ⟨.hbm, 857, rfl⟩
abbrev main_call7_v1 : Ref sig .tc := ⟨.hbm, 858, rfl⟩
abbrev main_v96 : Ref sig .tc := ⟨.hbm, 859, rfl⟩
abbrev main_v97 : Ref sig .tc := ⟨.hbm, 860, rfl⟩
abbrev main_v98 : Ref sig .tc := ⟨.hbm, 861, rfl⟩
abbrev main_v99 : Ref sig .tc := ⟨.hbm, 862, rfl⟩
abbrev main_cst_30 : Ref sig .tc := ⟨.hbm, 863, rfl⟩
abbrev main_cst_31 : Ref sig .tc := ⟨.hbm, 864, rfl⟩
abbrev main_call8_v0 : Ref sig .tc := ⟨.hbm, 865, rfl⟩
abbrev main_call8_v1 : Ref sig .tc := ⟨.hbm, 866, rfl⟩
abbrev main_v100 : Ref sig .tc := ⟨.hbm, 867, rfl⟩
abbrev main_v101 : Ref sig .tc := ⟨.hbm, 868, rfl⟩
abbrev main_v102 : Ref sig .tc := ⟨.hbm, 869, rfl⟩
abbrev main_v103 : Ref sig .tc := ⟨.hbm, 870, rfl⟩
abbrev main_cst_32 : Ref sig .tc := ⟨.hbm, 871, rfl⟩
abbrev main_cst_33 : Ref sig .tc := ⟨.hbm, 872, rfl⟩
abbrev main_call9_v0 : Ref sig .tc := ⟨.hbm, 873, rfl⟩
abbrev main_call9_v1 : Ref sig .tc := ⟨.hbm, 874, rfl⟩
abbrev main_v104 : Ref sig .tc := ⟨.hbm, 875, rfl⟩
abbrev main_v105 : Ref sig .tc := ⟨.hbm, 876, rfl⟩
abbrev main_v106 : Ref sig .tc := ⟨.hbm, 877, rfl⟩
abbrev main_v107 : Ref sig .tc := ⟨.hbm, 878, rfl⟩
abbrev main_cst_34 : Ref sig .tc := ⟨.hbm, 879, rfl⟩
abbrev main_cst_35 : Ref sig .tc := ⟨.hbm, 880, rfl⟩
abbrev main_call10_v0 : Ref sig .tc := ⟨.hbm, 881, rfl⟩
abbrev main_call10_v1 : Ref sig .tc := ⟨.hbm, 882, rfl⟩
abbrev main_v108 : Ref sig .tc := ⟨.hbm, 883, rfl⟩
abbrev main_v109 : Ref sig .tc := ⟨.hbm, 884, rfl⟩
abbrev main_v110 : Ref sig .tc := ⟨.hbm, 885, rfl⟩
abbrev main_v111 : Ref sig .tc := ⟨.hbm, 886, rfl⟩
abbrev main_cst_36 : Ref sig .tc := ⟨.hbm, 887, rfl⟩
abbrev main_cst_37 : Ref sig .tc := ⟨.hbm, 888, rfl⟩
abbrev main_call11_v0 : Ref sig .tc := ⟨.hbm, 889, rfl⟩
abbrev main_call11_v1 : Ref sig .tc := ⟨.hbm, 890, rfl⟩
abbrev main_v112 : Ref sig .tc := ⟨.hbm, 891, rfl⟩
abbrev main_v113 : Ref sig .tc := ⟨.hbm, 892, rfl⟩
abbrev main_v114 : Ref sig .tc := ⟨.hbm, 893, rfl⟩
abbrev main_v115 : Ref sig .tc := ⟨.hbm, 894, rfl⟩
abbrev main_cst_38 : Ref sig .tc := ⟨.hbm, 895, rfl⟩
abbrev main_cst_39 : Ref sig .tc := ⟨.hbm, 896, rfl⟩
abbrev main_call12_v0 : Ref sig .tc := ⟨.hbm, 897, rfl⟩
abbrev main_call12_v1 : Ref sig .tc := ⟨.hbm, 898, rfl⟩
abbrev main_v116 : Ref sig .tc := ⟨.hbm, 899, rfl⟩
abbrev main_v117 : Ref sig .tc := ⟨.hbm, 900, rfl⟩
abbrev main_v118 : Ref sig .tc := ⟨.hbm, 901, rfl⟩
abbrev main_v119 : Ref sig .tc := ⟨.hbm, 902, rfl⟩
abbrev main_cst_40 : Ref sig .tc := ⟨.hbm, 903, rfl⟩
abbrev main_cst_41 : Ref sig .tc := ⟨.hbm, 904, rfl⟩
abbrev main_call13_v0 : Ref sig .tc := ⟨.hbm, 905, rfl⟩
abbrev main_call13_v1 : Ref sig .tc := ⟨.hbm, 906, rfl⟩
abbrev main_v120 : Ref sig .tc := ⟨.hbm, 907, rfl⟩
abbrev main_v121 : Ref sig .tc := ⟨.hbm, 908, rfl⟩
abbrev main_v122 : Ref sig .tc := ⟨.hbm, 909, rfl⟩
abbrev main_v123 : Ref sig .tc := ⟨.hbm, 910, rfl⟩
abbrev main_v124 : Ref sig .tc := ⟨.hbm, 911, rfl⟩
abbrev main_cst_42 : Ref sig .tc := ⟨.hbm, 912, rfl⟩
abbrev main_v125 : Ref sig .tc := ⟨.hbm, 913, rfl⟩
abbrev main_v126 : Ref sig .tc := ⟨.hbm, 914, rfl⟩
abbrev main_v127 : Ref sig .tc := ⟨.hbm, 915, rfl⟩
abbrev main_v128 : Ref sig .tc := ⟨.hbm, 916, rfl⟩
abbrev main_c_43 : Ref sig .tc := ⟨.hbm, 917, rfl⟩
abbrev main_v129 : Ref sig .tc := ⟨.hbm, 918, rfl⟩
abbrev main_v130 : Ref sig .tc := ⟨.hbm, 919, rfl⟩
abbrev main_c_44 : Ref sig .tc := ⟨.hbm, 920, rfl⟩
abbrev main_v131 : Ref sig .tc := ⟨.hbm, 921, rfl⟩
abbrev main_v132 : Ref sig .tc := ⟨.hbm, 922, rfl⟩
abbrev main_v133 : Ref sig .tc := ⟨.hbm, 923, rfl⟩
abbrev main_cst_45 : Ref sig .tc := ⟨.hbm, 924, rfl⟩
abbrev main_v134 : Ref sig .tc := ⟨.hbm, 925, rfl⟩
abbrev main_v135 : Ref sig .tc := ⟨.hbm, 926, rfl⟩
abbrev main_v136 : Ref sig .tc := ⟨.hbm, 927, rfl⟩
abbrev main_v137 : Ref sig .tc := ⟨.hbm, 928, rfl⟩
abbrev main_v138 : Ref sig .tc := ⟨.hbm, 929, rfl⟩
abbrev main_v139 : Ref sig .tc := ⟨.hbm, 930, rfl⟩
abbrev main_v140 : Ref sig .tc := ⟨.hbm, 931, rfl⟩
abbrev main_v141 : Ref sig .tc := ⟨.hbm, 932, rfl⟩
abbrev main_v142 : Ref sig .tc := ⟨.hbm, 933, rfl⟩
abbrev main_v143 : Ref sig .tc := ⟨.hbm, 934, rfl⟩
abbrev main_v144 : Ref sig .tc := ⟨.hbm, 935, rfl⟩
abbrev main_v145 : Ref sig .tc := ⟨.hbm, 936, rfl⟩
abbrev main_c_46 : Ref sig .tc := ⟨.hbm, 937, rfl⟩
abbrev main_v146 : Ref sig .tc := ⟨.hbm, 938, rfl⟩
abbrev main_v147 : Ref sig .tc := ⟨.hbm, 939, rfl⟩
abbrev main_v148 : Ref sig .tc := ⟨.hbm, 940, rfl⟩
abbrev main_v149 : Ref sig .tc := ⟨.hbm, 941, rfl⟩
abbrev main_v150 : Ref sig .tc := ⟨.hbm, 942, rfl⟩
abbrev main_call14_v0 : Ref sig .tc := ⟨.hbm, 943, rfl⟩
abbrev main_call14_v1 : Ref sig .tc := ⟨.hbm, 944, rfl⟩
abbrev main_v151 : Ref sig .tc := ⟨.hbm, 945, rfl⟩
abbrev main_v152 : Ref sig .tc := ⟨.hbm, 946, rfl⟩
abbrev main_v153 : Ref sig .tc := ⟨.hbm, 947, rfl⟩
abbrev main_v154 : Ref sig .tc := ⟨.hbm, 948, rfl⟩
abbrev main_v155 : Ref sig .tc := ⟨.hbm, 949, rfl⟩
abbrev main_v156 : Ref sig .tc := ⟨.hbm, 950, rfl⟩
abbrev main_v157 : Ref sig .tc := ⟨.hbm, 951, rfl⟩
abbrev main_cst_47 : Ref sig .tc := ⟨.hbm, 952, rfl⟩
abbrev main_v158 : Ref sig .tc := ⟨.hbm, 953, rfl⟩
abbrev main_cst_48 : Ref sig .tc := ⟨.hbm, 954, rfl⟩
abbrev main_v159 : Ref sig .tc := ⟨.hbm, 955, rfl⟩
abbrev main_cst_49 : Ref sig .tc := ⟨.hbm, 956, rfl⟩
abbrev main_v160 : Ref sig .tc := ⟨.hbm, 957, rfl⟩
abbrev main_v161 : Ref sig .tc := ⟨.hbm, 958, rfl⟩
abbrev main_v162 : Ref sig .tc := ⟨.hbm, 959, rfl⟩
abbrev main_v163 : Ref sig .tc := ⟨.hbm, 960, rfl⟩
abbrev main_cst_50 : Ref sig .tc := ⟨.hbm, 961, rfl⟩
abbrev main_v164 : Ref sig .tc := ⟨.hbm, 962, rfl⟩
abbrev main_v165 : Ref sig .tc := ⟨.hbm, 963, rfl⟩
abbrev main_v166 : Ref sig .tc := ⟨.hbm, 964, rfl⟩
abbrev main_v167 : Ref sig .tc := ⟨.hbm, 965, rfl⟩
abbrev main_v168 : Ref sig .tc := ⟨.hbm, 966, rfl⟩
abbrev main_c_51 : Ref sig .tc := ⟨.hbm, 967, rfl⟩
abbrev main_v169 : Ref sig .tc := ⟨.hbm, 968, rfl⟩
abbrev main_v170 : Ref sig .tc := ⟨.hbm, 969, rfl⟩
abbrev main_v171 : Ref sig .tc := ⟨.hbm, 970, rfl⟩
abbrev main_v172 : Ref sig .tc := ⟨.hbm, 971, rfl⟩
abbrev main_v173 : Ref sig .tc := ⟨.hbm, 972, rfl⟩
abbrev main_call15_v0 : Ref sig .tc := ⟨.hbm, 973, rfl⟩
abbrev main_call15_v1 : Ref sig .tc := ⟨.hbm, 974, rfl⟩
abbrev main_v174 : Ref sig .tc := ⟨.hbm, 975, rfl⟩
abbrev main_v175 : Ref sig .tc := ⟨.hbm, 976, rfl⟩
abbrev main_v176 : Ref sig .tc := ⟨.hbm, 977, rfl⟩
abbrev main_v177 : Ref sig .tc := ⟨.hbm, 978, rfl⟩
abbrev main_v178 : Ref sig .tc := ⟨.hbm, 979, rfl⟩
abbrev main_v179 : Ref sig .tc := ⟨.hbm, 980, rfl⟩
abbrev main_v180 : Ref sig .tc := ⟨.hbm, 981, rfl⟩
abbrev main_cst_52 : Ref sig .tc := ⟨.hbm, 982, rfl⟩
abbrev main_v181 : Ref sig .tc := ⟨.hbm, 983, rfl⟩
abbrev main_cst_53 : Ref sig .tc := ⟨.hbm, 984, rfl⟩
abbrev main_v182 : Ref sig .tc := ⟨.hbm, 985, rfl⟩
abbrev main_cst_54 : Ref sig .tc := ⟨.hbm, 986, rfl⟩
abbrev main_v183 : Ref sig .tc := ⟨.hbm, 987, rfl⟩
abbrev main_v184 : Ref sig .tc := ⟨.hbm, 988, rfl⟩
abbrev main_v185 : Ref sig .tc := ⟨.hbm, 989, rfl⟩
abbrev main_v186 : Ref sig .tc := ⟨.hbm, 990, rfl⟩
abbrev main_cst_55 : Ref sig .tc := ⟨.hbm, 991, rfl⟩
abbrev main_v187 : Ref sig .tc := ⟨.hbm, 992, rfl⟩
abbrev main_v188 : Ref sig .tc := ⟨.hbm, 993, rfl⟩
abbrev main_v189 : Ref sig .tc := ⟨.hbm, 994, rfl⟩
abbrev main_v190 : Ref sig .tc := ⟨.hbm, 995, rfl⟩
abbrev main_v191 : Ref sig .tc := ⟨.hbm, 996, rfl⟩
abbrev main_v192 : Ref sig .tc := ⟨.hbm, 997, rfl⟩
abbrev main_v193 : Ref sig .tc := ⟨.hbm, 998, rfl⟩
abbrev main_v194 : Ref sig .tc := ⟨.hbm, 999, rfl⟩
abbrev main_v195 : Ref sig .tc := ⟨.hbm, 1000, rfl⟩
abbrev main_v196 : Ref sig .tc := ⟨.hbm, 1001, rfl⟩
abbrev main_v197 : Ref sig .tc := ⟨.hbm, 1002, rfl⟩
abbrev main_v198 : Ref sig .tc := ⟨.hbm, 1003, rfl⟩
abbrev main_v199 : Ref sig .tc := ⟨.hbm, 1004, rfl⟩
abbrev main_v200 : Ref sig .tc := ⟨.hbm, 1005, rfl⟩
abbrev main_v201 : Ref sig .tc := ⟨.hbm, 1006, rfl⟩
abbrev main_v202 : Ref sig .tc := ⟨.hbm, 1007, rfl⟩
abbrev main_v203 : Ref sig .tc := ⟨.hbm, 1008, rfl⟩
abbrev main_c_56 : Ref sig .tc := ⟨.hbm, 1009, rfl⟩
abbrev main_v204 : Ref sig .tc := ⟨.hbm, 1010, rfl⟩
abbrev main_v205 : Ref sig .tc := ⟨.hbm, 1011, rfl⟩
abbrev main_v206 : Ref sig .tc := ⟨.hbm, 1012, rfl⟩
abbrev main_v207 : Ref sig .tc := ⟨.hbm, 1013, rfl⟩
abbrev main_v208 : Ref sig .tc := ⟨.hbm, 1014, rfl⟩
abbrev main_call17_v0 : Ref sig .tc := ⟨.hbm, 1015, rfl⟩
abbrev main_call17_v1 : Ref sig .tc := ⟨.hbm, 1016, rfl⟩
abbrev main_v209 : Ref sig .tc := ⟨.hbm, 1017, rfl⟩
abbrev main_v210 : Ref sig .tc := ⟨.hbm, 1018, rfl⟩
abbrev main_v211 : Ref sig .tc := ⟨.hbm, 1019, rfl⟩
abbrev main_v212 : Ref sig .tc := ⟨.hbm, 1020, rfl⟩
abbrev main_v213 : Ref sig .tc := ⟨.hbm, 1021, rfl⟩
abbrev main_v214 : Ref sig .tc := ⟨.hbm, 1022, rfl⟩
abbrev main_v215 : Ref sig .tc := ⟨.hbm, 1023, rfl⟩
abbrev main_cst_57 : Ref sig .tc := ⟨.hbm, 1024, rfl⟩
abbrev main_v216 : Ref sig .tc := ⟨.hbm, 1025, rfl⟩
abbrev main_cst_58 : Ref sig .tc := ⟨.hbm, 1026, rfl⟩
abbrev main_v217 : Ref sig .tc := ⟨.hbm, 1027, rfl⟩
abbrev main_cst_59 : Ref sig .tc := ⟨.hbm, 1028, rfl⟩
abbrev main_v218 : Ref sig .tc := ⟨.hbm, 1029, rfl⟩
abbrev main_v219 : Ref sig .tc := ⟨.hbm, 1030, rfl⟩
abbrev main_v220 : Ref sig .tc := ⟨.hbm, 1031, rfl⟩
abbrev main_v221 : Ref sig .tc := ⟨.hbm, 1032, rfl⟩
abbrev main_cst_60 : Ref sig .tc := ⟨.hbm, 1033, rfl⟩
abbrev main_v222 : Ref sig .tc := ⟨.hbm, 1034, rfl⟩
abbrev main_v223 : Ref sig .tc := ⟨.hbm, 1035, rfl⟩
abbrev main_v224 : Ref sig .tc := ⟨.hbm, 1036, rfl⟩
abbrev main_v225 : Ref sig .tc := ⟨.hbm, 1037, rfl⟩
abbrev main_v226 : Ref sig .tc := ⟨.hbm, 1038, rfl⟩
abbrev main_c_61 : Ref sig .tc := ⟨.hbm, 1039, rfl⟩
abbrev main_v227 : Ref sig .tc := ⟨.hbm, 1040, rfl⟩
abbrev main_v228 : Ref sig .tc := ⟨.hbm, 1041, rfl⟩
abbrev main_v229 : Ref sig .tc := ⟨.hbm, 1042, rfl⟩
abbrev main_v230 : Ref sig .tc := ⟨.hbm, 1043, rfl⟩
abbrev main_v231 : Ref sig .tc := ⟨.hbm, 1044, rfl⟩
abbrev main_call18_v0 : Ref sig .tc := ⟨.hbm, 1045, rfl⟩
abbrev main_call18_v1 : Ref sig .tc := ⟨.hbm, 1046, rfl⟩
abbrev main_v232 : Ref sig .tc := ⟨.hbm, 1047, rfl⟩
abbrev main_v233 : Ref sig .tc := ⟨.hbm, 1048, rfl⟩
abbrev main_v234 : Ref sig .tc := ⟨.hbm, 1049, rfl⟩
abbrev main_v235 : Ref sig .tc := ⟨.hbm, 1050, rfl⟩
abbrev main_v236 : Ref sig .tc := ⟨.hbm, 1051, rfl⟩
abbrev main_v237 : Ref sig .tc := ⟨.hbm, 1052, rfl⟩
abbrev main_v238 : Ref sig .tc := ⟨.hbm, 1053, rfl⟩
abbrev main_cst_62 : Ref sig .tc := ⟨.hbm, 1054, rfl⟩
abbrev main_v239 : Ref sig .tc := ⟨.hbm, 1055, rfl⟩
abbrev main_cst_63 : Ref sig .tc := ⟨.hbm, 1056, rfl⟩
abbrev main_v240 : Ref sig .tc := ⟨.hbm, 1057, rfl⟩
abbrev main_cst_64 : Ref sig .tc := ⟨.hbm, 1058, rfl⟩
abbrev main_v241 : Ref sig .tc := ⟨.hbm, 1059, rfl⟩
abbrev main_v242 : Ref sig .tc := ⟨.hbm, 1060, rfl⟩
abbrev main_v243 : Ref sig .tc := ⟨.hbm, 1061, rfl⟩
abbrev main_v244 : Ref sig .tc := ⟨.hbm, 1062, rfl⟩
abbrev main_cst_65 : Ref sig .tc := ⟨.hbm, 1063, rfl⟩
abbrev main_v245 : Ref sig .tc := ⟨.hbm, 1064, rfl⟩
abbrev main_v246 : Ref sig .tc := ⟨.hbm, 1065, rfl⟩
abbrev main_v247 : Ref sig .tc := ⟨.hbm, 1066, rfl⟩
abbrev main_v248 : Ref sig .tc := ⟨.hbm, 1067, rfl⟩
abbrev main_v249 : Ref sig .tc := ⟨.hbm, 1068, rfl⟩
abbrev main_v250 : Ref sig .tc := ⟨.hbm, 1069, rfl⟩
abbrev main_v251 : Ref sig .tc := ⟨.hbm, 1070, rfl⟩
abbrev main_v252 : Ref sig .tc := ⟨.hbm, 1071, rfl⟩
abbrev main_v253 : Ref sig .tc := ⟨.hbm, 1072, rfl⟩
abbrev main_v254 : Ref sig .tc := ⟨.hbm, 1073, rfl⟩
abbrev main_v255 : Ref sig .tc := ⟨.hbm, 1074, rfl⟩
abbrev main_v256 : Ref sig .tc := ⟨.hbm, 1075, rfl⟩
abbrev main_v257 : Ref sig .tc := ⟨.hbm, 1076, rfl⟩
abbrev main_v258 : Ref sig .tc := ⟨.hbm, 1077, rfl⟩
abbrev main_v259 : Ref sig .tc := ⟨.hbm, 1078, rfl⟩
abbrev main_v260 : Ref sig .tc := ⟨.hbm, 1079, rfl⟩
abbrev main_v261 : Ref sig .tc := ⟨.hbm, 1080, rfl⟩
abbrev main_c_66 : Ref sig .tc := ⟨.hbm, 1081, rfl⟩
abbrev main_v262 : Ref sig .tc := ⟨.hbm, 1082, rfl⟩
abbrev main_v263 : Ref sig .tc := ⟨.hbm, 1083, rfl⟩
abbrev main_v264 : Ref sig .tc := ⟨.hbm, 1084, rfl⟩
abbrev main_v265 : Ref sig .tc := ⟨.hbm, 1085, rfl⟩
abbrev main_v266 : Ref sig .tc := ⟨.hbm, 1086, rfl⟩
abbrev main_call20_v0 : Ref sig .tc := ⟨.hbm, 1087, rfl⟩
abbrev main_call20_v1 : Ref sig .tc := ⟨.hbm, 1088, rfl⟩
abbrev main_v267 : Ref sig .tc := ⟨.hbm, 1089, rfl⟩
abbrev main_v268 : Ref sig .tc := ⟨.hbm, 1090, rfl⟩
abbrev main_v269 : Ref sig .tc := ⟨.hbm, 1091, rfl⟩
abbrev main_v270 : Ref sig .tc := ⟨.hbm, 1092, rfl⟩
abbrev main_v271 : Ref sig .tc := ⟨.hbm, 1093, rfl⟩
abbrev main_v272 : Ref sig .tc := ⟨.hbm, 1094, rfl⟩
abbrev main_v273 : Ref sig .tc := ⟨.hbm, 1095, rfl⟩
abbrev main_cst_67 : Ref sig .tc := ⟨.hbm, 1096, rfl⟩
abbrev main_v274 : Ref sig .tc := ⟨.hbm, 1097, rfl⟩
abbrev main_cst_68 : Ref sig .tc := ⟨.hbm, 1098, rfl⟩
abbrev main_v275 : Ref sig .tc := ⟨.hbm, 1099, rfl⟩
abbrev main_cst_69 : Ref sig .tc := ⟨.hbm, 1100, rfl⟩
abbrev main_v276 : Ref sig .tc := ⟨.hbm, 1101, rfl⟩
abbrev main_v277 : Ref sig .tc := ⟨.hbm, 1102, rfl⟩
abbrev main_v278 : Ref sig .tc := ⟨.hbm, 1103, rfl⟩
abbrev main_v279 : Ref sig .tc := ⟨.hbm, 1104, rfl⟩
abbrev main_cst_70 : Ref sig .tc := ⟨.hbm, 1105, rfl⟩
abbrev main_v280 : Ref sig .tc := ⟨.hbm, 1106, rfl⟩
abbrev main_v281 : Ref sig .tc := ⟨.hbm, 1107, rfl⟩
abbrev main_v282 : Ref sig .tc := ⟨.hbm, 1108, rfl⟩
abbrev main_v283 : Ref sig .tc := ⟨.hbm, 1109, rfl⟩
abbrev main_v284 : Ref sig .tc := ⟨.hbm, 1110, rfl⟩
abbrev main_c_71 : Ref sig .tc := ⟨.hbm, 1111, rfl⟩
abbrev main_v285 : Ref sig .tc := ⟨.hbm, 1112, rfl⟩
abbrev main_v286 : Ref sig .tc := ⟨.hbm, 1113, rfl⟩
abbrev main_v287 : Ref sig .tc := ⟨.hbm, 1114, rfl⟩
abbrev main_v288 : Ref sig .tc := ⟨.hbm, 1115, rfl⟩
abbrev main_v289 : Ref sig .tc := ⟨.hbm, 1116, rfl⟩
abbrev main_call21_v0 : Ref sig .tc := ⟨.hbm, 1117, rfl⟩
abbrev main_call21_v1 : Ref sig .tc := ⟨.hbm, 1118, rfl⟩
abbrev main_v290 : Ref sig .tc := ⟨.hbm, 1119, rfl⟩
abbrev main_v291 : Ref sig .tc := ⟨.hbm, 1120, rfl⟩
abbrev main_v292 : Ref sig .tc := ⟨.hbm, 1121, rfl⟩
abbrev main_v293 : Ref sig .tc := ⟨.hbm, 1122, rfl⟩
abbrev main_v294 : Ref sig .tc := ⟨.hbm, 1123, rfl⟩
abbrev main_v295 : Ref sig .tc := ⟨.hbm, 1124, rfl⟩
abbrev main_v296 : Ref sig .tc := ⟨.hbm, 1125, rfl⟩
abbrev main_cst_72 : Ref sig .tc := ⟨.hbm, 1126, rfl⟩
abbrev main_v297 : Ref sig .tc := ⟨.hbm, 1127, rfl⟩
abbrev main_cst_73 : Ref sig .tc := ⟨.hbm, 1128, rfl⟩
abbrev main_v298 : Ref sig .tc := ⟨.hbm, 1129, rfl⟩
abbrev main_cst_74 : Ref sig .tc := ⟨.hbm, 1130, rfl⟩
abbrev main_v299 : Ref sig .tc := ⟨.hbm, 1131, rfl⟩
abbrev main_v300 : Ref sig .tc := ⟨.hbm, 1132, rfl⟩
abbrev main_v301 : Ref sig .tc := ⟨.hbm, 1133, rfl⟩
abbrev main_v302 : Ref sig .tc := ⟨.hbm, 1134, rfl⟩
abbrev main_cst_75 : Ref sig .tc := ⟨.hbm, 1135, rfl⟩
abbrev main_v303 : Ref sig .tc := ⟨.hbm, 1136, rfl⟩
abbrev main_v304 : Ref sig .tc := ⟨.hbm, 1137, rfl⟩
abbrev main_v305 : Ref sig .tc := ⟨.hbm, 1138, rfl⟩
abbrev main_v306 : Ref sig .tc := ⟨.hbm, 1139, rfl⟩
abbrev main_v307 : Ref sig .tc := ⟨.hbm, 1140, rfl⟩
abbrev main_v308 : Ref sig .tc := ⟨.hbm, 1141, rfl⟩
abbrev main_v309 : Ref sig .tc := ⟨.hbm, 1142, rfl⟩
abbrev main_v310 : Ref sig .tc := ⟨.hbm, 1143, rfl⟩
abbrev main_v311 : Ref sig .tc := ⟨.hbm, 1144, rfl⟩
abbrev main_v312 : Ref sig .tc := ⟨.hbm, 1145, rfl⟩
abbrev main_v313 : Ref sig .tc := ⟨.hbm, 1146, rfl⟩
abbrev main_v314 : Ref sig .tc := ⟨.hbm, 1147, rfl⟩
abbrev main_v315 : Ref sig .tc := ⟨.hbm, 1148, rfl⟩
abbrev main_v316 : Ref sig .tc := ⟨.hbm, 1149, rfl⟩
abbrev main_v317 : Ref sig .tc := ⟨.hbm, 1150, rfl⟩
abbrev main_v318 : Ref sig .tc := ⟨.hbm, 1151, rfl⟩
abbrev main_v319 : Ref sig .tc := ⟨.hbm, 1152, rfl⟩
abbrev main_c_76 : Ref sig .tc := ⟨.hbm, 1153, rfl⟩
abbrev main_v320 : Ref sig .tc := ⟨.hbm, 1154, rfl⟩
abbrev main_v321 : Ref sig .tc := ⟨.hbm, 1155, rfl⟩
abbrev main_v322 : Ref sig .tc := ⟨.hbm, 1156, rfl⟩
abbrev main_v323 : Ref sig .tc := ⟨.hbm, 1157, rfl⟩
abbrev main_v324 : Ref sig .tc := ⟨.hbm, 1158, rfl⟩
abbrev main_call23_v0 : Ref sig .tc := ⟨.hbm, 1159, rfl⟩
abbrev main_call23_v1 : Ref sig .tc := ⟨.hbm, 1160, rfl⟩
abbrev main_v325 : Ref sig .tc := ⟨.hbm, 1161, rfl⟩
abbrev main_v326 : Ref sig .tc := ⟨.hbm, 1162, rfl⟩
abbrev main_v327 : Ref sig .tc := ⟨.hbm, 1163, rfl⟩
abbrev main_v328 : Ref sig .tc := ⟨.hbm, 1164, rfl⟩
abbrev main_v329 : Ref sig .tc := ⟨.hbm, 1165, rfl⟩
abbrev main_v330 : Ref sig .tc := ⟨.hbm, 1166, rfl⟩
abbrev main_v331 : Ref sig .tc := ⟨.hbm, 1167, rfl⟩
abbrev main_cst_77 : Ref sig .tc := ⟨.hbm, 1168, rfl⟩
abbrev main_v332 : Ref sig .tc := ⟨.hbm, 1169, rfl⟩
abbrev main_cst_78 : Ref sig .tc := ⟨.hbm, 1170, rfl⟩
abbrev main_v333 : Ref sig .tc := ⟨.hbm, 1171, rfl⟩
abbrev main_cst_79 : Ref sig .tc := ⟨.hbm, 1172, rfl⟩
abbrev main_v334 : Ref sig .tc := ⟨.hbm, 1173, rfl⟩
abbrev main_v335 : Ref sig .tc := ⟨.hbm, 1174, rfl⟩
abbrev main_v336 : Ref sig .tc := ⟨.hbm, 1175, rfl⟩
abbrev main_v337 : Ref sig .tc := ⟨.hbm, 1176, rfl⟩
abbrev main_cst_80 : Ref sig .tc := ⟨.hbm, 1177, rfl⟩
abbrev main_v338 : Ref sig .tc := ⟨.hbm, 1178, rfl⟩
abbrev main_v339 : Ref sig .tc := ⟨.hbm, 1179, rfl⟩
abbrev main_v340 : Ref sig .tc := ⟨.hbm, 1180, rfl⟩
abbrev main_v341 : Ref sig .tc := ⟨.hbm, 1181, rfl⟩
abbrev main_v342 : Ref sig .tc := ⟨.hbm, 1182, rfl⟩
abbrev main_c_81 : Ref sig .tc := ⟨.hbm, 1183, rfl⟩
abbrev main_v343 : Ref sig .tc := ⟨.hbm, 1184, rfl⟩
abbrev main_v344 : Ref sig .tc := ⟨.hbm, 1185, rfl⟩
abbrev main_v345 : Ref sig .tc := ⟨.hbm, 1186, rfl⟩
abbrev main_v346 : Ref sig .tc := ⟨.hbm, 1187, rfl⟩
abbrev main_v347 : Ref sig .tc := ⟨.hbm, 1188, rfl⟩
abbrev main_call24_v0 : Ref sig .tc := ⟨.hbm, 1189, rfl⟩
abbrev main_call24_v1 : Ref sig .tc := ⟨.hbm, 1190, rfl⟩
abbrev main_v348 : Ref sig .tc := ⟨.hbm, 1191, rfl⟩
abbrev main_v349 : Ref sig .tc := ⟨.hbm, 1192, rfl⟩
abbrev main_v350 : Ref sig .tc := ⟨.hbm, 1193, rfl⟩
abbrev main_v351 : Ref sig .tc := ⟨.hbm, 1194, rfl⟩
abbrev main_v352 : Ref sig .tc := ⟨.hbm, 1195, rfl⟩
abbrev main_v353 : Ref sig .tc := ⟨.hbm, 1196, rfl⟩
abbrev main_v354 : Ref sig .tc := ⟨.hbm, 1197, rfl⟩
abbrev main_cst_82 : Ref sig .tc := ⟨.hbm, 1198, rfl⟩
abbrev main_v355 : Ref sig .tc := ⟨.hbm, 1199, rfl⟩
abbrev main_cst_83 : Ref sig .tc := ⟨.hbm, 1200, rfl⟩
abbrev main_v356 : Ref sig .tc := ⟨.hbm, 1201, rfl⟩
abbrev main_cst_84 : Ref sig .tc := ⟨.hbm, 1202, rfl⟩
abbrev main_v357 : Ref sig .tc := ⟨.hbm, 1203, rfl⟩
abbrev main_v358 : Ref sig .tc := ⟨.hbm, 1204, rfl⟩
abbrev main_v359 : Ref sig .tc := ⟨.hbm, 1205, rfl⟩
abbrev main_v360 : Ref sig .tc := ⟨.hbm, 1206, rfl⟩
abbrev main_cst_85 : Ref sig .tc := ⟨.hbm, 1207, rfl⟩
abbrev main_v361 : Ref sig .tc := ⟨.hbm, 1208, rfl⟩
abbrev main_v362 : Ref sig .tc := ⟨.hbm, 1209, rfl⟩
abbrev main_v363 : Ref sig .tc := ⟨.hbm, 1210, rfl⟩
abbrev main_v364 : Ref sig .tc := ⟨.hbm, 1211, rfl⟩
abbrev main_v365 : Ref sig .tc := ⟨.hbm, 1212, rfl⟩
abbrev main_v366 : Ref sig .tc := ⟨.hbm, 1213, rfl⟩
abbrev main_v367 : Ref sig .tc := ⟨.hbm, 1214, rfl⟩
abbrev main_v368 : Ref sig .tc := ⟨.hbm, 1215, rfl⟩
abbrev main_v369 : Ref sig .tc := ⟨.hbm, 1216, rfl⟩
abbrev main_v370 : Ref sig .tc := ⟨.hbm, 1217, rfl⟩
abbrev main_v371 : Ref sig .tc := ⟨.hbm, 1218, rfl⟩
abbrev main_v372 : Ref sig .tc := ⟨.hbm, 1219, rfl⟩
abbrev main_v373 : Ref sig .tc := ⟨.hbm, 1220, rfl⟩
abbrev main_v374 : Ref sig .tc := ⟨.hbm, 1221, rfl⟩

abbrev nD : Nat := 1
abbrev τ : Topo := Topo.v7x

variable {F : FTy → Type} [FloatOps F]

abbrev main_while0_count : Scf.Loop 32 := ⟨0#32, 2047#32, 1#32⟩
-- ==== Proof.Fix.lean ====
/- What a line of host operations leaves, read as equations between the final contents of its buffers. The operations of a line
   write buffers in increasing order of their index and read only buffers of smaller index (`Chain`). So no operation changes
   what an earlier one read or wrote, and the FINAL contents satisfy each operation's own equation (`Chain.fixed`): the value
   of every buffer is stated in terms of the final values of the buffers it is computed from, nothing is ever composed. -/
module

public import Idealize.ShloMosaic.Lib.StableHlo.Run
public import Idealize.ShloMosaic.Lib.StableHlo.RunLoop

@[expose] public section

noncomputable section

namespace Cert.Fix

open Idealize.ShloMosaic Idealize.ShloMosaic.TcCoe Idealize.ShloMosaic.StableHlo

variable {τ : Topo} {sig : RefSig} {Val : EltTy → Type}

/-- A buffer's place in its table. -/
def rank (b : DevRef τ sig) : ℕ := b.idx.val

/-- The place of a TensorCore reference's buffer. -/
abbrev rk (r : Ref sig .tc) : ℕ := rank (Proc.devRef (τ := τ) .tc r)

/-- `op` writes buffers of rank `n'` only, above `n`; it touches none of higher rank; and doing it twice is doing it once. -/
structure Good (n n' : ℕ) (op : HloOp τ sig Val) : Prop where
  lt : n < n'
  w : ∀ b ∈ op.writes, rank b = n'
  r : ∀ b ∈ op.bufs, rank b ≤ n'
  idem : ∀ V : Valuation τ sig Val, op.result (op.result V) = op.result V

/-- The operations of a line, first to last, write buffers of increasing rank, from above `n` up to `n'`. -/
inductive Chain : ℕ → List (HloOp τ sig Val) → ℕ → Prop
  | nil (n : ℕ) : Chain n [] n
  | cons {n k n' : ℕ} {op : HloOp τ sig Val} {L : List (HloOp τ sig Val)} : Good n k op → Chain k L n' → Chain n (op :: L) n'

/-- Two lines one after the other. -/
theorem Chain.append {n k n' : ℕ} {L M : List (HloOp τ sig Val)} (h : Chain n L k) (h' : Chain k M n') : Chain n (L ++ M) n' := by
  induction h with
  | nil => exact h'
  | cons g _ ih => exact .cons g (ih h')

/-- A line leaves a buffer of rank at most `n` as it was. -/
theorem Chain.keep {n n' : ℕ} {L : List (HloOp τ sig Val)} (h : Chain n L n') {b : DevRef τ sig} (hb : rank b ≤ n)
    (V : Valuation τ sig Val) : after L V b = V b := by
  induction h generalizing V with
  | nil => rfl
  | cons g _ ih =>
    rw [after_cons, ih (hb.trans g.lt.le)]
    exact HloOp.result_of_not_mem _ _ fun hm => by have := g.w b hm; have := g.lt; omega

/-- The final contents of a line satisfy every operation of it: doing the operation once more changes nothing. -/
theorem Chain.fixed {n n' : ℕ} {L : List (HloOp τ sig Val)} (h : Chain n L n') (V : Valuation τ sig Val) :
    ∀ op ∈ L, op.result (after L V) = after L V := by
  induction h generalizing V with
  | nil => intro _ h; exact nomatch h
  | @cons n k n' op L g hc ih =>
    intro o ho
    rcases List.mem_cons.mp ho with rfl | ho
    · rw [after_cons]
      have hk : ∀ b ∈ o.bufs, after L (o.result V) b = o.result V b := fun b hb => hc.keep (g.r b hb) _
      funext b
      by_cases hb : b ∈ o.writes
      · rw [hk b (o.writes_sub hb)]
        conv_rhs => rw [← g.idem V]
        rw [HloOp.result_of_mem _ _ hb, HloOp.result_of_mem _ (o.result V) hb]
        exact congrFun (congrArg o.fn (funext fun b' => hk b'.1 b'.2)) _
      · exact HloOp.result_of_not_mem _ _ hb
    · exact ih (op.result V) o ho

section Builders
variable {n : ℕ}

theorem good_nullary (y : Ref sig .tc) (v : y.ty.Contents Val) (hy) (h : n < rk (τ := τ) y) :
    Good n (rk (τ := τ) y) (nullary (τ := τ) y v hy) where
  lt := h
  w b hb := by rw [nullary_writes, Finset.mem_singleton] at hb; rw [hb]
  r b hb := by cases Finset.mem_singleton.mp hb; exact le_rfl
  idem V := by
    funext b
    by_cases hb : b ∈ (nullary (τ := τ) y v hy).writes
    · cases Finset.mem_singleton.mp hb; rw [nullary_result, nullary_result]
    · exact HloOp.result_of_not_mem _ _ hb

private theorem ne_of_rk {x y : Ref sig .tc} (h : rk (τ := τ) x < rk (τ := τ) y) : x ≠ y := fun e => by
  rw [e] at h; exact lt_irrefl _ h

theorem good_unary (x y : Ref sig .tc) (f : x.ty.Contents Val → y.ty.Contents Val) (hx hy) (h : n < rk (τ := τ) y)
    (h₁ : rk (τ := τ) x < rk (τ := τ) y) : Good n (rk (τ := τ) y) (unary (τ := τ) x y f hx hy) where
  lt := h
  w b hb := by rw [unary_writes, Finset.mem_singleton] at hb; rw [hb]
  r b hb := by
    rcases Finset.mem_insert.mp hb with rfl | hb
    · exact h₁.le
    · cases Finset.mem_singleton.mp hb; exact le_rfl
  idem V := by
    funext b
    by_cases hb : b ∈ (unary (τ := τ) x y f hx hy).writes
    · cases Finset.mem_singleton.mp hb; rw [unary_result, unary_result]; exact congrArg f (unary_result_ne (h := ne_of_rk h₁) ..)
    · exact HloOp.result_of_not_mem _ _ hb

theorem good_reshape (x y : Ref sig .tc) (he hn hx hy) (h : n < rk (τ := τ) y)
    (h₁ : rk (τ := τ) x < rk (τ := τ) y) : Good n (rk (τ := τ) y) (reshape (Val := Val) (τ := τ) x y he hn hx hy) where
  lt := h
  w b hb := by rw [reshape_writes, Finset.mem_singleton] at hb; rw [hb]
  r b hb := by
    rcases Finset.mem_insert.mp hb with rfl | hb
    · exact h₁.le
    · cases Finset.mem_singleton.mp hb; exact le_rfl
  idem V := by
    funext b
    by_cases hb : b ∈ (reshape (Val := Val) (τ := τ) x y he hn hx hy).writes
    · cases Finset.mem_singleton.mp hb; rw [reshape_result, reshape_result, show (reshape (Val := Val) (τ := τ) x y he hn hx hy).result V (Proc.devRef .tc x) = _ from reshape_result_ne (h := ne_of_rk h₁) ..]
    · exact HloOp.result_of_not_mem _ _ hb

theorem good_binary (a c y : Ref sig .tc) (f : a.ty.Contents Val → c.ty.Contents Val → y.ty.Contents Val) (ha hc hy)
    (h : n < rk (τ := τ) y) (h₁ : rk (τ := τ) a < rk (τ := τ) y) (h₂ : rk (τ := τ) c < rk (τ := τ) y) :
    Good n (rk (τ := τ) y) (binary (τ := τ) a c y f ha hc hy) where
  lt := h
  w b hb := by rw [binary_writes, Finset.mem_singleton] at hb; rw [hb]
  r b hb := by
    rcases Finset.mem_insert.mp hb with rfl | hb
    · exact h₁.le
    rcases Finset.mem_insert.mp hb with rfl | hb
    · exact h₂.le
    · cases Finset.mem_singleton.mp hb; exact le_rfl
  idem V := by
    funext b
    by_cases hb : b ∈ (binary (τ := τ) a c y f ha hc hy).writes
    · cases Finset.mem_singleton.mp hb
      rw [binary_result, binary_result]
      exact congrArg₂ f (binary_result_ne (h := ne_of_rk h₁) ..) (binary_result_ne (h := ne_of_rk h₂) ..)
    · exact HloOp.result_of_not_mem _ _ hb

theorem good_ternary (d a c y : Ref sig .tc)
    (f : d.ty.Contents Val → a.ty.Contents Val → c.ty.Contents Val → y.ty.Contents Val) (hd ha hc hy)
    (h : n < rk (τ := τ) y) (h₀ : rk (τ := τ) d < rk (τ := τ) y) (h₁ : rk (τ := τ) a < rk (τ := τ) y)
    (h₂ : rk (τ := τ) c < rk (τ := τ) y) :
    Good n (rk (τ := τ) y) (ternary (τ := τ) d a c y f hd ha hc hy) where
  lt := h
  w b hb := by rw [ternary_writes, Finset.mem_singleton] at hb; rw [hb]
  r b hb := by
    rcases Finset.mem_insert.mp hb with rfl | hb
    · exact h₀.le
    rcases Finset.mem_insert.mp hb with rfl | hb
    · exact h₁.le
    rcases Finset.mem_insert.mp hb with rfl | hb
    · exact h₂.le
    · cases Finset.mem_singleton.mp hb; exact le_rfl
  idem V := by
    funext b
    by_cases hb : b ∈ (ternary (τ := τ) d a c y f hd ha hc hy).writes
    · cases Finset.mem_singleton.mp hb
      rw [ternary_result, ternary_result,
        show (ternary (τ := τ) d a c y f hd ha hc hy).result V (Proc.devRef .tc d) = _ from ternary_result_ne (h := ne_of_rk h₀) ..]
      exact congrArg₂ (f _) (ternary_result_ne (h := ne_of_rk h₁) ..) (ternary_result_ne (h := ne_of_rk h₂) ..)
    · exact HloOp.result_of_not_mem _ _ hb

theorem good_nary {k : ℕ} (xs : Fin k → Ref sig .tc) (y : Ref sig .tc)
    (f : ((i : Fin k) → (xs i).ty.Contents Val) → y.ty.Contents Val) (hxs hy)
    (h : n < rk (τ := τ) y) (h₁ : ∀ i, rk (τ := τ) (xs i) < rk (τ := τ) y) :
    Good n (rk (τ := τ) y) (nary (τ := τ) xs y f hxs hy) where
  lt := h
  w b hb := by rw [nary_writes, Finset.mem_singleton] at hb; rw [hb]
  r b hb := by
    rcases Finset.mem_insert.mp hb with rfl | hb
    · exact le_rfl
    · obtain ⟨i, -, rfl⟩ := Finset.mem_image.mp hb; exact (h₁ i).le
  idem V := by
    funext b
    by_cases hb : b ∈ (nary (τ := τ) xs y f hxs hy).writes
    · cases Finset.mem_singleton.mp hb
      rw [nary_result, nary_result]
      exact congrArg f (funext fun i => nary_result_ne y xs f hxs hy V (ne_of_rk (h₁ i)))
    · exact HloOp.result_of_not_mem _ _ hb

end Builders

section Equations
variable {V : Valuation τ sig Val}

theorem eq0 {y : Ref sig .tc} {v : y.ty.Contents Val} {hy} (h : (nullary (τ := τ) y v hy).result V = V) :
    V (Proc.devRef .tc y) = v := (congrFun h _).symm.trans (nullary_result _ _ _ _)

theorem eq1 {x y : Ref sig .tc} {f : x.ty.Contents Val → y.ty.Contents Val} {hx hy} (h : (unary (τ := τ) x y f hx hy).result V = V) :
    V (Proc.devRef .tc y) = f (V (Proc.devRef .tc x)) := (congrFun h _).symm.trans (unary_result _ _ _ _ _ _)

theorem eqR {x y : Ref sig .tc} {he hn hx hy} (h : (reshape (τ := τ) x y he hn hx hy).result V = V) :
    V (Proc.devRef .tc y) = fun i => he ▸ shapeCast y.ty.shape (V (Proc.devRef .tc x)) hn i :=
  (congrFun h _).symm.trans (reshape_result _ _ _ _ _ _ _)

theorem eq2 {a c y : Ref sig .tc} {f : a.ty.Contents Val → c.ty.Contents Val → y.ty.Contents Val} {ha hc hy}
    (h : (binary (τ := τ) a c y f ha hc hy).result V = V) :
    V (Proc.devRef .tc y) = f (V (Proc.devRef .tc a)) (V (Proc.devRef .tc c)) :=
  (congrFun h _).symm.trans (binary_result _ _ _ _ _ _ _ _)

theorem eq3 {d a c y : Ref sig .tc} {f : d.ty.Contents Val → a.ty.Contents Val → c.ty.Contents Val → y.ty.Contents Val} {hd ha hc hy}
    (h : (ternary (τ := τ) d a c y f hd ha hc hy).result V = V) :
    V (Proc.devRef .tc y) = f (V (Proc.devRef .tc d)) (V (Proc.devRef .tc a)) (V (Proc.devRef .tc c)) :=
  (congrFun h _).symm.trans (ternary_result _ _ _ _ _ _ _ _ _ _)

theorem eqN {k : ℕ} {xs : Fin k → Ref sig .tc} {y : Ref sig .tc} {f : ((i : Fin k) → (xs i).ty.Contents Val) → y.ty.Contents Val} {hxs hy}
    (h : (nary (τ := τ) xs y f hxs hy).result V = V) :
    V (Proc.devRef .tc y) = f (fun i => V (Proc.devRef .tc (xs i))) := (congrFun h _).symm.trans (nary_result _ _ _ _ _ _)

end Equations

end Cert.Fix

end
-- ==== Proof.RefChain.lean ====
/- The reference's operations before its loop, and those after it, each write buffers of increasing index: the two lines of
   operations are chains (`Cert.Fix.Chain`), stretch by stretch. -/
module

public import proofs.«01_k».proof.Proof.Fix
public import proofs.«01_k».proof.Proof.Gen.ReferenceIdeal.Run

@[expose] public section

set_option maxRecDepth 16384
set_option maxHeartbeats 0

noncomputable section

namespace Cert.ReferenceIdeal.Chained

open Idealize.ShloMosaic Idealize.ShloMosaic.TcCoe Idealize.ShloMosaic.StableHlo
open Cert.Fix Cert.ReferenceIdeal.Gen Cert.ReferenceIdeal.Value

variable {F : FTy → Type} [FloatOps F]

/-- The line before the loop. -/
theorem chain_pre : Chain 2 (hostOps0 (F := F)) 31 := by
  repeat (first
    | exact Chain.nil _
    | refine Chain.cons (good_nullary _ _ _ (by decide)) ?_
    | refine Chain.cons (good_unary _ _ _ _ _ (by decide) (by decide)) ?_
    | refine Chain.cons (good_reshape _ _ _ _ _ _ (by decide) (by decide)) ?_
    | refine Chain.cons (good_binary _ _ _ _ _ _ _ (by decide) (by decide) (by decide)) ?_
    | refine Chain.cons (good_ternary _ _ _ _ _ _ _ _ _ (by decide) (by decide) (by decide) (by decide)) ?_
    | refine Chain.cons (good_nary _ _ _ _ _ (by decide) (by decide)) ?_
    | apply Chain.append)

/-- The stretches after the loop, as one line. -/
theorem chain_post : Chain 41 (postI (F := F)).flatten 1221 := by
  simp only [postI, List.flatten_cons, List.flatten_nil]
  repeat (first
    | exact Chain.nil _
    | refine Chain.cons (good_nullary _ _ _ (by decide)) ?_
    | refine Chain.cons (good_unary _ _ _ _ _ (by decide) (by decide)) ?_
    | refine Chain.cons (good_reshape _ _ _ _ _ _ (by decide) (by decide)) ?_
    | refine Chain.cons (good_binary _ _ _ _ _ _ _ (by decide) (by decide) (by decide)) ?_
    | refine Chain.cons (good_ternary _ _ _ _ _ _ _ _ _ (by decide) (by decide) (by decide) (by decide)) ?_
    | refine Chain.cons (good_nary _ _ _ _ _ (by decide) (by decide)) ?_
    | apply Chain.append)

end Cert.ReferenceIdeal.Chained

end
-- ==== Proof.RefRun.lean ====
/- What the reference leaves: its final contents satisfy every operation's own equation, the buffers the loop carries unchanged
   are as before the loop, the arguments are as launched; and the reference's frame. -/
module

public import proofs.«01_k».proof.Proof.RefChain
public import Idealize.ShloMosaic.Lib.Quiescent

@[expose] public section

set_option maxRecDepth 16384

noncomputable section

namespace Cert.ReferenceIdeal.Chained

open Idealize.ShloMosaic Idealize.ShloMosaic.TcCoe Idealize.ShloMosaic.StableHlo Idealize.SL.Sem
open Cert.Fix Cert.ReferenceIdeal.Gen Cert.ReferenceIdeal.Value

variable {F : FTy → Type} [FloatOps F]
variable (m : (ℓ : Loc nD τ sig) → Buf (Elt F) ℓ) (ρ : Dev nD → PrngReg) (c : Dev nD)

/-- The contents before the loop, after the loop, and at the end. -/
def VE : Valuation τ sig (Elt F) := entryContents preI m c
@[inherit_doc VE]
def VL : Valuation τ sig (Elt F) := after condOps (atK m 2047 c)
@[inherit_doc VE]
def VF : Valuation τ sig (Elt F) := after postI.flatten (VL m c)

theorem VE_eq : VE m c = after hostOps0 (fun b => m (c, b)) := by
  unfold VE; simp only [entryContents, afterL_cons, afterL_nil]

theorem VF_eq : finalContents condOps preI bodyI postI 2047 m c = VF m c := by
  unfold finalContents VF VL; rw [afterL_eq_after_flatten]

/-- At the end every operation after the loop holds of the final contents, -/
theorem post_fixed : ∀ op ∈ (postI (F := F)).flatten, op.result (VF m c) = VF m c := chain_post.fixed _

/-- and before the loop every operation before it holds of the contents there. -/
theorem pre_fixed : ∀ op ∈ (hostOps0 (F := F)), op.result (VE m c) = VE m c := by
  rw [VE_eq]; exact chain_pre.fixed _

/-- A buffer numbered below the operations after the loop is at the end as after the loop. -/
theorem VF_keep {b : DevRef τ sig} (hb : rank b ≤ 41) : VF m c b = VL m c b := chain_post.keep hb _

/-- The references the loop's body writes. -/
abbrev body_W : List (Ref sig .tc) := trip_w0_W ++ [main_while0b_c_92, main_while0b_v380, main_v16_3, main_v16_4, main_v16_5]
theorem body_writes : (while0Ops0 : List (HloOp τ sig (Elt F))).Forall fun op => op.writes ⊆ (body_W.map (Proc.devRef (τ := τ) .tc)).toFinset :=
  forall_writes_sub_of_map rfl

/-- The references the loop leaves alone: the arguments, the scale, the unit matrix and the matrix it multiplies by. -/
abbrev still : List (Ref sig .tc) := [main_arg0, main_arg1, main_arg2, main_v16_0, main_v16_1, main_v16_2]

theorem cond_still (V : Valuation τ sig (Elt F)) {b : Ref sig .tc} (hb : b ∈ still) : after condOps V (Proc.devRef .tc b) = V (Proc.devRef .tc b) := by
  simp only [still, List.mem_cons, List.not_mem_nil, or_false] at hb
  rcases hb with rfl | rfl | rfl | rfl | rfl | rfl <;> exact after_of_writes_sub condOps V condOps_writes (by decide +kernel)

theorem body_still (V : Valuation τ sig (Elt F)) {b : Ref sig .tc} (hb : b ∈ still) : after while0Ops0 V (Proc.devRef .tc b) = V (Proc.devRef .tc b) := by
  simp only [still, List.mem_cons, List.not_mem_nil, or_false] at hb
  rcases hb with rfl | rfl | rfl | rfl | rfl | rfl <;> exact after_of_writes_sub while0Ops0 V body_writes (by decide +kernel)

theorem atK_still {b : Ref sig .tc} (hb : b ∈ still) : ∀ k, atK m k c (Proc.devRef .tc b) = VE m c (Proc.devRef .tc b)
  | 0 => rfl
  | k + 1 => by
    rw [show atK m (k + 1) c = afterL bodyI (after condOps (atK m k c)) from rfl]
    simp only [afterL_cons, afterL_nil]
    rw [body_still _ hb, cond_still _ hb, atK_still hb k]

/-- The references the loop leaves alone are at the end as before the loop. -/
theorem VF_still {b : Ref sig .tc} (hb : b ∈ still) : VF m c (Proc.devRef .tc b) = VE m c (Proc.devRef .tc b) := by
  have hr : rk (τ := τ) b ≤ 41 := by
    simp only [still, List.mem_cons, List.not_mem_nil, or_false] at hb
    rcases hb with rfl | rfl | rfl | rfl | rfl | rfl <;> decide
  rw [VF_keep m c hr]; unfold VL
  rw [cond_still _ hb, atK_still m c hb]

/-- The arguments are at the end as launched. -/
theorem VE_arg {b : Ref sig .tc} (hb : b ∈ [main_arg0, main_arg1, main_arg2]) : VE m c (Proc.devRef .tc b) = m (c, Proc.devRef .tc b) := by
  have hr : rk (τ := τ) b ≤ 2 := by
    simp only [List.mem_cons, List.not_mem_nil, or_false] at hb
    rcases hb with rfl | rfl | rfl <;> decide
  rw [VE_eq, chain_pre.keep hr]

theorem VF_arg {b : Ref sig .tc} (hb : b ∈ [main_arg0, main_arg1, main_arg2]) : VF m c (Proc.devRef .tc b) = m (c, Proc.devRef .tc b) := by
  rw [VF_still m c (List.mem_append_left [main_v16_0, main_v16_1, main_v16_2] hb), VE_arg m c hb]

/-- The run: every unscoped buffer ends at the final contents. -/
theorem run_VF : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = VF m c (Proc.devRef .tc b)) :=
  (θ_run defs _ _).mono (fun _ h c b hb => (h c b hb).trans (congrFun (VF_eq m c) _)) (run_fold m ρ)

/-- The frame of the reference: it terminates, its arguments end as launched, and every semaphore counter ends at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (VF_arg m c (by decide)),
    (h c main_arg1 rfl).trans (VF_arg m c (by decide)), (h c main_arg2 rfl).trans (VF_arg m c (by decide))⟩,
    sem_eq_zero_of_no_sems (by decide) r.2⟩) (run_VF m ρ)

end Cert.ReferenceIdeal.Chained

end
-- ==== Proof.Mat.lean ====
/- The matrices over the reals: the partial sums `c (1 + A + … + A^(N-1))`, `A = 1 - c S`, of the series of the inverse of `S`.
   The iteration `P ↦ 2 P - P (S P)` doubles the number of terms; for a symmetric `S` whose row sums times `c` stay below two,
   an even number of terms has a positive diagonal. -/
module

public import Mathlib.LinearAlgebra.Matrix.Symmetric
public import Mathlib.Algebra.Ring.GeomSum
public import Mathlib.Data.Real.Basic
public import Mathlib.Tactic.Linarith
public import Mathlib.Tactic.Ring
public import Mathlib.Tactic.Abel

@[expose] public section

noncomputable section

namespace Cert.Mat

open Matrix Finset

variable {n : Type*} [Fintype n] [DecidableEq n] (c : ℝ) (S : Matrix n n ℝ)

/-- The sum of the first `N` terms of the series of the inverse of `S`, scaled by `c`. -/
def neu (N : ℕ) : Matrix n n ℝ := c • ∑ i ∈ range N, (1 - c • S) ^ i

theorem neu_one : neu c S 1 = c • (1 : Matrix n n ℝ) := by simp [neu]

/-- One more term. -/
theorem neu_succ (N : ℕ) : neu c S (N + 1) = c • (1 : Matrix n n ℝ) + (1 - c • S) * neu c S N := by
  simp only [neu, geom_sum_succ, smul_add, mul_smul_comm]; abel

/-- The doubling iteration doubles the number of terms. -/
theorem neu_double (N : ℕ) : (2 : ℝ) • neu c S N - neu c S N * (S * neu c S N) = neu c S (N + N) := by
  have h1 : S * neu c S N = 1 - (1 - c • S) ^ N := by
    have := mul_neg_geom_sum (1 - c • S) N
    rw [sub_sub_cancel, smul_mul_assoc, ← mul_smul_comm] at this
    exact this
  rw [h1, mul_sub, mul_one, two_smul, add_sub_assoc, sub_sub_cancel]
  simp only [neu, smul_mul_assoc, ← smul_add, sum_range_add, sum_mul]
  congr 2
  exact sum_congr rfl fun i _ => by rw [← pow_add, add_comm]

variable {c S}

/-- A symmetric matrix has symmetric partial sums. -/
theorem neu_symm (hS : S.IsSymm) (N : ℕ) : (neu c S N).IsSymm := by
  have hA : (1 - c • S)ᵀ = 1 - c • S := by rw [transpose_sub, transpose_one, transpose_smul, hS.eq]
  unfold neu Matrix.IsSymm
  rw [transpose_smul, transpose_sum]
  congr 1
  exact sum_congr rfl fun i _ => by rw [transpose_pow, hA]

/-- The quadratic form of `2 - c S` is not negative when the row sums of `S`, times `c`, are below two. -/
theorem quad_nonneg (hS : S.IsSymm) (hc : 0 < c) (hr : ∀ i, c * ∑ j, |S i j| < 2) (v : n → ℝ) :
    0 ≤ ∑ i, ∑ j, v i * ((2 : Matrix n n ℝ) - c • S) i j * v j := by
  have h1 : ∑ i, ∑ j, v i * ((2 : Matrix n n ℝ) - c • S) i j * v j = 2 * ∑ i, v i ^ 2 - c * ∑ i, ∑ j, S i j * (v i * v j) := by
    rw [mul_sum, mul_sum, ← sum_sub_distrib]
    refine sum_congr rfl fun i _ => ?_
    have : ∀ j, v i * ((2 : Matrix n n ℝ) - c • S) i j * v j = (if i = j then 2 * (v i * v j) else 0) - c * (S i j * (v i * v j)) := by
      intro j
      have h2 : (2 : Matrix n n ℝ) i j = if i = j then 2 else 0 := by
        rw [← Nat.cast_ofNat (R := Matrix n n ℝ), Matrix.natCast_apply]; simp
      rw [Matrix.sub_apply, Matrix.smul_apply, h2, smul_eq_mul]
      split_ifs <;> ring
    rw [sum_congr rfl fun j _ => this j, sum_sub_distrib, sum_ite_eq, if_pos (mem_univ _), ← mul_sum]
    ring
  have h2 : ∑ i, ∑ j, S i j * (v i * v j) ≤ ∑ i, (∑ j, |S i j|) * v i ^ 2 := by
    have h3 : ∑ i, ∑ j, S i j * (v i * v j) ≤ ∑ i, ∑ j, (|S i j| * v i ^ 2 / 2 + |S i j| * v j ^ 2 / 2) := by
      refine sum_le_sum fun i _ => sum_le_sum fun j _ => ?_
      have h4 : S i j * (v i * v j) ≤ |S i j| * |v i * v j| := by rw [← abs_mul]; exact le_abs_self _
      have h5 : |v i * v j| ≤ v i ^ 2 / 2 + v j ^ 2 / 2 := by
        rw [abs_le]; constructor <;> nlinarith [sq_nonneg (v i + v j), sq_nonneg (v i - v j)]
      have := mul_le_mul_of_nonneg_left h5 (abs_nonneg (S i j))
      linarith
    refine h3.trans (le_of_eq ?_)
    simp only [sum_add_distrib]
    rw [sum_comm (f := fun i j => |S i j| * v j ^ 2 / 2)]
    have h6 : ∀ i, ∑ j, |S j i| * v i ^ 2 / 2 = ∑ j, |S i j| * v i ^ 2 / 2 := fun i => sum_congr rfl fun j _ => by rw [hS.apply]
    rw [sum_congr rfl fun i _ => h6 i, ← sum_add_distrib]
    refine sum_congr rfl fun i _ => ?_
    rw [sum_mul, ← sum_add_distrib]
    exact sum_congr rfl fun j _ => by ring
  rw [h1]
  have h7 : c * ∑ i, ∑ j, S i j * (v i * v j) ≤ ∑ i, (c * ∑ j, |S i j|) * v i ^ 2 := by
    refine (mul_le_mul_of_nonneg_left h2 hc.le).trans (le_of_eq ?_)
    rw [mul_sum]; exact sum_congr rfl fun i _ => by ring
  have h8 : ∑ i, (c * ∑ j, |S i j|) * v i ^ 2 ≤ ∑ i, 2 * v i ^ 2 :=
    sum_le_sum fun i _ => mul_le_mul_of_nonneg_right (hr i).le (sq_nonneg _)
  rw [← mul_sum] at h8
  linarith

/-- An even, positive number of terms has a positive diagonal. -/
theorem neu_diag_pos (hS : S.IsSymm) (hc : 0 < c) (hr : ∀ i, c * ∑ j, |S i j| < 2) (N : ℕ) (i : n) : 0 < neu c S (2 * (N + 1)) i i := by
  set A : Matrix n n ℝ := 1 - c • S with hA
  have hAt : Aᵀ = A := by rw [hA, transpose_sub, transpose_one, transpose_smul, hS.eq]
  have h1 : ∀ k, ∑ i ∈ range (2 * k), A ^ i = ∑ i ∈ range k, A ^ i * ((2 : Matrix n n ℝ) - c • S) * A ^ i := by
    intro k
    induction k with
    | zero => simp
    | succ k ih =>
      rw [mul_add, mul_one, sum_range_succ, sum_range_succ, ih, sum_range_succ, add_assoc]
      congr 1
      have h2 : (2 : Matrix n n ℝ) - c • S = 1 + A := by rw [hA, ← one_add_one_eq_two]; abel
      rw [h2, mul_add, mul_one, add_mul, ← pow_add, ← pow_succ, ← pow_add]
      congr 2 <;> omega
  have h3 : ∀ k, (A ^ k * ((2 : Matrix n n ℝ) - c • S) * A ^ k) i i
      = ∑ x, ∑ y, (A ^ k) x i * ((2 : Matrix n n ℝ) - c • S) x y * (A ^ k) y i := by
    intro k
    have ht : ∀ x, (A ^ k) i x = (A ^ k) x i := fun x => by
      conv_lhs => rw [← hAt, ← transpose_pow, transpose_apply]
    rw [Matrix.mul_apply]
    simp only [Matrix.mul_apply, sum_mul, ht]
    rw [sum_comm]
  have h4 : ∀ k, 0 ≤ (A ^ k * ((2 : Matrix n n ℝ) - c • S) * A ^ k) i i := fun k => by
    rw [h3]; exact quad_nonneg hS hc hr fun x => (A ^ k) x i
  have h5 : 0 < (A ^ 0 * ((2 : Matrix n n ℝ) - c • S) * A ^ 0) i i := by
    have h6 : (2 : Matrix n n ℝ) i i = 2 := by rw [← Nat.cast_ofNat (R := Matrix n n ℝ), Matrix.natCast_apply]; simp
    rw [pow_zero, one_mul, mul_one, Matrix.sub_apply, Matrix.smul_apply, h6, smul_eq_mul]
    have h7 : S i i ≤ ∑ j, |S i j| := (le_abs_self _).trans (single_le_sum (f := fun j => |S i j|) (fun j _ => abs_nonneg _) (mem_univ i))
    have := mul_le_mul_of_nonneg_left h7 hc.le
    linarith [hr i]
  unfold neu
  rw [← hA, h1, Matrix.smul_apply, Matrix.sum_apply, smul_eq_mul]
  refine mul_pos hc ?_
  rw [sum_range_succ']
  exact add_pos_of_nonneg_of_pos (sum_nonneg fun k _ => h4 _) h5

end Cert.Mat

end
-- ==== Proof.Scal.lean ====
/- The scalar functions at the extended reals: the uniform and the normal deviate of a word, as the kernel and as the reference
   write them, equal and real. -/
module

public import Idealize.ShloMosaic.Lib.ValueIdx
public import Idealize.ShloMosaic.Lib.IdealHost
public import Idealize.ShloMosaic.PureOps.Ideal.Laws
public import Mathlib.Tactic.NormNum
public import Mathlib.Tactic.Linarith
public import Mathlib.Tactic.Positivity
public import Mathlib.Tactic.Ring

@[expose] public section

set_option maxRecDepth 16384

noncomputable section

namespace Cert.Scal

open Idealize.ShloMosaic Idealize.ShloMosaic.ValueIdx

/-- An extended real that is a real number. -/
def Fin' (x : EReal) : Prop := ∃ r : ℝ, x = (r : EReal)

theorem Fin'.coe (r : ℝ) : Fin' (r : EReal) := ⟨r, rfl⟩
theorem Fin'.add {x y : EReal} : Fin' x → Fin' y → Fin' (x + y) := by
  rintro ⟨a, rfl⟩ ⟨b, rfl⟩; exact ⟨a + b, (EReal.coe_add a b).symm⟩
theorem Fin'.mul {x y : EReal} : Fin' x → Fin' y → Fin' (x * y) := by
  rintro ⟨a, rfl⟩ ⟨b, rfl⟩; exact ⟨a * b, (EReal.coe_mul a b).symm⟩
theorem Fin'.sub {x y : EReal} : Fin' x → Fin' y → Fin' (x - y) := by
  rintro ⟨a, rfl⟩ ⟨b, rfl⟩; exact ⟨a - b, (EReal.coe_sub a b).symm⟩

/-- A word whose exponent field is not all ones denotes a real number. -/
theorem ofBits_fin (b : BitVec 32) (h : (b.extractLsb' 23 8).toNat ≠ 255) : Fin' (Ideal.ofBits .f32 b) := by
  show Fin' (Ideal.ieee 8 23 b)
  unfold Ideal.ieee
  rw [if_neg (by exact h)]
  split
  · exact .coe _
  · exact .coe _

/-- The uniform deviate of a word: its upper 23 bits as a fraction. -/
def unif (b : BitVec 32) : EReal :=
  Ideal.ofBits .f32 (IntOp.shrui .vector b 9#32 ||| 1065353216#32) - Ideal.ofBits .f32 0x3F800000#32

theorem unif_eq (b : BitVec 32) : ∃ t : ℝ, 0 ≤ t ∧ t ≤ 1 - 1 / 2 ^ 23 ∧ unif b = (t : EReal) := by
  have hs : IntOp.shrui .vector b 9#32 = b >>> 9 := rfl
  have hn : (b >>> 9).toNat < 2 ^ 23 := by
    rw [BitVec.toNat_ushiftRight, Nat.shiftRight_eq_div_pow]; have := b.isLt; omega
  refine ⟨((b >>> 9).toNat : ℝ) / 2 ^ 23, by positivity, ?_, ?_⟩
  · have : ((b >>> 9).toNat : ℝ) ≤ 2 ^ 23 - 1 := by
      have h' : (b >>> 9).toNat + 1 ≤ 2 ^ 23 := hn
      have : (((b >>> 9).toNat + 1 : ℕ) : ℝ) ≤ ((2 ^ 23 : ℕ) : ℝ) := Nat.cast_le.mpr h'
      push_cast at this; linarith
    rw [div_le_iff₀ (by positivity)]; linarith [this, show (1 - 1 / 2 ^ 23 : ℝ) * 2 ^ 23 = 2 ^ 23 - 1 by norm_num]
  · unfold unif; rw [hs, Ideal.ofBits_one_f32]
    show Ideal.ieee 8 23 _ - 1 = _
    have e1 : (b >>> 9 ||| 1065353216#32).extractLsb' (8 + 23) 1 = 0#1 := by
      rw [BitVec.extractLsb'_or]
      have : (b >>> 9).extractLsb' (8 + 23) 1 = 0#1 := by
        apply BitVec.eq_of_toNat_eq
        rw [BitVec.extractLsb'_toNat, Nat.shiftRight_eq_div_pow, Nat.div_eq_of_lt (by omega)]; rfl
      rw [this]; decide
    have e2 : ((b >>> 9 ||| 1065353216#32).extractLsb' 23 8).toNat = 127 := by
      rw [BitVec.extractLsb'_or]
      have : (b >>> 9).extractLsb' 23 8 = 0#8 := by
        apply BitVec.eq_of_toNat_eq
        rw [BitVec.extractLsb'_toNat, Nat.shiftRight_eq_div_pow, Nat.div_eq_of_lt hn]; rfl
      rw [this]; decide
    have e3 : ((b >>> 9 ||| 1065353216#32).extractLsb' 0 23).toNat = (b >>> 9).toNat := by
      rw [BitVec.extractLsb'_or, show (1065353216#32).extractLsb' 0 23 = 0#23 by decide, BitVec.or_zero, BitVec.extractLsb'_toNat,
        Nat.shiftRight_zero, Nat.mod_eq_of_lt hn]
    unfold Ideal.ieee
    simp only [e1, e2, e3]
    rw [if_neg (by norm_num), if_neg (by norm_num), ← EReal.coe_one, ← EReal.coe_sub]
    congr 1
    have h0 : (0#1 == 1#1) = false := by decide
    simp only [h0]
    push_cast
    norm_num
    ring

/-- The lower end of the symmetric uniform deviate. -/
theorem ofBits_lo : Ideal.ofBits .f32 0xBF7FFFFF#32 = ((-(1 - 1 / 2 ^ 24) : ℝ) : EReal) := by
  simp [Ideal.ofBits, Ideal.ieee, -EReal.coe_mul, -EReal.coe_neg, -EReal.coe_sub]; norm_num

theorem ofBits_two : Ideal.ofBits .f32 0x40000000#32 = ((2 : ℝ) : EReal) := by
  simp [Ideal.ofBits, Ideal.ieee, -EReal.coe_mul]; norm_num

/-- The symmetric uniform deviate of a word. -/
def sym (b : BitVec 32) : EReal :=
  max (Ideal.ofBits .f32 0xBF7FFFFF#32) (unif b * Ideal.ofBits .f32 0x40000000#32 + Ideal.ofBits .f32 0xBF7FFFFF#32)

theorem sym_eq (b : BitVec 32) : ∃ r : ℝ, -1 < r ∧ r < 1 ∧ sym b = (r : EReal) := by
  obtain ⟨t, h0, h1, ht⟩ := unif_eq b
  refine ⟨max (-(1 - 1 / 2 ^ 24)) (t * 2 + -(1 - 1 / 2 ^ 24)), ?_, ?_, ?_⟩
  · exact lt_max_of_lt_left (by norm_num)
  · exact max_lt (by norm_num) (by norm_num at h1 ⊢; linarith)
  · unfold sym; rw [ht, ofBits_lo, ofBits_two, ← EReal.coe_mul, ← EReal.coe_add]; exact (EReal.coe_strictMono.monotone.map_max).symm

/-- The logarithm the acceptance compares, as the kernel writes it and as the reference does. -/
theorem logu_eq (b : BitVec 32) : Ideal.log (max (Ideal.ofBits .f32 0x00000000#32) (unif b)) = Ideal.log (unif b) := by
  obtain ⟨t, h0, -, ht⟩ := unif_eq b
  rw [Ideal.ofBits_zero_f32, ht, max_eq_right (EReal.coe_nonneg.mpr h0)]

/-- The argument of the polynomials, as the kernel writes it and as the reference does. -/
def kw (u : EReal) : EReal := Ideal.ofBits .f32 0x00000000#32
  - Ideal.log ((Ideal.ofBits .f32 0x3F800000#32 - u) * (Ideal.ofBits .f32 0x3F800000#32 + u))
@[inherit_doc kw]
def rw' (u : EReal) : EReal := -Ideal.log1p (-u * u)

theorem kw_eq {r : ℝ} (h0 : -1 < r) (h1 : r < 1) : kw r = rw' r ∧ Fin' (kw r) := by
  have hq : 0 < (1 - r) * (1 + r) := mul_pos (by linarith) (by linarith)
  have e1 : (Ideal.ofBits .f32 0x3F800000#32 - (r : EReal)) * (Ideal.ofBits .f32 0x3F800000#32 + r) = (((1 - r) * (1 + r) : ℝ) : EReal) := by
    rw [Ideal.ofBits_one_f32, ← EReal.coe_one, ← EReal.coe_sub, ← EReal.coe_add, ← EReal.coe_mul]
  have e2 : (1 : EReal) + -(r : EReal) * r = (((1 - r) * (1 + r) : ℝ) : EReal) := by
    rw [← EReal.coe_one, ← EReal.coe_neg, ← EReal.coe_mul, ← EReal.coe_add]; congr 1; ring
  have e3 : Ideal.log (((1 - r) * (1 + r) : ℝ) : EReal) = (Real.log ((1 - r) * (1 + r)) : EReal) := if_neg (not_le.mpr hq)
  unfold kw rw' Ideal.log1p
  rw [e1, e2, e3, Ideal.ofBits_zero_f32, zero_sub]
  exact ⟨rfl, ⟨-Real.log ((1 - r) * (1 + r)), (EReal.coe_neg _).symm⟩⟩

/-- The two polynomials' coefficients after the first, side by side. -/
abbrev coefs : List (BitVec 32 × BitVec 32) :=
  [(0x34B84B36#32, 0x38D3B56B#32), (0xB66C7357#32, 0x3AB0DC72#32), (0xB6935AC1#32, 0xBB70BDE7#32), (0x396532DB#32, 0x3BBC127B#32),
    (0xBAA45408#32, 0xBBF9C5D7#32), (0xBB88E4EF#32, 0x3C1AA57E#32), (0x3E7C8F63#32, 0x3F8036DB#32), (0x3FC02E2F#32, 0x40354F7E#32)]

/-- A polynomial's evaluation at `w` from its coefficients, the leading one `a`. -/
def poly (w : EReal) (a : BitVec 32) (l : List (BitVec 32)) : EReal :=
  l.foldl (fun p a => Ideal.ofBits .f32 a + p * w) (Ideal.ofBits .f32 a)

theorem poly_fin {w : EReal} (hw : Fin' w) : ∀ (l : List (BitVec 32)) (_ : ∀ a ∈ l, (a.extractLsb' 23 8).toNat ≠ 255) (p : EReal), Fin' p →
    Fin' (l.foldl (fun p a => Ideal.ofBits .f32 a + p * w) p)
  | [], _, _, hp => hp
  | a :: l, hl, p, hp => poly_fin hw l (fun b hb => hl b (List.mem_cons_of_mem _ hb)) _ ((ofBits_fin a (hl a List.mem_cons_self)).add (hp.mul hw))

/-- The kernel's normal deviate: both polynomials, then the choice. -/
def knorm (u : EReal) : EReal :=
  Ideal.ofBits .f32 0x3FB504F3#32 * (Scalar.select (Ideal.cmp .olt (kw u) (Ideal.ofBits .f32 0x40A00000#32))
    (poly (kw u - Ideal.ofBits .f32 0x40200000#32) 0x32F16588#32 (coefs.map (·.1)))
    (poly (Ideal.sqrt (kw u) - Ideal.ofBits .f32 0x40400000#32) 0xB951F09B#32 (coefs.map (·.2))) * u)

/-- The reference's normal deviate: the choice of every coefficient and of the argument, then one polynomial. -/
def rnorm (u : EReal) : EReal :=
  let c := Ideal.cmp .olt (rw' u) (Ideal.ofBits .f32 0x40A00000#32)
  let w := Scalar.select c (rw' u - Ideal.ofBits .f32 0x40200000#32) (Ideal.sqrt (rw' u) - Ideal.ofBits .f32 0x40400000#32)
  Ideal.ofBits .f32 0x3FB504F3#32 * (coefs.foldl (fun p a => Scalar.select c (Ideal.ofBits .f32 a.1) (Ideal.ofBits .f32 a.2) + p * w)
    (Scalar.select c (Ideal.ofBits .f32 0x32F16588#32) (Ideal.ofBits .f32 0xB951F09B#32)) * u)

theorem coefs_fst : ∀ a ∈ coefs.map (·.1), (a.extractLsb' 23 8).toNat ≠ 255 := by
  simp only [coefs, List.map, List.forall_mem_cons]
  exact ⟨by decide, by decide, by decide, by decide, by decide, by decide, by decide, by decide, fun _ h => nomatch h⟩
theorem coefs_snd : ∀ a ∈ coefs.map (·.2), (a.extractLsb' 23 8).toNat ≠ 255 := by
  simp only [coefs, List.map, List.forall_mem_cons]
  exact ⟨by decide, by decide, by decide, by decide, by decide, by decide, by decide, by decide, fun _ h => nomatch h⟩

theorem ofBits_five : Ideal.ofBits .f32 0x40A00000#32 = ((5 : ℝ) : EReal) := by
  simp [Ideal.ofBits, Ideal.ieee, -EReal.coe_mul]; norm_num

/-- The root of the argument is real where the argument is not below five. -/
theorem sqrt_fin {x : EReal} (hf : Fin' x) (hc : ¬ Ideal.cmp .olt x (Ideal.ofBits .f32 0x40A00000#32) = 1#1) : Fin' (Ideal.sqrt x) := by
  obtain ⟨w, rfl⟩ := hf
  rw [ofBits_five] at hc
  have hn : ¬ (w : EReal) < ((5 : ℝ) : EReal) := fun h => hc (by
    show BitVec.ofBool (decide ((w : EReal) < ((5 : ℝ) : EReal))) = _
    rw [decide_eq_true h]; rfl)
  have h5' : (5 : ℝ) ≤ w := by rw [EReal.coe_lt_coe_iff] at hn; exact not_lt.mp hn
  exact ⟨Real.sqrt w, if_neg (by linarith)⟩

/-- The two deviates agree, and are real. -/
theorem norm_eq (b : BitVec 32) : knorm (sym b) = rnorm (sym b) ∧ Fin' (knorm (sym b)) := by
  obtain ⟨r, h0, h1, hr⟩ := sym_eq b
  rw [hr]
  obtain ⟨hw, hf⟩ := kw_eq h0 h1
  unfold knorm rnorm
  rw [← hw]
  generalize hk : kw (r : EReal) = w at hf
  have s2 := ofBits_fin 0x3FB504F3#32 (by decide)
  have f1 := ofBits_fin 0x32F16588#32 (by decide)
  have f2 := ofBits_fin 0xB951F09B#32 (by decide)
  have t1 := ofBits_fin 0x40200000#32 (by decide)
  have t2 := ofBits_fin 0x40400000#32 (by decide)
  by_cases hc : Ideal.cmp .olt w (Ideal.ofBits .f32 0x40A00000#32) = 1#1
  · simp only [hc, select_one]
    refine ⟨?_, s2.mul (Fin'.mul ?_ (.coe r))⟩
    · unfold poly; rw [List.foldl_map]
    · exact poly_fin (hf.sub t1) _ coefs_fst _ f1
  · have hs := sqrt_fin hf hc
    simp only [eq_zero_of_ne_one hc, select_zero]
    refine ⟨?_, s2.mul (Fin'.mul ?_ (.coe r))⟩
    · unfold poly; rw [List.foldl_map]
    · exact poly_fin (hs.sub t2) _ coefs_snd _ f2

end Cert.Scal

end
-- ==== Proof.Rl.lean ====
/- Arrays of real numbers among the arrays of extended reals; the scale and the log density over the reals. -/
module

public import Idealize.ShloMosaic.Lib.ValueIdx
public import Idealize.ShloMosaic.Lib.IdealHost
public import Idealize.ShloMosaic.Lib.StackMember
public import Idealize.ShloMosaic.PureOps.Ideal.Laws
public import proofs.«01_k».proof.Proof.Mat
public import proofs.«01_k».proof.Proof.Scal

@[expose] public section

set_option maxRecDepth 16384
set_option maxHeartbeats 400000

noncomputable section

namespace Cert.Rl

open Idealize.ShloMosaic Idealize.ShloMosaic.ValueIdx Cert.Mat Cert.Scal
open scoped BigOperators

/-- A vector holds the reals `a`. -/
def R1 {n : ℕ} (x : (⟨1, ![n]⟩ : Shape).Idx → EReal) (a : Fin n → ℝ) : Prop := ∀ i, x (ix1 i) = (a i : EReal)
/-- A matrix holds the reals `A`. -/
def R2 {m n : ℕ} (x : (⟨2, ![m, n]⟩ : Shape).Idx → EReal) (A : Matrix (Fin m) (Fin n) ℝ) : Prop := ∀ i j, x (ix2 i j) = (A i j : EReal)

/-- Whether two places below 128 are the same, as words. -/
theorem word_eq (i j : Fin 128) : (BitVec.ofNat 32 i.val == BitVec.ofNat 32 j.val) = decide (i = j) := by
  rw [Bool.eq_iff_iff, beq_iff_eq, decide_eq_true_iff]
  refine ⟨fun h => Fin.ext ?_, fun h => by rw [h]⟩
  have := congrArg BitVec.toNat h
  rw [BitVec.toNat_ofNat, BitVec.toNat_ofNat] at this; omega

/-- The index a reduction over the first axis, over the second, over the only one, puts back. -/
theorem lift0 {m n : ℕ} (h : (⟨2, ![m, n]⟩ : Shape).Reduces [0] (⟨1, ![n]⟩ : Shape)) (t : Fin n) (k : Fin m) : h.lift (ix1 t) k = ix2 k t := by
  funext c; apply Fin.ext; fin_cases c <;> rfl
@[inherit_doc lift0]
theorem lift1 {m n : ℕ} (h : (⟨2, ![m, n]⟩ : Shape).Reduces [1] (⟨1, ![m]⟩ : Shape)) (t : Fin m) (k : Fin n) : h.lift (ix1 t) k = ix2 t k := by
  funext c; apply Fin.ext; fin_cases c <;> rfl
@[inherit_doc lift0]
theorem lift00 {n : ℕ} (h : (⟨1, ![n]⟩ : Shape).Reduces [0] (⟨0, ![]⟩ : Shape)) (t) (k : Fin n) : h.lift t k = ix1 k := by
  funext c; apply Fin.ext; fin_cases c; rfl

theorem ofBits_bot : Ideal.ofBits .f32 0xFF800000#32 = ⊥ := by simp [Ideal.ofBits, Ideal.ieee]

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A column of reals sums to its real sum. -/
theorem sum_col {m n : ℕ} (h : (⟨2, ![m, n]⟩ : Shape).Reduces [0] (⟨1, ![n]⟩ : Shape)) {x : (⟨2, ![m, n]⟩ : Shape).Idx → EReal} {f : Fin m → ℝ}
    (j : Fin n) (hx : ∀ i, x (ix2 i j) = (f i : EReal)) : ∑ k : Fin m, x (h.lift (ix1 j) k) = ((∑ i, f i : ℝ) : EReal) := by
  rw [coe_sum]; exact Finset.sum_congr rfl fun i _ => by rw [lift0, hx]

/-- The product of two real matrices. -/
theorem R2.dot {m k n : ℕ} {φ ψ : FTy} (prec : Option ContractPrecision) {x : FVec Ideal ⟨2, ![m, k]⟩ φ} {y : FVec Ideal ⟨2, ![k, n]⟩ ψ}
    {A : Matrix (Fin m) (Fin k) ℝ} {B : Matrix (Fin k) (Fin n) ℝ} (hx : R2 x A) (hy : R2 y B) :
    R2 (Host.dotGeneral (DotDims.plain m k n) prec x y) (A * B) := by
  intro i j
  rw [Idealize.ShloMosaic.StackMember.dotGeneral_plain_apply, Matrix.mul_apply, coe_sum]
  exact Finset.sum_congr rfl fun c _ => by rw [hx i c, hy c j, ← EReal.coe_mul]

theorem abs_coe (r : ℝ) : max (r : EReal) (-(r : EReal)) = ((|r| : ℝ) : EReal) := by
  rw [← EReal.coe_neg, abs_eq_max_neg]; exact (EReal.coe_strictMono.monotone.map_max).symm

/-- The small number added to the largest row sum. -/
def eps : ℝ := (13421773 : ℝ) / 2 ^ 27

theorem ofBits_eps : Ideal.ofBits .f32 0x3DCCCCCD#32 = (eps : EReal) := by
  unfold eps; simp [Ideal.ofBits, Ideal.ieee, -EReal.coe_mul]; norm_num

/-- The largest absolute row sum, among the extended reals. -/
def gmax (S : Matrix (Fin 128) (Fin 128) ℝ) : EReal := Finset.univ.sup fun i => ((∑ j, |S i j| : ℝ) : EReal)

/-- The absolute row sums of a matrix of extended reals, and the largest of them. -/
def asum (s : (⟨2, ![128, 128]⟩ : Shape).Idx → EReal) (i : Fin 128) : EReal := ∑ j : Fin 128, max (s (ix2 i j)) (-(s (ix2 i j)))
@[inherit_doc asum]
def amax (s : (⟨2, ![128, 128]⟩ : Shape).Idx → EReal) : EReal := Finset.univ.sup (asum s)

theorem amax_real {s : (⟨2, ![128, 128]⟩ : Shape).Idx → EReal} {S : Matrix (Fin 128) (Fin 128) ℝ} (hs : R2 s S) : amax s = gmax S := by
  unfold amax gmax
  refine Finset.sup_congr rfl fun i _ => ?_
  unfold asum
  rw [coe_sum]
  exact Finset.sum_congr rfl fun j _ => by rw [hs, abs_coe]

/-- An infinite entry makes the largest absolute row sum infinite. -/
theorem amax_top {s : (⟨2, ![128, 128]⟩ : Shape).Idx → EReal} {i j : Fin 128} (h : s (ix2 i j) = ⊤ ∨ s (ix2 i j) = ⊥) : amax s = ⊤ := by
  refine top_le_iff.mp ?_
  have h0 : ∀ x : EReal, 0 ≤ max x (-x) := by
    intro x
    rcases le_total 0 x with hx | hx
    · exact le_max_of_le_left hx
    · exact le_max_of_le_right (EReal.neg_nonneg.mpr hx)
  have h1 : max (s (ix2 i j)) (-(s (ix2 i j))) = ⊤ := by rcases h with h | h <;> rw [h] <;> simp
  refine h1.ge.trans ((Finset.single_le_sum (f := fun j : Fin 128 => max (s (ix2 i j)) (-(s (ix2 i j)))) (fun k _ => h0 _) (Finset.mem_univ j)).trans ?_)
  exact Finset.le_sup (f := asum s) (Finset.mem_univ i)

/-- A fold of maxima over a vector's indices is the largest of its entries. -/
theorem fold_idx {n : ℕ} {x : (⟨1, ![n]⟩ : Shape).Idx → EReal} {f : Fin n → EReal} (h : ∀ i, x (ix1 i) = f i) :
    Finset.univ.fold max ⊥ x = Finset.univ.sup f := by
  refine le_antisymm (Finset.sup_le (f := x) fun i _ => ?_) (Finset.sup_le fun i _ => ?_)
  · rw [eq_ix1 i]; exact (h (i 0)).le.trans (Finset.le_sup (f := f) (Finset.mem_univ _))
  · rw [← h]; exact Finset.le_sup (f := x) (Finset.mem_univ (ix1 i))

/-- The scale. -/
def scale (S : Matrix (Fin 128) (Fin 128) ℝ) : ℝ := 2 / ((gmax S).toReal + eps)

theorem gmax_spec (S : Matrix (Fin 128) (Fin 128) ℝ) : ∃ G : ℝ, gmax S = (G : EReal) ∧ 0 ≤ G ∧ ∀ i, ∑ j, |S i j| ≤ G := by
  obtain ⟨i, -, hi⟩ := Finset.exists_max_image Finset.univ (fun i => ∑ j, |S i j|) ⟨(0 : Fin 128), Finset.mem_univ _⟩
  refine ⟨∑ j, |S i j|, le_antisymm (Finset.sup_le fun k hk => EReal.coe_le_coe_iff.mpr (hi k hk)) ?_,
    Finset.sum_nonneg fun j _ => abs_nonneg _, fun k => hi k (Finset.mem_univ _)⟩
  exact Finset.le_sup (f := fun i => ((∑ j, |S i j| : ℝ) : EReal)) (Finset.mem_univ i)

theorem scale_pos (S : Matrix (Fin 128) (Fin 128) ℝ) : 0 < scale S := by
  obtain ⟨G, h, h0, -⟩ := gmax_spec S
  unfold scale; rw [h, EReal.toReal_coe]; unfold eps; positivity

theorem scale_row (S : Matrix (Fin 128) (Fin 128) ℝ) (i : Fin 128) : scale S * ∑ j, |S i j| < 2 := by
  obtain ⟨G, h, h0, hi⟩ := gmax_spec S
  unfold scale; rw [h, EReal.toReal_coe, div_mul_eq_mul_div]
  have he : 0 < eps := by unfold eps; positivity
  rw [div_lt_iff₀ (by linarith)]; linarith [hi i]

theorem scale_eq (S : Matrix (Fin 128) (Fin 128) ℝ) :
    Ideal.div (Ideal.ofBits .f32 0x40000000#32) (gmax S + Ideal.ofBits .f32 0x3DCCCCCD#32) = (scale S : EReal) := by
  obtain ⟨G, h, h0, -⟩ := gmax_spec S
  have he : 0 < eps := by unfold eps; positivity
  unfold scale
  rw [ofBits_two, ofBits_eps, h, EReal.toReal_coe, ← EReal.coe_add]
  unfold Ideal.div
  rw [if_neg (by exact_mod_cast (by linarith : G + eps ≠ 0)), ← EReal.coe_inv, ← EReal.coe_mul, div_eq_mul_inv]

/-- The scale of a matrix with an infinite entry. -/
theorem scale_top : Ideal.div (Ideal.ofBits .f32 0x40000000#32) (⊤ + Ideal.ofBits .f32 0x3DCCCCCD#32) = 0 := by
  rw [ofBits_eps, EReal.top_add_coe]
  unfold Ideal.div
  rw [if_neg EReal.top_ne_zero, EReal.inv_top, mul_zero]

/-- A product with a zero matrix on the left, on the right. -/
theorem dot_zero_left {m k n : ℕ} {φ ψ : FTy} (prec : Option ContractPrecision) {x : FVec Ideal ⟨2, ![m, k]⟩ φ} (y : FVec Ideal ⟨2, ![k, n]⟩ ψ)
    (hx : R2 x (0 : Matrix (Fin m) (Fin k) ℝ)) : R2 (Host.dotGeneral (DotDims.plain m k n) prec x y) (0 : Matrix (Fin m) (Fin n) ℝ) := by
  intro i j
  rw [Idealize.ShloMosaic.StackMember.dotGeneral_plain_apply]
  exact Finset.sum_eq_zero fun c _ => by rw [hx i c]; exact zero_mul _
@[inherit_doc dot_zero_left]
theorem dot_zero_right {m k n : ℕ} {φ ψ : FTy} (prec : Option ContractPrecision) (x : FVec Ideal ⟨2, ![m, k]⟩ φ) {y : FVec Ideal ⟨2, ![k, n]⟩ ψ}
    (hy : R2 y (0 : Matrix (Fin k) (Fin n) ℝ)) : R2 (Host.dotGeneral (DotDims.plain m k n) prec x y) (0 : Matrix (Fin m) (Fin n) ℝ) := by
  intro i j
  rw [Idealize.ShloMosaic.StackMember.dotGeneral_plain_apply]
  exact Finset.sum_eq_zero fun c _ => by rw [hy c j]; exact mul_zero _

/-- The conditional standard deviation from the inverse's diagonal entry. -/
theorem std_eq {p : ℝ} (hp : 0 < p) : Ideal.sqrt (Ideal.div (Ideal.ofBits .f32 0x3F800000#32) (p : EReal)) = (Real.sqrt (1 / p) : EReal) := by
  unfold Ideal.div
  rw [Ideal.ofBits_one_f32, if_neg (by exact_mod_cast hp.ne'), ← EReal.coe_inv, ← EReal.coe_one, ← EReal.coe_mul, ← div_eq_mul_inv]
  exact if_neg (not_lt.mpr (by positivity))

/-- The reference's matrix after `N` terms at the scale. -/
abbrev prec (S : Matrix (Fin 128) (Fin 128) ℝ) : Matrix (Fin 128) (Fin 128) ℝ := neu (scale S) S 2048

/-- The row with entry `j` replaced by `t`, less the mean. -/
def dif (x mu : Fin 128 → ℝ) (j : Fin 128) (t : ℝ) (k : Fin 128) : ℝ := (if j = k then t else x k) - mu k

/-- The quadratic form of a row. -/
def quad (P : Matrix (Fin 128) (Fin 128) ℝ) (d : Fin 128 → ℝ) : ℝ := ∑ k, (∑ l, d l * P l k) * d k

/-- The difference of two log densities that differ in one coordinate is the kernel's expression. -/
theorem accept (P : Matrix (Fin 128) (Fin 128) ℝ) (hP : P.IsSymm) (x mu : Fin 128 → ℝ) (j : Fin 128) (s t e : ℝ) :
    -(1 / 2) * (quad P (dif x mu j s) + e) - -(1 / 2) * (quad P (dif x mu j t) + e)
      = (0 - ((s - x j) - (t - x j))) * ((∑ k, (x k - mu k) * P k j) + 1 / 2 * ((s - x j) + (t - x j)) * P j j) := by
  have key : ∀ u, quad P (dif x mu j u) = quad P (fun k => x k - mu k) + 2 * (u - x j) * (∑ k, (x k - mu k) * P k j) + (u - x j) ^ 2 * P j j := by
    intro u
    have hd : ∀ k, dif x mu j u k = (x k - mu k) + if j = k then u - x j else 0 := by
      intro k; unfold dif; split_ifs with h
      · subst h; ring
      · ring
    have hs : ∑ k, P j k * (x k - mu k) = ∑ k, (x k - mu k) * P k j := Finset.sum_congr rfl fun k _ => by rw [hP.apply, mul_comm]
    unfold quad
    simp only [hd, add_mul, mul_add, Finset.sum_add_distrib, ite_mul, mul_ite, zero_mul, mul_zero, Finset.sum_ite_eq, Finset.mem_univ, if_true]
    have h1 : ∑ k, (u - x j) * P j k * (x k - mu k) = (u - x j) * ∑ k, (x k - mu k) * P k j := by
      rw [← hs, Finset.mul_sum]; exact Finset.sum_congr rfl fun k _ => by ring
    rw [h1]; ring
  rw [key, key]; ring

end Cert.Rl

end
-- ==== Proof.Tf.lean ====
/- The counter-based generator on single words: what the reference's rounds compute, read off its operations one round at a
   time, at one index. -/
module

public import proofs.«01_k».proof.Proof.RefRun
public import Idealize.ShloMosaic.Lib.ValueIdxCore

@[expose] public section

set_option maxRecDepth 16384

noncomputable section

namespace Cert.Tf

open Idealize.ShloMosaic Idealize.ShloMosaic.TcCoe Idealize.ShloMosaic.StableHlo Idealize.ShloMosaic.ValueIdx

local notation "W" => BitVec 32

/-- A word rotated left by `r`, `r' = 32 - r`. -/
def rot (r r' y : W) : W := IntOp.shli .vector y r ||| IntOp.shrui .vector y r'

/-- One round on a pair of words. -/
def rnd (r r' : W) (p : W × W) : W × W := (p.1 + p.2, (p.1 + p.2) ^^^ rot r r' p.2)

/-- The rounds of an even group, and of an odd one. -/
def even (p : W × W) : W × W := rnd 6 26 (rnd 26 6 (rnd 15 17 (rnd 13 19 p)))
@[inherit_doc even]
def odd (p : W × W) : W × W := rnd 24 8 (rnd 16 16 (rnd 29 3 (rnd 17 15 p)))

/-- The key words `a` and `b` put in after the `n`th group. -/
def inj (a b n : W) (p : W × W) : W × W := (p.1 + a, p.2 + b + n)

/-- The third key word. -/
def k2 (a b : W) : W := a ^^^ b ^^^ 466688986#32

/-- The generator: from the key `(a, b)` and the counter `(x, y)` a pair of words. -/
def tf (a b x y : W) : W × W :=
  inj (k2 a b) a 5 (even (inj b (k2 a b) 4 (odd (inj a b 3 (even (inj (k2 a b) a 2 (odd (inj b (k2 a b) 1
    (even (x + a, y + b))))))))))

variable {τ : Topo} {sig : RefSig} {Val : EltTy → Type} {V : Valuation τ sig Val}

/-- What a typed reference's buffer holds. -/
abbrev rd {T : BufTy} (V : Valuation τ sig Val) (x : TRef sig T) : T.Contents Val := x.ofBuf (V (Proc.devRef .tc x.ref))

/-- The contents satisfy the operations of a line. -/
def Holds (V : Valuation τ sig Val) (L : List (HloOp τ sig Val)) : Prop := ∀ op ∈ L, op.result V = V

theorem Holds.head {o : HloOp τ sig Val} {L : List (HloOp τ sig Val)} (h : Holds V (o :: L)) : o.result V = V := h o List.mem_cons_self
theorem Holds.tail {o : HloOp τ sig Val} {L : List (HloOp τ sig Val)} (h : Holds V (o :: L)) : Holds V L :=
  fun p hp => h p (List.mem_cons_of_mem _ hp)

theorem Holds.nth {o : HloOp τ sig Val} {L : List (HloOp τ sig Val)} (h : Holds V L) (k : ℕ) (hk : L[k]? = some o) : o.result V = V :=
  h o (List.mem_of_getElem? hk)

variable {T Ta Tb Tc Td : BufTy} {L : List (HloOp τ sig Val)}

/-- The equations of typed operations. -/
theorem t0 {y : TRef sig T} {v : T.Contents Val} (h : (TRef.nullary (τ := τ) y v).result V = V) : rd V y = v := by
  obtain ⟨r, e, _, _⟩ := y; subst e; exact Fix.eq0 h
@[inherit_doc t0]
theorem t1 {a : TRef sig Ta} {y : TRef sig T} {f : Ta.Contents Val → T.Contents Val} (h : (TRef.unary (τ := τ) a y f).result V = V) :
    rd V y = f (rd V a) := by
  obtain ⟨r, e, _, _⟩ := y; obtain ⟨s, e', _, _⟩ := a; subst e; subst e'; exact Fix.eq1 h
@[inherit_doc t0]
theorem t2 {a : TRef sig Ta} {b : TRef sig Tb} {y : TRef sig T} {f : Ta.Contents Val → Tb.Contents Val → T.Contents Val}
    (h : (TRef.binary (τ := τ) a b y f).result V = V) : rd V y = f (rd V a) (rd V b) := by
  obtain ⟨r, e, _, _⟩ := y; obtain ⟨s, e', _, _⟩ := a; obtain ⟨s', e'', _, _⟩ := b; subst e; subst e'; subst e''; exact Fix.eq2 h
@[inherit_doc t0]
theorem t3 {d : TRef sig Td} {a : TRef sig Ta} {b : TRef sig Tb} {y : TRef sig T}
    {f : Td.Contents Val → Ta.Contents Val → Tb.Contents Val → T.Contents Val}
    (h : (TRef.ternary (τ := τ) d a b y f).result V = V) : rd V y = f (rd V d) (rd V a) (rd V b) := by
  obtain ⟨r, e, _, _⟩ := y; obtain ⟨s, e', _, _⟩ := a; obtain ⟨s', e'', _, _⟩ := b; obtain ⟨s'', e3, _, _⟩ := d
  subst e; subst e'; subst e''; subst e3; exact Fix.eq3 h

section Lines
variable {F : FTy → Type} {V : Valuation τ sig (Elt F)} {L : List (HloOp τ sig (Elt F))} {S K K' : Shape}

local notation "S0" => (⟨0, ![]⟩ : Shape)

/-- A line of operations that begins with one round leaves the round of the pair it reads. -/
theorem round {x y x' y' b s b' s' o : TRef sig ⟨S, .i32⟩} {c c' : TRef sig ⟨S0, .i32⟩} {r r' : W}
    {h h' : (S0 : Shape).BroadcastsInDim S ![]}
    (H : Holds V (TRef.binary x y x' addi :: TRef.nullary c (constantI S0 32 r) :: TRef.unary c b (broadcastInDim S ![] h)
      :: TRef.binary y b s Host.shli :: TRef.nullary c' (constantI S0 32 r') :: TRef.unary c' b' (broadcastInDim S ![] h')
      :: TRef.binary y b' s' Host.shrui :: TRef.binary s s' o ori :: TRef.binary x' o y' xori :: L)) (i : S.Idx) {p : W × W}
    (hx : (rd V x : IVec S 32) i = p.1) (hy : (rd V y : IVec S 32) i = p.2) :
    (rd V x' : IVec S 32) i = (rnd r r' p).1 ∧ (rd V y' : IVec S 32) i = (rnd r r' p).2 ∧ Holds V L := by
  have e1 : (rd V x' : IVec S 32) i = p.1 + p.2 := by
    rw [t2 H.head]; show (rd V x : IVec S 32) i + (rd V y : IVec S 32) i = _; rw [hx, hy]
  have e2 : (rd V b : IVec S 32) i = r := by rw [t1 H.tail.tail.head, t0 H.tail.head]; rfl
  have e3 : (rd V b' : IVec S 32) i = r' := by
    rw [t1 H.tail.tail.tail.tail.tail.head, t0 H.tail.tail.tail.tail.head]; rfl
  refine ⟨e1, ?_, H.tail.tail.tail.tail.tail.tail.tail.tail.tail⟩
  rw [t2 H.tail.tail.tail.tail.tail.tail.tail.tail.head]
  show (rd V x' : IVec S 32) i ^^^ (rd V o : IVec S 32) i = _
  rw [t2 H.tail.tail.tail.tail.tail.tail.tail.head]
  show (rd V x' : IVec S 32) i ^^^ ((rd V s : IVec S 32) i ||| (rd V s' : IVec S 32) i) = _
  rw [t2 H.tail.tail.tail.head, t2 H.tail.tail.tail.tail.tail.tail.head]
  show (rd V x' : IVec S 32) i ^^^ (IntOp.shli .host ((rd V y : IVec S 32) i) ((rd V b : IVec S 32) i)
    ||| IntOp.shrui .host ((rd V y : IVec S 32) i) ((rd V b' : IVec S 32) i)) = _
  rw [e1, e2, e3, hy, shli_host, shrui_host]; rfl

/-- A line that begins with one injection of two key words leaves the injection of the pair it reads. -/
theorem inject {ka : TRef sig ⟨K, .i32⟩} {kb : TRef sig ⟨K', .i32⟩} {x y ba x' bb y' bc y'' : TRef sig ⟨S, .i32⟩} {c : TRef sig ⟨S0, .i32⟩}
    {n : W} {fa : IVec K 32 → IVec S 32} {fb : IVec K' 32 → IVec S 32} {h : (S0 : Shape).BroadcastsInDim S ![]}
    (H : Holds V (TRef.unary ka ba fa :: TRef.binary x ba x' addi :: TRef.unary kb bb fb :: TRef.binary y bb y' addi
      :: TRef.nullary c (constantI S0 32 n) :: TRef.unary c bc (broadcastInDim S ![] h) :: TRef.binary y' bc y'' addi :: L))
    (i : S.Idx) {p : W × W} (hx : (rd V x : IVec S 32) i = p.1) (hy : (rd V y : IVec S 32) i = p.2)
    {a b : W} (ha : fa (rd V ka) i = a) (hb : fb (rd V kb) i = b) :
    (rd V x' : IVec S 32) i = (inj a b n p).1 ∧ (rd V y'' : IVec S 32) i = (inj a b n p).2 ∧ Holds V L := by
  refine ⟨?_, ?_, H.tail.tail.tail.tail.tail.tail.tail⟩
  · rw [t2 H.tail.head]; show (rd V x : IVec S 32) i + (rd V ba : IVec S 32) i = _
    rw [t1 H.head, hx]; exact congrArg _ ha
  · rw [t2 H.tail.tail.tail.tail.tail.tail.head]; show (rd V y' : IVec S 32) i + (rd V bc : IVec S 32) i = _
    rw [t2 H.tail.tail.tail.head, t1 H.tail.tail.tail.tail.tail.head, t0 H.tail.tail.tail.tail.head]
    show (rd V y : IVec S 32) i + (rd V bb : IVec S 32) i + n = _
    rw [hy, t1 H.tail.tail.head]; exact congrArg (fun z => p.2 + z + n) hb

end Lines

end Cert.Tf

end
-- ==== Proof.RMat.lean ====
/- The reference's matrix over the reals: the scale, the matrix the loop multiplies by, and after each trip one term more of the
   series; and the variances from its diagonal. -/
module

public import proofs.«01_k».proof.Proof.RefRun
public import proofs.«01_k».proof.Proof.Rl
public import proofs.«01_k».proof.Proof.Tf

@[expose] public section

set_option maxRecDepth 16384
set_option maxHeartbeats 400000

noncomputable section

namespace Cert.RMat

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained Cert.Mat Cert.Scal Cert.Rl Cert.Tf
open scoped BigOperators

/-- Every operation after the loop holds of the final contents, stretch by stretch; before it, of the contents there. -/
theorem hold {F : FTy → Type} [FloatOps F] (m : (ℓ : Loc nD τ sig) → Buf (Elt F) ℓ) (c : Dev nD) {k : ℕ} {L : List (HloOp τ sig (Elt F))}
    (h : postI[k]? = some L) : Holds (VF m c) L :=
  fun op ho => post_fixed m c op (List.mem_flatten.mpr ⟨L, List.mem_of_getElem? h, ho⟩)

/-- The comparison of the two coordinates' numbers. -/
theorem mask_eq (h : (⟨0, ![]⟩ : Shape).BroadcastsInDim S128x128 ![]) (i j : Fin 128) :
    cmpi .eq (addi (iotaInDim S128x128 32 0) (broadcastInDim S128x128 ![] h (constantI S_ 32 0#32))) (iotaInDim S128x128 32 1) (ix2 i j)
      = BitVec.ofBool (decide (i = j)) := by
  show BitVec.ofBool (BitVec.ofNat 32 i.val + 0#32 == BitVec.ofNat 32 j.val) = _
  rw [BitVec.add_zero, word_eq]

/-- The unit matrix from the comparison. -/
theorem eye_eq {x : IVec S128x128 1} (hx : ∀ i j, x (ix2 i j) = BitVec.ofBool (decide (i = j))) :
    R2 (uitofp (F := Ideal) .f32 x) (1 : Matrix (Fin 128) (Fin 128) ℝ) := by
  intro i j
  show (((x (ix2 i j)).toNat : ℝ) : EReal) = _
  rw [hx, Matrix.one_apply]
  by_cases h : i = j
  · rw [decide_eq_true h, if_pos h, show (BitVec.ofBool true).toNat = 1 by decide]; norm_num
  · rw [decide_eq_false h, if_neg h, show (BitVec.ofBool false).toNat = 0 by decide]; norm_num

variable {m : (ℓ : Loc nD τ sig) → Buf (Elt Ideal) ℓ} {c : Dev nD} {S : Matrix (Fin 128) (Fin 128) ℝ}

/-- Before the loop: the unit matrix, and the scale from the largest absolute row sum. -/
theorem unit_eq : R2 (VE m c (Proc.devRef .tc main_v5) : S128x128.Idx → EReal) (1 : Matrix (Fin 128) (Fin 128) ℝ) := by
  have H : Holds (VE m c) hostOps0 := pre_fixed m c
  rw [Fix.eq1 (H.nth 6 rfl)]
  refine eye_eq fun i j => ?_
  rw [Fix.eq2 (H.nth 5 rfl), Fix.eq2 (H.nth 4 rfl), Fix.eq1 (H.nth 3 rfl), Fix.eq0 (H.nth 2 rfl), Fix.eq0 (H.nth 1 rfl), Fix.eq0 (H.nth 0 rfl)]
  exact mask_eq _ i j
@[inherit_doc unit_eq]
theorem scale_amax : (VE m c (Proc.devRef .tc main_v10) : S_.Idx → EReal) ix0
    = Ideal.div (Ideal.ofBits .f32 0x40000000#32) (amax (VE m c (Proc.devRef .tc main_arg2)) + Ideal.ofBits .f32 0x3DCCCCCD#32) := by
  have H : Holds (VE m c) hostOps0 := pre_fixed m c
  have e7 : ∀ i, (VE m c (Proc.devRef .tc main_v7) : S128.Idx → EReal) (ix1 i) = asum (VE m c (Proc.devRef .tc main_arg2)) i := by
    intro i
    rw [Fix.eq2 (H.nth 9 rfl), Fix.eq1 (H.nth 7 rfl), Fix.eq0 (H.nth 8 rfl)]
    show Ideal.hostReduceAdd reducesTo_S128x128_S128_d1 _ (Ideal.ofBits .f32 0x00000000#32) (ix1 i) = _
    rw [Ideal.hostReduceAdd_single _ (by decide), Ideal.ofBits_zero_f32, zero_add]
    refine Finset.sum_congr rfl fun (j : Fin 128) _ => ?_
    rw [lift1 _ i j]
    rfl
  rw [Fix.eq2 (H.nth 15 rfl), Fix.eq0 (H.nth 14 rfl), Fix.eq2 (H.nth 13 rfl), Fix.eq0 (H.nth 12 rfl), Fix.eq2 (H.nth 11 rfl), Fix.eq0 (H.nth 10 rfl)]
  show Ideal.div (Ideal.ofBits .f32 0x40000000#32) (Host.reduce (max : EReal → EReal → EReal) _ (fun _ => Ideal.ofBits .f32 0xFF800000#32) reducesTo_S128_S_d0 h_S_ ix0 + Ideal.ofBits .f32 0x3DCCCCCD#32) = _
  congr 2
  rw [Host.reduce_eq_fold, ofBits_bot, Finset.filter_true_of_mem (fun i _ => funext fun a : Fin 0 => a.elim0)]
  exact fold_idx e7

/-- Before the loop: the scale, the unit matrix, the matrix multiplied by, the first term. -/
theorem entry (hs : R2 (m (c, Proc.devRef .tc main_arg2) : S128x128.Idx → EReal) S) :
    ((VE m c (Proc.devRef .tc main_v16_0) : S_.Idx → EReal) ix0 = (scale S : EReal))
    ∧ R2 (VE m c (Proc.devRef .tc main_v16_1) : S128x128.Idx → EReal) (1 : Matrix (Fin 128) (Fin 128) ℝ)
    ∧ R2 (VE m c (Proc.devRef .tc main_v16_2) : S128x128.Idx → EReal) (1 - scale S • S)
    ∧ R2 (VE m c (Proc.devRef .tc main_v16_5) : S128x128.Idx → EReal) (neu (scale S) S 1) := by
  have H : Holds (VE m c) hostOps0 := pre_fixed m c
  rw [← VE_arg m c (b := main_arg2) (by decide)] at hs
  have e5 := unit_eq (m := m) (c := c)
  have e10 : (VE m c (Proc.devRef .tc main_v10) : S_.Idx → EReal) ix0 = (scale S : EReal) := by rw [scale_amax, amax_real hs, scale_eq]
  have eb : ∀ i, broadcastInDim S128x128 ![] bcast_S_S128x128 (VE m c (Proc.devRef .tc main_v10)) i = (scale S : EReal) := by
    intro i; exact (broadcastInDim_scalar_apply _ _ _).trans e10
  refine ⟨?_, ?_, ?_, ?_⟩
  · rw [Fix.eq1 (H.nth 23 rfl)]; exact e10
  · rw [Fix.eq1 (H.nth 24 rfl)]; exact e5
  · rw [Fix.eq1 (H.nth 25 rfl)]
    intro i j
    show (VE m c (Proc.devRef .tc main_v13) : S128x128.Idx → EReal) (ix2 i j) = _
    rw [Fix.eq2 (H.nth 18 rfl), Fix.eq2 (H.nth 17 rfl), Fix.eq1 (H.nth 16 rfl)]
    refine (congrArg₂ (fun a b : EReal => a - b) (e5 i j) (congrArg₂ (fun a b : EReal => a * b) (eb (ix2 i j)) (hs i j))).trans ?_
    beta_reduce
    rw [← EReal.coe_mul, ← EReal.coe_sub]; rfl
  · rw [Fix.eq1 (H.nth 28 rfl)]
    intro i j
    show (VE m c (Proc.devRef .tc main_v15) : S128x128.Idx → EReal) (ix2 i j) = _
    rw [Fix.eq2 (H.nth 20 rfl), Fix.eq1 (H.nth 19 rfl)]
    refine (congrArg₂ (fun a b : EReal => a * b) (eb (ix2 i j)) (e5 i j)).trans ?_
    beta_reduce
    rw [← EReal.coe_mul, neu_one]; rfl

/-- After `k` trips the loop has `k + 1` terms of the series. -/
theorem trips (hs : R2 (m (c, Proc.devRef .tc main_arg2) : S128x128.Idx → EReal) S) :
    ∀ k, R2 (atK m k c (Proc.devRef .tc main_v16_5) : S128x128.Idx → EReal) (neu (scale S) S (k + 1))
  | 0 => (entry hs).2.2.2
  | k + 1 => by
    obtain ⟨h0, h1, h2, -⟩ := entry hs
    rw [show atK m (k + 1) c = afterL bodyI (after condOps (atK m k c)) from rfl, trip_main_v16_5, neu_succ]
    rw [cond_still _ (b := main_v16_0) (by decide), cond_still _ (b := main_v16_1) (by decide), cond_still _ (b := main_v16_2) (by decide),
      atK_still m c (b := main_v16_0) (by decide), atK_still m c (b := main_v16_1) (by decide), atK_still m c (b := main_v16_2) (by decide),
      cond_keeps (atK m k c) main_v16_5 (by decide)]
    intro i j
    refine (congrArg₂ (fun a b : EReal => a + b) (congrArg₂ (fun a b : EReal => a * b)
      (show broadcastInDim S128x128 ![] bcast_S_S128x128 (VE m c (Proc.devRef .tc main_v16_0)) (ix2 i j) = (scale S : EReal) from (broadcastInDim_scalar_apply _ _ _).trans h0)
      (h1 i j)) (R2.dot (φ := .f32) (ψ := .f32) (some .fp32) h2 (trips hs k) i j)).trans ?_
    beta_reduce
    rw [← EReal.coe_mul, ← EReal.coe_add]; rfl

/-- Where the scale vanishes, every term does. -/
theorem trips_zero (h : (VE m c (Proc.devRef .tc main_v10) : S_.Idx → EReal) ix0 = (0 : EReal)) :
    ∀ k, R2 (atK m k c (Proc.devRef .tc main_v16_5) : S128x128.Idx → EReal) (0 : Matrix (Fin 128) (Fin 128) ℝ)
  | 0 => by
    have H : Holds (VE m c) hostOps0 := pre_fixed m c
    show R2 (VE m c (Proc.devRef .tc main_v16_5) : S128x128.Idx → EReal) (0 : Matrix (Fin 128) (Fin 128) ℝ)
    rw [Fix.eq1 (H.nth 28 rfl)]
    intro i j
    show (VE m c (Proc.devRef .tc main_v15) : S128x128.Idx → EReal) (ix2 i j) = _
    rw [Fix.eq2 (H.nth 20 rfl), Fix.eq1 (H.nth 19 rfl)]
    refine (congrArg (fun a : EReal => a * (VE m c (Proc.devRef .tc main_v5) : S128x128.Idx → EReal) (ix2 i j))
      (show broadcastInDim S128x128 ![] bcast_S_S128x128 (VE m c (Proc.devRef .tc main_v10)) (ix2 i j) = (0 : EReal) from (broadcastInDim_scalar_apply _ _ _).trans h)).trans ?_
    exact zero_mul (M₀ := EReal) _
  | k + 1 => by
    have h0 : (VE m c (Proc.devRef .tc main_v16_0) : S_.Idx → EReal) ix0 = (0 : EReal) := by
      have H : Holds (VE m c) hostOps0 := pre_fixed m c
      rw [Fix.eq1 (H.nth 23 rfl)]; exact h
    rw [show atK m (k + 1) c = afterL bodyI (after condOps (atK m k c)) from rfl, trip_main_v16_5]
    rw [cond_still _ (b := main_v16_0) (by decide), cond_still _ (b := main_v16_1) (by decide), cond_still _ (b := main_v16_2) (by decide),
      atK_still m c (b := main_v16_0) (by decide), atK_still m c (b := main_v16_1) (by decide), atK_still m c (b := main_v16_2) (by decide),
      cond_keeps (atK m k c) main_v16_5 (by decide)]
    intro i j
    refine (congrArg₂ (fun a b : EReal => a + b) ((congrArg (fun a : EReal => a * (VE m c (Proc.devRef .tc main_v16_1) : S128x128.Idx → EReal) (ix2 i j))
      (show broadcastInDim S128x128 ![] bcast_S_S128x128 (VE m c (Proc.devRef .tc main_v16_0)) (ix2 i j) = (0 : EReal) from (broadcastInDim_scalar_apply _ _ _).trans h0)).trans (zero_mul _))
      (dot_zero_right (φ := .f32) (ψ := .f32) (some .fp32) (VE m c (Proc.devRef .tc main_v16_2) : S128x128.Idx → EReal) (trips_zero h k) i j)).trans ?_
    beta_reduce
    exact zero_add _

/-- At the end: the series of 2048 terms. -/
theorem inv_eq (hs : R2 (m (c, Proc.devRef .tc main_arg2) : S128x128.Idx → EReal) S) :
    R2 (VF m c (Proc.devRef .tc main_v16_5) : S128x128.Idx → EReal) (prec S) := by
  rw [VF_keep m c (by decide)]; unfold VL
  rw [cond_keeps _ main_v16_5 (by decide)]
  exact trips hs 2047

/-- At the end, where the scale vanishes: zero. -/
theorem inv_zero (h : amax (m (c, Proc.devRef .tc main_arg2)) = ⊤) : R2 (VF m c (Proc.devRef .tc main_v16_5) : S128x128.Idx → EReal) (0 : Matrix (Fin 128) (Fin 128) ℝ) := by
  rw [← VE_arg m c (b := main_arg2) (by decide)] at h
  rw [VF_keep m c (by decide)]; unfold VL
  rw [cond_keeps _ main_v16_5 (by decide)]
  exact trips_zero (by rw [scale_amax, h, scale_top]) 2047

/-- The reciprocal of the inverse's diagonal. -/
theorem var_eq {V : Valuation τ sig (Elt Ideal)} (H1 : Holds V hostOps0_1) (H2 : Holds V hostOps0_2) (H3 : Holds V hostOps0_3)
    {A : Matrix (Fin 128) (Fin 128) ℝ} (hA : R2 (V (Proc.devRef .tc main_v16_5) : S128x128.Idx → EReal) A) (j : Fin 128) :
    (V (Proc.devRef .tc main_v25) : S128.Idx → EReal) (ix1 j) = Ideal.div (Ideal.ofBits .f32 0x3F800000#32) (A j j : EReal) := by
  rw [Fix.eq2 (H3.nth 4 rfl), Fix.eq1 (H3.nth 3 rfl), Fix.eq0 (H3.nth 2 rfl)]
  show Ideal.div (Ideal.ofBits .f32 0x3F800000#32) ((V (Proc.devRef .tc main_v23) : S128.Idx → EReal) (ix1 j)) = _
  congr 1
  rw [Fix.eq2 (H3.nth 1 rfl), Fix.eq0 (H3.nth 0 rfl)]
  show Ideal.hostReduceAdd reducesTo_S128x128_S128_d0 _ (Ideal.ofBits .f32 0x00000000#32) (ix1 j) = _
  rw [Ideal.hostReduceAdd_single _ (by decide), Ideal.ofBits_zero_f32, zero_add]
  have h : ∀ i : Fin 128, (V (Proc.devRef .tc main_v22) : S128x128.Idx → EReal) (ix2 i j) = ((if i = j then A i j else 0 : ℝ) : EReal) := by
    intro i
    have hm : (V (Proc.devRef .tc main_v21) : IVec S128x128 1) (ix2 i j) = BitVec.ofBool (decide (i = j)) := by
      rw [Fix.eq2 (H1.nth 5 rfl), Fix.eq2 (H1.nth 4 rfl), Fix.eq1 (H1.nth 3 rfl), Fix.eq0 (H1.nth 2 rfl), Fix.eq0 (H1.nth 1 rfl), Fix.eq0 (H1.nth 0 rfl)]
      exact mask_eq _ i j
    have hz : (rd (V) (.of main_call0_v1 : TRef sig ⟨S128x128, .f32⟩) : S128x128.Idx → EReal) (ix2 i j) = 0 := by
      rw [t1 H2.tail.head, t1 H2.head, show rd (V) (.of main_cst_6 : TRef sig ⟨S_, .f32⟩) = _ from Fix.eq0 (H1.nth 6 rfl)]
      exact Ideal.ofBits_zero_f32
    have e := t3 H2.tail.tail.head
    refine (congrFun e (ix2 i j)).trans ?_
    refine (congr (congrArg₂ (Scalar.select (α := EReal)) hm (hA i j)) hz).trans ?_
    by_cases h : i = j
    · rw [decide_eq_true h, if_pos h]; rfl
    · rw [decide_eq_false h, if_neg h]; rfl
  refine (sum_col _ j h).trans (congrArg _ ?_)
  exact (Finset.sum_ite_eq' Finset.univ j fun i => A i j).trans (if_pos (Finset.mem_univ j))

end Cert.RMat

end
-- ==== Proof.RAcc.lean ====
/- One log density of the reference over the reals, from the operations that compute it. -/
module

public import proofs.«01_k».proof.Proof.RMat
public import Idealize.ShloMosaic.Lib.ValueLayout

@[expose] public section

set_option maxRecDepth 16384
set_option maxHeartbeats 400000

noncomputable section

namespace Cert.RAcc

open Idealize.ShloMosaic Idealize.ShloMosaic.ValueIdx
open Cert.ReferenceIdeal Cert.ReferenceIdeal.Gen Cert.Mat Cert.Scal Cert.Rl
open scoped BigOperators

local notation "T" => FVec Ideal S1024x128x128 FTy.f32
local notation "L" => FVec Ideal S131072x128 FTy.f32
local notation "V" => FVec Ideal S1024x128 FTy.f32

/-- The constant of the log density. -/
def ell : ℝ := (Ideal.ofBits .f32 0x43000000#32 * Ideal.log (Ideal.ofBits .f32 0x40C90FDB#32)).toReal

theorem ell_eq : Ideal.ofBits .f32 0x43000000#32 * Ideal.log (Ideal.ofBits .f32 0x40C90FDB#32) = (ell : EReal) := by
  have h1 : Ideal.ofBits .f32 0x40C90FDB#32 = ((13176795 / 2 ^ 21 : ℝ) : EReal) := by
    simp [Ideal.ofBits, Ideal.ieee, -EReal.coe_mul]; norm_num
  have h2 : Fin' (Ideal.ofBits .f32 0x43000000#32 * Ideal.log (Ideal.ofBits .f32 0x40C90FDB#32)) := by
    refine (ofBits_fin _ (by decide)).mul ?_
    rw [h1]; exact ⟨Real.log (13176795 / 2 ^ 21), if_neg (by norm_num)⟩
  obtain ⟨r, h⟩ := h2
  unfold ell; rw [h, EReal.toReal_coe]

theorem ofBits_mhalf : Ideal.ofBits .f32 0xBF000000#32 = ((-(1 / 2) : ℝ) : EReal) := by
  simp [Ideal.ofBits, Ideal.ieee, -EReal.coe_mul, -EReal.coe_neg]; norm_num

/-- A row of the long array. -/
def row (b : Fin 1024) (j : Fin 128) : Fin 131072 := ⟨128 * b.val + j.val, by have := b.isLt; have := j.isLt; omega⟩

/-- The reference's operations of one log density. -/
structure Ops (XL : T) (P : FVec Ideal S128x128 .f32) (mu : FVec Ideal S128 .f32) (x q : V) where
  (i0 i1 cb ad : IVec S128x128 32) (c : IVec S_ 32) (mk0 : IVec S128x128 1) (mk1 : IVec S1x128x128 1) (x1 : FVec Ideal S1024x128x1 .f32)
  (mk2 : IVec S1024x128x128 1) (x2 X : T) (Xr mur2 d dP pr : L) (mur : FVec Ideal S1x128 .f32) (z lc0 lc n ln ln1 h : FVec Ideal S_ .f32)
  (sm lb tot hb res : FVec Ideal S131072 .f32)
  hi0 : i0 = iotaInDim S128x128 32 0
  hi1 : i1 = iotaInDim S128x128 32 1
  hc : c = constantI S_ 32 0#32
  hcb : cb = broadcastInDim S128x128 ![] bcast_S_S128x128 c
  had : ad = addi i0 cb
  hmk : mk0 = cmpi .eq ad i1
  hmk1 : mk1 = broadcastInDim S1x128x128 ![1, 2] bcast_S128x128_S1x128x128_1_2 mk0
  hx1 : x1 = broadcastInDim S1024x128x1 ![0, 1] bcast_S1024x128_S1024x128x1_0_1 x
  hmk2 : mk2 = broadcastInDim S1024x128x128 ![0, 1, 2] bcast_S1x128x128_S1024x128x128_0_1_2 mk1
  hx2 : x2 = broadcastInDim S1024x128x128 ![0, 1, 2] bcast_S1024x128x1_S1024x128x128_0_1_2 x1
  hX : X = select mk2 x2 XL
  hXr : Xr = shapeCast S131072x128 X shapeCasts_S1024x128x128_S131072x128
  hmur : mur = broadcastInDim S1x128 ![1] bcast_S128_S1x128_1 mu
  hmur2 : mur2 = broadcastInDim S131072x128 ![0, 1] bcast_S1x128_S131072x128_0_1 mur
  hd : d = subf Xr mur2
  hdP : dP = Host.dotGeneral dot_S131072x128_S128x128_S131072x128_1_0_0_1_n_n (some .fp32) d P
  hpr : pr = mulf dP d
  hz : z = constant S_ .f32 0x00000000#32
  hsm : sm = Host.reduceAdd pr z reducesTo_S131072x128_S131072_d1 h_S_
  hlc0 : lc0 = constant S_ .f32 0x40C90FDB#32
  hlc : lc = Host.log lc0
  hn : n = constant S_ .f32 0x43000000#32
  hln : ln = mulf n lc
  hln1 : ln1 = ln
  hlb : lb = broadcastInDim S131072 ![] bcast_S_S131072 ln1
  htot : tot = addf sm lb
  hh : h = constant S_ .f32 0xBF000000#32
  hhb : hb = broadcastInDim S131072 ![] bcast_S_S131072 h
  hres : res = mulf hb tot
  hq : q = shapeCast S1024x128 res shapeCasts_S131072_S1024x128

variable {XL : T} {P : FVec Ideal S128x128 .f32} {mu : FVec Ideal S128 .f32} {x q : V}

/-- The log density from the quadratic form. -/
theorem Ops.of_sum (o : Ops XL P mu x q) (b : Fin 1024) (j : Fin 128) {r : ℝ} (hsm : o.sm (ix1 (row b j)) = (r : EReal)) :
    q (ix2 b j) = ((-(1 / 2) * (r + ell) : ℝ) : EReal) := by
  have hlb : o.lb (ix1 (row b j)) = (ell : EReal) := by
    rw [← ell_eq, o.hlb, broadcastInDim_scalar_apply, o.hln1, o.hln, o.hn, o.hlc, o.hlc0]; rfl
  have hhb : o.hb (ix1 (row b j)) = ((-(1 / 2) : ℝ) : EReal) := by
    rw [← ofBits_mhalf, o.hhb, broadcastInDim_scalar_apply, o.hh]; rfl
  rw [o.hq, shapeCast_apply _ _ _ (ix1 (row b j)) (by
      rw [Shape.rowMajor_val_one, Shape.rowMajor_val_two]; show 128 * b.val + j.val = b.val * 128 + j.val; ring),
    o.hres, mulf_apply, hhb, o.htot, addf_apply, hsm, hlb, ← EReal.coe_add, ← EReal.coe_mul]

/-- The log density, up to the constant, of the row with one entry replaced. -/
theorem Ops.eq (o : Ops XL P mu x q) {A : Matrix (Fin 128) (Fin 128) ℝ} {m : Fin 128 → ℝ} {X0 : Fin 1024 → Fin 128 → ℝ}
    (hXL : ∀ b j k, XL (ix3 b j k) = (X0 b k : EReal)) (hP : R2 (P : S128x128.Idx → EReal) A) (hmu : R1 (mu : S128.Idx → EReal) m)
    (b : Fin 1024) (j : Fin 128) {t : ℝ} (hx : x (ix2 b j) = (t : EReal)) :
    q (ix2 b j) = ((-(1 / 2) * (quad A (dif (X0 b) m j t) + ell) : ℝ) : EReal) := by
  have hb := b.isLt
  have hj := j.isLt
  have hm : ∀ k, o.mk2 (ix3 b j k) = BitVec.ofBool (decide (j = k)) := by
    intro k
    rw [o.hmk2, broadcastInDim_apply _ _ _ _ (ix3 0 j k) (fun a => by fin_cases a <;> rfl), o.hmk1,
      broadcastInDim_apply _ _ _ _ (ix2 j k) (fun a => by fin_cases a <;> rfl), o.hmk, o.had, o.hcb, o.hc, o.hi0, o.hi1]
    exact RMat.mask_eq _ j k
  have hx2 : ∀ k, o.x2 (ix3 b j k) = (t : EReal) := by
    intro k
    rw [o.hx2, broadcastInDim_apply _ _ _ _ (ix3 b j 0) (fun a => by fin_cases a <;> rfl), o.hx1,
      broadcastInDim_apply _ _ _ _ (ix2 b j) (fun a => by fin_cases a <;> rfl), hx]
  have hd : ∀ k, o.d (ix2 (row b j) k) = (dif (X0 b) m j t k : EReal) := by
    intro k
    rw [o.hd, subf_apply, o.hXr, shapeCast_apply _ _ _ (ix3 b j k) (by
      rw [Shape.rowMajor_val_three, Shape.rowMajor_val_two]; show (b.val * 128 + j.val) * 128 + k.val = (128 * b.val + j.val) * 128 + k.val; ring),
      o.hmur2, broadcastInDim_apply _ _ _ _ (ix2 0 k) (fun a => by fin_cases a <;> rfl), o.hmur,
      broadcastInDim_apply _ _ _ _ (ix1 k) (fun a => by fin_cases a; rfl), hmu, o.hX]
    show Scalar.select (o.mk2 (ix3 b j k)) (o.x2 (ix3 b j k)) (XL (ix3 b j k)) - _ = _
    rw [hm, hx2, hXL]
    unfold dif
    by_cases h : j = k
    · rw [decide_eq_true h, if_pos h]; exact (EReal.coe_sub _ _).symm
    · rw [decide_eq_false h, if_neg h]; exact (EReal.coe_sub _ _).symm
  have hdP : ∀ k, o.dP (ix2 (row b j) k) = ((∑ l, dif (X0 b) m j t l * A l k : ℝ) : EReal) := by
    intro k
    rw [o.hdP]
    refine (StackMember.dotGeneral_plain_apply (m := 131072) (k := 128) (n := 128) _ _ _ (row b j) k).trans ?_
    rw [coe_sum]
    exact Finset.sum_congr rfl fun l _ => by rw [hd l, hP l k, ← EReal.coe_mul]
  have hsm : o.sm (ix1 (row b j)) = (quad A (dif (X0 b) m j t) : EReal) := by
    rw [o.hsm, o.hz]
    show Ideal.hostReduceAdd reducesTo_S131072x128_S131072_d1 _ (Ideal.ofBits .f32 0x00000000#32) (ix1 (row b j)) = _
    rw [Ideal.hostReduceAdd_single _ (by decide), Ideal.ofBits_zero_f32, zero_add]
    unfold quad
    rw [coe_sum]
    refine Finset.sum_congr rfl fun (k : Fin 128) _ => ?_
    refine (congrArg _ (lift1 _ (row b j) k)).trans ?_
    rw [o.hpr, mulf_apply, hdP, hd, ← EReal.coe_mul]
  exact o.of_sum b j hsm

/-- With a zero matrix the log density is its constant, whatever the replaced entry. -/
theorem Ops.eq_zero (o : Ops XL P mu x q) (hP : R2 (P : S128x128.Idx → EReal) (0 : Matrix (Fin 128) (Fin 128) ℝ)) (b : Fin 1024) (j : Fin 128) :
    q (ix2 b j) = ((-(1 / 2) * (0 + ell) : ℝ) : EReal) := by
  refine o.of_sum b j ?_
  rw [o.hsm, o.hz]
  show Ideal.hostReduceAdd reducesTo_S131072x128_S131072_d1 _ (Ideal.ofBits .f32 0x00000000#32) (ix1 (row b j)) = _
  rw [Ideal.hostReduceAdd_single _ (by decide), Ideal.ofBits_zero_f32, zero_add]
  refine Finset.sum_eq_zero fun (k : Fin 128) _ => ?_
  refine (congrArg _ (lift1 _ (row b j) k)).trans ?_
  have hz : o.dP (ix2 (row b j) k) = (0 : EReal) := by
    rw [o.hdP]; exact dot_zero_right (m := 131072) (k := 128) (n := 128) _ _ hP (row b j) k
  rw [o.hpr, mulf_apply, hz]
  exact zero_mul (M₀ := EReal) _

end Cert.RAcc

end
-- ==== Proof.RefDraw.lean ====
/- The reference's three uses of the generator — folding the step's number into the key, splitting the key, drawing the bits —
   each read at one index as the generator on words. -/
module

public import proofs.«01_k».proof.Proof.Tf
public import Idealize.ShloMosaic.Lib.ValueLayout
public import Idealize.ShloMosaic.Lib.IdealHost

@[expose] public section

set_option maxRecDepth 16384
set_option maxHeartbeats 0

noncomputable section

namespace Cert.Tf

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained

variable {F : FTy → Type} [FloatOps F] {V : Valuation τ sig (Elt F)}

/-- Drawing the bits. -/
theorem draw (H : Holds V (hostOps0_7 (F := F))) (i : S4x2x1024x128.Idx) {a b x y : BitVec 32}
    (ha : (broadcastInDim S4x2x1024x128 ![0, 1, 2, 3] bcast_S4x2x1x1_S4x2x1024x128_0_1_2_3 (rd V (.of main_v57 : TRef sig ⟨S4x2x1x1, .i32⟩)) : IVec S4x2x1024x128 32) i = a)
    (hb : (broadcastInDim S4x2x1024x128 ![0, 1, 2, 3] bcast_S4x2x1x1_S4x2x1024x128_0_1_2_3 (rd V (.of main_v58 : TRef sig ⟨S4x2x1x1, .i32⟩)) : IVec S4x2x1024x128 32) i = b)
    (hx : (broadcastInDim S4x2x1024x128 ![0, 1, 2, 3] bcast_S1x1x1024x128_S4x2x1024x128_0_1_2_3 (rd V (.of main_v59 : TRef sig ⟨S1x1x1024x128, .i32⟩)) : IVec S4x2x1024x128 32) i = x)
    (hy : (broadcastInDim S4x2x1024x128 ![0, 1, 2, 3] bcast_S1x1x1024x128_S4x2x1024x128_0_1_2_3 (rd V (.of main_v60 : TRef sig ⟨S1x1x1024x128, .i32⟩)) : IVec S4x2x1024x128 32) i = y) :
    (rd V (.of main_v61_0 : TRef sig ⟨S4x2x1024x128, .i32⟩) : IVec S4x2x1024x128 32) i = (tf a b x y).1
      ∧ (rd V (.of main_v61_1 : TRef sig ⟨S4x2x1024x128, .i32⟩) : IVec S4x2x1024x128 32) i = (tf a b x y).2 := by
  have e0 := t2 H.head
  have hk : (broadcastInDim S4x2x1024x128 ![0, 1, 2, 3] bcast_S4x2x1x1_S4x2x1024x128_0_1_2_3 (rd V (.of main_call3_v2 : TRef sig ⟨S4x2x1x1, .i32⟩)) : IVec S4x2x1024x128 32) i = k2 a b := by
    rw [t2 H.tail.tail.tail.head, t1 H.tail.tail.head, t0 H.tail.head, e0, ← ha, ← hb]; rfl
  replace H := H.tail.tail.tail.tail
  have h1 : (rd V (.of main_call3_v5 : TRef sig ⟨S4x2x1024x128, .i32⟩) : IVec S4x2x1024x128 32) i = (x + a, y + b).1 := by
    rw [t2 H.tail.tail.head, t1 H.head, t1 H.tail.head, ← ha, ← hx]; rfl
  replace H := H.tail.tail.tail
  have h2 : (rd V (.of main_call3_v8 : TRef sig ⟨S4x2x1024x128, .i32⟩) : IVec S4x2x1024x128 32) i = (x + a, y + b).2 := by
    rw [t2 H.tail.tail.head, t1 H.head, t1 H.tail.head, ← hb, ← hy]; rfl
  replace H := H.tail.tail.tail
  iterate 4
    iterate 4 obtain ⟨h1, h2, H⟩ := round H i h1 h2
    obtain ⟨h1, h2, H⟩ := inject H i h1 h2 (by first | exact ha | exact hb | exact hk) (by first | exact ha | exact hb | exact hk)
  iterate 4 obtain ⟨h1, h2, H⟩ := round H i h1 h2
  obtain ⟨h1, h2, -⟩ := inject H i h1 h2 hk ha
  exact ⟨h1, h2⟩

end Cert.Tf

end
-- ==== Proof.RefFold.lean ====
/- The reference's three uses of the generator — folding the step's number into the key, splitting the key, drawing the bits —
   each read at one index as the generator on words. -/
module

public import proofs.«01_k».proof.Proof.Tf
public import Idealize.ShloMosaic.Lib.ValueLayout
public import Idealize.ShloMosaic.Lib.IdealHost

@[expose] public section

set_option maxRecDepth 16384
set_option maxHeartbeats 400000

noncomputable section

namespace Cert.Tf

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained

variable {F : FTy → Type} [FloatOps F] {V : Valuation τ sig (Elt F)}

/-- The contents of a buffer. -/
abbrev at' (V : Valuation τ sig (Elt F)) (r : Ref sig .tc) : r.ty.Contents (Elt F) := V (Proc.devRef .tc r)

/-- Two one-column words side by side, read in either column. -/
theorem cat0 {α : Type} (a b : S4x1.Idx → α) (h) (s : Fin 4) : concatenate S4x2 1 [⟨S4x1, a⟩, ⟨S4x1, b⟩] h (ix2 s 0) = a (ix2 s 0) :=
  concatenate_pair_apply_left 1 a b h _ rfl _ (fun d => by fin_cases d <;> rfl)
@[inherit_doc cat0]
theorem cat1 {α : Type} (a b : S4x1.Idx → α) (h) (s : Fin 4) : concatenate S4x2 1 [⟨S4x1, a⟩, ⟨S4x1, b⟩] h (ix2 s 1) = b (ix2 s 0) :=
  concatenate_pair_apply_right 1 a b h _ rfl rfl _ (fun d hd => by fin_cases d; exacts [rfl, absurd rfl hd]) rfl

/-- One column of two words. -/
theorem sl0 {α : Type} (x : S4x2.Idx → α) (h) (s : Fin 4) : extractStridedSlice S4x1 ![0, 0] x h (ix2 s 0) = x (ix2 s 0) :=
  extractStridedSlice_apply _ _ _ _ _ (fun d => by fin_cases d; exacts [(Nat.zero_add _).symm, rfl])
@[inherit_doc sl0]
theorem sl1 {α : Type} (x : S4x2.Idx → α) (h) (s : Fin 4) : extractStridedSlice S4x1 ![0, 1] x h (ix2 s 0) = x (ix2 s 1) :=
  extractStridedSlice_apply _ _ _ _ _ (fun d => by fin_cases d; exacts [(Nat.zero_add _).symm, rfl])

/-- Folding the step's number into the key: at step `s` the generator from the key at the counter `(0, s)`. -/
theorem fold (H3 : Holds V (hostOps0_3 (F := F))) (H : Holds V (hostOps0_4 (F := F))) (s : Fin 4) :
    (at' V main_v38 : IVec S4x2 32) (ix2 s 0) = (tf 0 42 0 (BitVec.ofNat 32 s.val)).1
      ∧ (at' V main_v38 : IVec S4x2 32) (ix2 s 1) = (tf 0 42 0 (BitVec.ofNat 32 s.val)).2 := by
  have hlast := t2 (H.nth 237 rfl)
  have v37 : (at' V main_v37 : IVec S4 32) = fun i => BitVec.ofNat 32 (i 0).val := by
    rw [show at' V main_v37 = _ from Fix.eq1 (H3.nth 19 rfl), Fix.eq0 (H3.nth 18 rfl)]; rfl
  have v35 : (at' V main_v35 : IVec S2 32) (ix1 0) = (0 : BitVec 32) ∧ (at' V main_v35 : IVec S2 32) (ix1 1) = (42 : BitVec 32) := by
    rw [show at' V main_v35 = _ from Fix.eq2 (H3.nth 17 rfl)]
    refine ⟨(concatenate_pair_apply_left (t := S2) (s₁ := S1) (s₂ := S1) 0 _ _ _ (ix1 0) rfl (ix1 0) (fun d => by fin_cases d; rfl)).trans ?_,
      (concatenate_pair_apply_right (t := S2) (s₁ := S1) (s₂ := S1) 0 _ _ _ (ix1 1) rfl rfl (ix1 0) (fun d hd => by fin_cases d; exact absurd rfl hd) rfl).trans ?_⟩
    · rw [Fix.eq1 (H3.nth 12 rfl), Fix.eq1 (H3.nth 11 rfl), Fix.eq2 (H3.nth 10 rfl), Fix.eq0 (H3.nth 9 rfl), Fix.eq0 (H3.nth 8 rfl)]; rfl
    · rw [Fix.eq1 (H3.nth 16 rfl), Fix.eq1 (H3.nth 15 rfl), Fix.eq2 (H3.nth 14 rfl), Fix.eq0 (H3.nth 13 rfl), Fix.eq0 (H3.nth 8 rfl)]; rfl
  have ha : (rd V (.of main_call1_v8 : TRef sig ⟨S_, .i32⟩) : IVec S_ 32) ix0 = 0 := by
    rw [show rd V (.of main_call1_v8 : TRef sig ⟨S_, .i32⟩) = _ from Fix.eqR (H.nth 10 rfl)]
    refine (shapeCast_apply _ _ _ (ix1 0) rfl).trans ?_
    rw [Fix.eq1 (H.nth 9 rfl)]
    exact (extractStridedSlice_apply _ _ slices_S2_S1_0 _ (ix1 0) (fun d => by fin_cases d; rfl)).trans v35.1
  have hb : (rd V (.of main_call1_v10 : TRef sig ⟨S_, .i32⟩) : IVec S_ 32) ix0 = 42 := by
    rw [show rd V (.of main_call1_v10 : TRef sig ⟨S_, .i32⟩) = _ from Fix.eqR (H.nth 12 rfl)]
    refine (shapeCast_apply _ _ _ (ix1 0) rfl).trans ?_
    rw [Fix.eq1 (H.nth 11 rfl)]
    exact (extractStridedSlice_apply _ _ slices_S2_S1_1 _ (ix1 1) (fun d => by fin_cases d; rfl)).trans v35.2
  have hk : (rd V (.of main_call1_call0_v1 : TRef sig ⟨S_, .i32⟩) : IVec S_ 32) ix0 = k2 0 42 := by
    rw [t2 (H.nth 17 rfl), t0 (H.nth 16 rfl), t2 (H.nth 15 rfl), ← ha, ← hb]; rfl
  have v6 := t2 (H.nth 8 rfl)
  have hx : (rd V (.of main_call1_v11 : TRef sig ⟨S4x1, .i32⟩) : IVec S4x1 32) (ix2 s 0) = 0 := by
    rw [t1 (H.nth 13 rfl), sl0, v6, cat0,
      t1 (H.nth 3 rfl), broadcastInDim_apply _ _ _ _ (ix1 s) (fun d => by fin_cases d; rfl), t2 (H.nth 2 rfl), t1 (H.nth 1 rfl), t0 (H.nth 0 rfl)]
    exact (shrui_host _ _).trans (shrui_32 _)
  have hy : (rd V (.of main_call1_v12 : TRef sig ⟨S4x1, .i32⟩) : IVec S4x1 32) (ix2 s 0) = BitVec.ofNat 32 s.val := by
    rw [t1 (H.nth 14 rfl), sl1, v6, cat1,
      t1 (H.nth 7 rfl), broadcastInDim_apply _ _ _ _ (ix1 s) (fun d => by fin_cases d; rfl), t2 (H.nth 6 rfl), t1 (H.nth 5 rfl), t0 (H.nth 4 rfl)]
    show (show BitVec 32 from at' V main_v37 (ix1 s)) &&& 4294967295#32 = _
    rw [v37]; fin_cases s <;> rfl
  replace hk : ∀ i : S4x1.Idx, (broadcastInDim S4x1 ![] bcast_S_S4x1 (rd V (.of main_call1_call0_v1 : TRef sig ⟨S_, .i32⟩)) : IVec S4x1 32) i = k2 0 42 :=
    fun i => (broadcastInDim_scalar_apply _ _ _).trans hk
  replace ha : ∀ i : S4x1.Idx, (broadcastInDim S4x1 ![] bcast_S_S4x1 (rd V (.of main_call1_v8 : TRef sig ⟨S_, .i32⟩)) : IVec S4x1 32) i = 0 :=
    fun i => (broadcastInDim_scalar_apply _ _ _).trans ha
  replace hb : ∀ i : S4x1.Idx, (broadcastInDim S4x1 ![] bcast_S_S4x1 (rd V (.of main_call1_v10 : TRef sig ⟨S_, .i32⟩)) : IVec S4x1 32) i = 42 :=
    fun i => (broadcastInDim_scalar_apply _ _ _).trans hb
  have h1 : (rd V (.of main_call1_call0_v3 : TRef sig ⟨S4x1, .i32⟩) : IVec S4x1 32) (ix2 s 0) = (0 + 0, BitVec.ofNat 32 s.val + 42).1 := by
    rw [t2 (H.nth 19 rfl), t1 (H.nth 18 rfl)]; exact congrArg₂ (· + ·) hx (ha _)
  have h2 : (rd V (.of main_call1_call0_v5 : TRef sig ⟨S4x1, .i32⟩) : IVec S4x1 32) (ix2 s 0) = (0 + 0, BitVec.ofNat 32 s.val + 42).2 := by
    rw [t2 (H.nth 21 rfl), t1 (H.nth 20 rfl)]; exact congrArg₂ (· + ·) hy (hb _)
  replace H := H.tail.tail.tail.tail.tail.tail.tail.tail.tail.tail.tail.tail.tail.tail.tail.tail.tail.tail.tail.tail.tail.tail
  iterate 4
    iterate 4 obtain ⟨h1, h2, H⟩ := round H _ h1 h2
    obtain ⟨h1, h2, H⟩ := inject H _ h1 h2 (by first | exact ha _ | exact hb _ | exact hk _) (by first | exact ha _ | exact hb _ | exact hk _)
  iterate 4 obtain ⟨h1, h2, H⟩ := round H _ h1 h2
  obtain ⟨h1, h2, -⟩ := inject H _ h1 h2 (hk _) (ha _)
  rw [show at' V main_v38 = _ from hlast, cat0, cat1]
  exact ⟨h1, h2⟩

end Cert.Tf

end
-- ==== Proof.RefSplit.lean ====
/- The reference's three uses of the generator — folding the step's number into the key, splitting the key, drawing the bits —
   each read at one index as the generator on words. -/
module

public import proofs.«01_k».proof.Proof.Tf
public import proofs.«01_k».proof.Proof.RefFold
public import Idealize.ShloMosaic.Lib.ValueLayout
public import Idealize.ShloMosaic.Lib.IdealHost

@[expose] public section

set_option maxRecDepth 16384
set_option maxHeartbeats 400000

noncomputable section

namespace Cert.Tf

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained

variable {F : FTy → Type} [FloatOps F] {V : Valuation τ sig (Elt F)}

/-- Two one-deep words side by side, read in either place. -/
theorem cat0' {α : Type} (a b : S4x2x1.Idx → α) (h) (s : Fin 4) (j : Fin 2) :
    concatenate S4x2x2 2 [⟨S4x2x1, a⟩, ⟨S4x2x1, b⟩] h (ix3 s j 0) = a (ix3 s j 0) :=
  concatenate_pair_apply_left 2 a b h _ rfl _ (fun d => by fin_cases d <;> rfl)
@[inherit_doc cat0']
theorem cat1' {α : Type} (a b : S4x2x1.Idx → α) (h) (s : Fin 4) (j : Fin 2) :
    concatenate S4x2x2 2 [⟨S4x2x1, a⟩, ⟨S4x2x1, b⟩] h (ix3 s j 1) = b (ix3 s j 0) :=
  concatenate_pair_apply_right 2 a b h _ rfl rfl _ (fun d hd => by fin_cases d; exacts [rfl, rfl, absurd rfl hd]) rfl

/-- Splitting the step's key in two: at `(s, j)` the generator from the step's key at the counter `(0, j)`. -/
theorem split (H : Holds V (hostOps0_5 (F := F))) (s : Fin 4) (j : Fin 2) {p : BitVec 32 × BitVec 32}
    (hp1 : (at' V main_v38 : IVec S4x2 32) (ix2 s 0) = p.1) (hp2 : (at' V main_v38 : IVec S4x2 32) (ix2 s 1) = p.2) :
    (at' V main_v39 : IVec S4x2x2 32) (ix3 s j 0) = (tf p.1 p.2 0 (BitVec.ofNat 32 j.val)).1
      ∧ (at' V main_v39 : IVec S4x2x2 32) (ix3 s j 1) = (tf p.1 p.2 0 (BitVec.ofNat 32 j.val)).2 := by
  have hlast := t2 (H.nth 244 rfl)
  have hl0 := t1 (H.nth 242 rfl)
  have hl1 := t1 (H.nth 243 rfl)
  have ha : (rd V (.of main_call2_v13 : TRef sig ⟨S4x1, .i32⟩) : IVec S4x1 32) (ix2 s 0) = p.1 := by
    rw [t1 (H.nth 15 rfl), broadcastInDim_apply _ _ _ _ (ix1 s) (fun d => by fin_cases d; rfl),
      show rd V (.of main_call2_v1 : TRef sig ⟨S4, .i32⟩) = _ from Fix.eqR (H.nth 1 rfl)]
    refine (shapeCast_apply _ _ _ (ix2 s 0) (by fin_cases s <;> rfl)).trans ?_
    rw [Fix.eq1 (H.nth 0 rfl)]
    exact (sl0 _ slices_S4x2_S4x1_0_0 s).trans hp1
  have hb : (rd V (.of main_call2_v14 : TRef sig ⟨S4x1, .i32⟩) : IVec S4x1 32) (ix2 s 0) = p.2 := by
    rw [t1 (H.nth 16 rfl), broadcastInDim_apply _ _ _ _ (ix1 s) (fun d => by fin_cases d; rfl),
      show rd V (.of main_call2_v3 : TRef sig ⟨S4, .i32⟩) = _ from Fix.eqR (H.nth 3 rfl)]
    refine (shapeCast_apply _ _ _ (ix2 s 0) (by fin_cases s <;> rfl)).trans ?_
    rw [Fix.eq1 (H.nth 2 rfl)]
    exact (sl1 _ slices_S4x2_S4x1_0_1 s).trans hp2
  have hk : (rd V (.of main_call2_call0_v2 : TRef sig ⟨S4x1, .i32⟩) : IVec S4x1 32) (ix2 s 0) = k2 p.1 p.2 := by
    rw [t2 (H.nth 20 rfl), t1 (H.nth 19 rfl), t0 (H.nth 18 rfl), t2 (H.nth 17 rfl), ← ha, ← hb]; rfl
  have v6 : (rd V (.of main_call2_v6 : TRef sig ⟨S2, .i64⟩) : IVec S2 64) (ix1 j) = BitVec.ofNat 64 j.val := by
    rw [t2 (H.nth 7 rfl), t1 (H.nth 6 rfl), t0 (H.nth 5 rfl), t0 (H.nth 4 rfl)]; fin_cases j <;> rfl
  have hx : (rd V (.of main_call2_v11 : TRef sig ⟨S1x2, .i32⟩) : IVec S1x2 32) (ix2 0 j) = 0 := by
    rw [t1 (H.nth 13 rfl), broadcastInDim_apply _ _ _ _ (ix1 j) (fun d => by fin_cases d; rfl), t1 (H.nth 12 rfl), t2 (H.nth 10 rfl),
      t1 (H.nth 9 rfl), t0 (H.nth 8 rfl)]
    show BitVec.setWidth 32 (IntOp.shrui .host ((rd V (.of main_call2_v6 : TRef sig ⟨S2, .i64⟩) : IVec S2 64) (ix1 j)) 32#64) = _
    rw [v6]; fin_cases j <;> rfl
  have hy : (rd V (.of main_call2_v12 : TRef sig ⟨S1x2, .i32⟩) : IVec S1x2 32) (ix2 0 j) = BitVec.ofNat 32 j.val := by
    rw [t1 (H.nth 14 rfl), broadcastInDim_apply _ _ _ _ (ix1 j) (fun d => by fin_cases d; rfl), t1 (H.nth 11 rfl)]
    show BitVec.setWidth 32 ((rd V (.of main_call2_v6 : TRef sig ⟨S2, .i64⟩) : IVec S2 64) (ix1 j)) = _
    rw [v6]; fin_cases j <;> rfl
  have e1 : ∀ x : IVec S4x1 32, (broadcastInDim S4x2 ![0, 1] bcast_S4x1_S4x2_0_1 x : IVec S4x2 32) (ix2 s j) = x (ix2 s 0) :=
    fun x => broadcastInDim_apply _ _ _ _ _ (fun d => by fin_cases d <;> rfl)
  have e2 : ∀ x : IVec S1x2 32, (broadcastInDim S4x2 ![0, 1] bcast_S1x2_S4x2_0_1 x : IVec S4x2 32) (ix2 s j) = x (ix2 0 j) :=
    fun x => broadcastInDim_apply _ _ _ _ _ (fun d => by fin_cases d <;> rfl)
  have h1 : (rd V (.of main_call2_call0_v5 : TRef sig ⟨S4x2, .i32⟩) : IVec S4x2 32) (ix2 s j) = (0 + p.1, BitVec.ofNat 32 j.val + p.2).1 := by
    rw [t2 (H.nth 23 rfl), t1 (H.nth 21 rfl), t1 (H.nth 22 rfl)]; exact congrArg₂ (· + ·) ((e2 _).trans hx) ((e1 _).trans ha)
  have h2 : (rd V (.of main_call2_call0_v8 : TRef sig ⟨S4x2, .i32⟩) : IVec S4x2 32) (ix2 s j) = (0 + p.1, BitVec.ofNat 32 j.val + p.2).2 := by
    rw [t2 (H.nth 26 rfl), t1 (H.nth 24 rfl), t1 (H.nth 25 rfl)]; exact congrArg₂ (· + ·) ((e2 _).trans hy) ((e1 _).trans hb)
  replace H := H.tail.tail.tail.tail.tail.tail.tail.tail.tail.tail.tail.tail.tail.tail.tail.tail.tail.tail.tail.tail.tail.tail.tail.tail.tail.tail.tail
  iterate 4
    iterate 4 obtain ⟨h1, h2, H⟩ := round H _ h1 h2
    obtain ⟨h1, h2, H⟩ := inject H _ h1 h2 (by first | exact (e1 _).trans ha | exact (e1 _).trans hb | exact (e1 _).trans hk) (by first | exact (e1 _).trans ha | exact (e1 _).trans hb | exact (e1 _).trans hk)
  iterate 4 obtain ⟨h1, h2, H⟩ := round H _ h1 h2
  obtain ⟨h1, h2, -⟩ := inject H _ h1 h2 ((e1 _).trans hk) ((e1 _).trans ha)
  have e3 : ∀ x : IVec S4x2 32, (broadcastInDim S4x2x1 ![0, 1] bcast_S4x2_S4x2x1_0_1 x : IVec S4x2x1 32) (ix3 s j 0) = x (ix2 s j) :=
    fun x => broadcastInDim_apply _ _ _ _ _ (fun d => by fin_cases d <;> rfl)
  rw [show at' V main_v39 = _ from hlast, cat0', cat1', hl0, hl1, e3, e3]
  exact ⟨h1, h2⟩

end Cert.Tf

end
-- ==== Proof.RefTf.lean ====
/- The reference's three uses of the generator — folding the step's number into the key, splitting the key, drawing the bits —
   each read at one index as the generator on words. -/
module

public import proofs.«01_k».proof.Proof.Tf
public import proofs.«01_k».proof.Proof.RefDraw
public import proofs.«01_k».proof.Proof.RefSplit
public import proofs.«01_k».proof.Proof.RefFold
public import Idealize.ShloMosaic.Lib.ValueLayout
public import Idealize.ShloMosaic.Lib.IdealHost

@[expose] public section

set_option maxRecDepth 16384
set_option maxHeartbeats 400000

noncomputable section

namespace Cert.Tf

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained

variable {F : FTy → Type} [FloatOps F] {V : Valuation τ sig (Elt F)}

/-- The key of step `s`, `j = 0` for the proposal's bits and `j = 1` for the acceptance's. -/
def key (s : Fin 4) (j : Fin 2) : BitVec 32 × BitVec 32 :=
  tf (tf 0 42 0 (BitVec.ofNat 32 s.val)).1 (tf 0 42 0 (BitVec.ofNat 32 s.val)).2 0 (BitVec.ofNat 32 j.val)

/-- The bits at row `r`, column `l` from a key. -/
def bit (p : BitVec 32 × BitVec 32) (r : Fin 1024) (l : Fin 128) : BitVec 32 :=
  (tf p.1 p.2 0 (BitVec.ofNat 32 (128 * r.val + l.val))).1 ^^^ (tf p.1 p.2 0 (BitVec.ofNat 32 (128 * r.val + l.val))).2

/-- One place of two words. -/
theorem sl0' {α : Type} (x : S4x2x2.Idx → α) (h) (s : Fin 4) (j : Fin 2) : extractStridedSlice S4x2x1 ![0, 0, 0] x h (ix3 s j 0) = x (ix3 s j 0) :=
  extractStridedSlice_apply _ _ _ _ _ (fun d => by fin_cases d; exacts [(Nat.zero_add _).symm, (Nat.zero_add _).symm, rfl])
@[inherit_doc sl0']
theorem sl1' {α : Type} (x : S4x2x2.Idx → α) (h) (s : Fin 4) (j : Fin 2) : extractStridedSlice S4x2x1 ![0, 0, 1] x h (ix3 s j 0) = x (ix3 s j 1) :=
  extractStridedSlice_apply _ _ _ _ _ (fun d => by fin_cases d; exacts [(Nat.zero_add _).symm, (Nat.zero_add _).symm, rfl])

/-- The reference's bits. -/
theorem bits_eq (H3 : Holds V (hostOps0_3 (F := F))) (H4 : Holds V (hostOps0_4 (F := F))) (H5 : Holds V (hostOps0_5 (F := F)))
    (H6 : Holds V (hostOps0_6 (F := F))) (H7 : Holds V (hostOps0_7 (F := F))) (H8 : Holds V (hostOps0_8 (F := F)))
    (s : Fin 4) (j : Fin 2) (r : Fin 1024) (l : Fin 128) :
    (at' V main_v62 : IVec S4x2x1024x128 32) (ix4 s j r l) = bit (key s j) r l := by
  obtain ⟨f1, f2⟩ := fold H3 H4 s
  obtain ⟨q1, q2⟩ := split H5 s j f1 f2
  have c50 : (V (Proc.devRef .tc main_v50) : IVec S1024x128 64) (ix2 r l) = BitVec.ofNat 64 (128 * r.val + l.val) := by
    rw [Fix.eq2 (H6.nth 12 rfl), Fix.eq2 (H6.nth 11 rfl), Fix.eq2 (H6.nth 8 rfl), Fix.eq1 (H6.nth 10 rfl), Fix.eq1 (H6.nth 7 rfl),
      Fix.eq0 (H6.nth 9 rfl), Fix.eq0 (H6.nth 6 rfl), Fix.eq0 (H6.nth 5 rfl), Fix.eq0 (H6.nth 4 rfl)]
    show 128#64 * BitVec.ofNat 64 r.val + 1#64 * BitVec.ofNat 64 l.val = _
    rw [BitVec.one_mul, BitVec.ofNat_add, BitVec.ofNat_mul]
  have hlt : 128 * r.val + l.val < 2 ^ 32 := by have := r.isLt; have := l.isLt; omega
  have c53 : (V (Proc.devRef .tc main_v53) : IVec S1024x128 32) (ix2 r l) = BitVec.ofNat 32 (128 * r.val + l.val) := by
    rw [Fix.eq1 (H6.nth 16 rfl)]
    show BitVec.setWidth 32 ((V (Proc.devRef .tc main_v50) : IVec S1024x128 64) (ix2 r l)) = _
    rw [c50]; apply BitVec.eq_of_toNat_eq; simp
  have c54 : (V (Proc.devRef .tc main_v54) : IVec S1024x128 32) (ix2 r l) = (0 : BitVec 32) := by
    rw [Fix.eq1 (H6.nth 17 rfl), Fix.eq2 (H6.nth 15 rfl), Fix.eq1 (H6.nth 14 rfl), Fix.eq0 (H6.nth 13 rfl)]
    show BitVec.setWidth 32 (IntOp.shrui .host ((V (Proc.devRef .tc main_v50) : IVec S1024x128 64) (ix2 r l)) 32#64) = _
    rw [c50]
    show BitVec.setWidth 32 (BitVec.ofNat 64 (128 * r.val + l.val) >>> (32#64)) = _
    apply BitVec.eq_of_toNat_eq
    simp only [BitVec.ushiftRight_eq', BitVec.toNat_setWidth, BitVec.toNat_ushiftRight, BitVec.toNat_ofNat]
    rw [Nat.mod_eq_of_lt (by omega : 128 * r.val + l.val < 2 ^ 64), show (32 % 2 ^ 64 : ℕ) = 32 from rfl, Nat.shiftRight_eq_div_pow, Nat.div_eq_of_lt hlt]; rfl
  have ha : (broadcastInDim S4x2x1024x128 ![0, 1, 2, 3] bcast_S4x2x1x1_S4x2x1024x128_0_1_2_3 (rd V (.of main_v57 : TRef sig ⟨S4x2x1x1, .i32⟩)) : IVec S4x2x1024x128 32) (ix4 s j r l) = (key s j).1 := by
    rw [broadcastInDim_apply _ _ _ _ (ix4 s j 0 0) (fun d => by fin_cases d <;> rfl), show rd V (.of main_v57 : TRef sig ⟨S4x2x1x1, .i32⟩) = _ from Fix.eq1 (H6.nth 20 rfl),
      broadcastInDim_apply _ _ _ _ (ix2 s j) (fun d => by fin_cases d <;> rfl), Fix.eqR (H6.nth 1 rfl)]
    refine (shapeCast_apply _ _ _ (ix3 s j 0) (by fin_cases s <;> fin_cases j <;> rfl)).trans ?_
    rw [Fix.eq1 (H6.nth 0 rfl)]
    exact (sl0' _ slices_S4x2x2_S4x2x1_0_0_0 s j).trans q1
  have hb : (broadcastInDim S4x2x1024x128 ![0, 1, 2, 3] bcast_S4x2x1x1_S4x2x1024x128_0_1_2_3 (rd V (.of main_v58 : TRef sig ⟨S4x2x1x1, .i32⟩)) : IVec S4x2x1024x128 32) (ix4 s j r l) = (key s j).2 := by
    rw [broadcastInDim_apply _ _ _ _ (ix4 s j 0 0) (fun d => by fin_cases d <;> rfl), show rd V (.of main_v58 : TRef sig ⟨S4x2x1x1, .i32⟩) = _ from Fix.eq1 (H6.nth 21 rfl),
      broadcastInDim_apply _ _ _ _ (ix2 s j) (fun d => by fin_cases d <;> rfl), Fix.eqR (H6.nth 3 rfl)]
    refine (shapeCast_apply _ _ _ (ix3 s j 0) (by fin_cases s <;> fin_cases j <;> rfl)).trans ?_
    rw [Fix.eq1 (H6.nth 2 rfl)]
    exact (sl1' _ slices_S4x2x2_S4x2x1_0_0_1 s j).trans q2
  have hx : (broadcastInDim S4x2x1024x128 ![0, 1, 2, 3] bcast_S1x1x1024x128_S4x2x1024x128_0_1_2_3 (rd V (.of main_v59 : TRef sig ⟨S1x1x1024x128, .i32⟩)) : IVec S4x2x1024x128 32) (ix4 s j r l) = 0 := by
    rw [broadcastInDim_apply _ _ _ _ (ix4 0 0 r l) (fun d => by fin_cases d <;> rfl), show rd V (.of main_v59 : TRef sig ⟨S1x1x1024x128, .i32⟩) = _ from Fix.eq1 (H6.nth 22 rfl),
      broadcastInDim_apply _ _ _ _ (ix3 0 r l) (fun d => by fin_cases d <;> rfl), Fix.eq1 (H6.nth 18 rfl),
      broadcastInDim_apply _ _ _ _ (ix2 r l) (fun d => by fin_cases d <;> rfl)]
    exact c54
  have hy : (broadcastInDim S4x2x1024x128 ![0, 1, 2, 3] bcast_S1x1x1024x128_S4x2x1024x128_0_1_2_3 (rd V (.of main_v60 : TRef sig ⟨S1x1x1024x128, .i32⟩)) : IVec S4x2x1024x128 32) (ix4 s j r l) = BitVec.ofNat 32 (128 * r.val + l.val) := by
    rw [broadcastInDim_apply _ _ _ _ (ix4 0 0 r l) (fun d => by fin_cases d <;> rfl), show rd V (.of main_v60 : TRef sig ⟨S1x1x1024x128, .i32⟩) = _ from Fix.eq1 (H6.nth 23 rfl),
      broadcastInDim_apply _ _ _ _ (ix3 0 r l) (fun d => by fin_cases d <;> rfl), Fix.eq1 (H6.nth 19 rfl),
      broadcastInDim_apply _ _ _ _ (ix2 r l) (fun d => by fin_cases d <;> rfl)]
    exact c53
  obtain ⟨d1, d2⟩ := draw H7 (ix4 s j r l) ha hb hx hy
  rw [show at' V main_v62 = _ from Fix.eq2 (H8.nth 0 rfl)]
  exact congrArg₂ (· ^^^ ·) d1 d2

end Cert.Tf

end
-- ==== Proof.RNoise.lean ====
/- The reference's draws, read at an index at the extended reals. -/
module

public import proofs.«01_k».proof.Proof.RefTf
public import proofs.«01_k».proof.Proof.Scal

@[expose] public section

set_option maxRecDepth 16384
set_option maxHeartbeats 400000

noncomputable section

namespace Cert.RNoise

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained Cert.Tf Cert.Scal

local notation "V4" => FVec Ideal S4x1024x128 FTy.f32

variable {V : Valuation τ sig (Elt Ideal)}

/-- One half of the bits. -/
theorem half {x : IVec S4x2x1024x128 32} {y : IVec S4x1x1024x128 32} {z : IVec S4x1024x128 32} (e : Fin 2) (off : Fin 4 → ℕ)
    (ho : off = ![0, e.val, 0, 0]) {h} (hy : y = extractStridedSlice S4x1x1024x128 off x h) {h'} (hz : z = shapeCast S4x1024x128 y h')
    (s : Fin 4) (r : Fin 1024) (l : Fin 128) : z (ix3 s r l) = x (ix4 s e r l) := by
  subst ho
  rw [hz, shapeCast_apply _ _ _ (ix4 s 0 r l) (by
    rw [Shape.rowMajor_val_three, Shape.rowMajor_val_four]; show ((s.val * 1 + 0) * 1024 + r.val) * 128 + l.val = (s.val * 1024 + r.val) * 128 + l.val; ring), hy]
  exact extractStridedSlice_apply _ _ _ _ _ (fun d => by fin_cases d; exacts [(Nat.zero_add _).symm, rfl, (Nat.zero_add _).symm, (Nat.zero_add _).symm])

/-- One of two constants. -/
def pick (c : BitVec 1) (a b : BitVec 32) : EReal := Scalar.select c (Ideal.ofBits .f32 a) (Ideal.ofBits .f32 b)

/-- One step of the evaluation, on values. -/
def horner (c : BitVec 1) (a b : BitVec 32) (x z : EReal) : EReal := pick c a b + x * z

/-- A value times the product of two others. -/
def scaled (a x z : EReal) : EReal := a * (x * z)

/-- The normal deviate step by step. -/
theorem rnorm_eq (u : EReal) : Scal.rnorm u =
    let c := Ideal.cmp .olt (Scal.rw' u) (Ideal.ofBits .f32 0x40A00000#32)
    let w : EReal := Scalar.select c (Scal.rw' u - Ideal.ofBits .f32 0x40200000#32) (Ideal.sqrt (Scal.rw' u) - Ideal.ofBits .f32 0x40400000#32)
    scaled (Ideal.ofBits .f32 0x3FB504F3#32) (horner c 0x3FC02E2F#32 0x40354F7E#32 (horner c 0x3E7C8F63#32 0x3F8036DB#32 (horner c 0xBB88E4EF#32 0x3C1AA57E#32 (horner c 0xBAA45408#32 0xBBF9C5D7#32 (horner c 0x396532DB#32 0x3BBC127B#32 (horner c 0xB6935AC1#32 0xBB70BDE7#32 (horner c 0xB66C7357#32 0x3AB0DC72#32 (horner c 0x34B84B36#32 0x38D3B56B#32 (pick c 0x32F16588#32 0xB951F09B#32) w) w) w) w) w) w) w) w) u := by
  simp only [Scal.rnorm, Scal.coefs, List.foldl_cons, List.foldl_nil, scaled, horner, pick]

/-- The operations that choose one coefficient. -/
theorem coef {a b : BitVec 32} {c0 c1 : FVec Ideal S_ .f32} {m : IVec S4x1024x128 1} {b0 b1 o : V4} {h0 h1}
    (e0 : c0 = constant S_ .f32 a) (e1 : c1 = constant S_ .f32 b) (f0 : b0 = broadcastInDim S4x1024x128 ![] h0 c0)
    (f1 : b1 = broadcastInDim S4x1024x128 ![] h1 c1) (g : o = select m b0 b1) (i : S4x1024x128.Idx) :
    o i = pick (m i) a b := by
  subst e0; subst e1; subst f0; subst f1; subst g; rfl

/-- One step of the evaluation. -/
theorem stage {p p' w q o o' r : V4} {i : S4x1024x128.Idx} {c : BitVec 1} {a b : BitVec 32} {x z : EReal}
    (hp : p = p') (hq : q = mulf p w) (ho' : o' = o) (hr : r = addf o' q) (hx : p' i = x) (hw : w i = z)
    (ho : o i = pick c a b) :
    r i = horner c a b x z := by
  subst hp; subst hq; subst ho'; subst hr
  rw [addf_apply, mulf_apply, ho, hx, hw]; rfl

/-- The product with the deviate, times the constant. -/
theorem last {p y m k o : V4} {c : FVec Ideal S_ .f32} {a : BitVec 32} {h} (hm : m = mulf p y) (hc : c = constant S_ .f32 a)
    (hk : k = broadcastInDim S4x1024x128 ![] h c) (ho : o = mulf k m) (i : S4x1024x128.Idx) {x z : EReal} (hp : p i = x) (hy : y i = z) :
    o i = scaled (Ideal.ofBits .f32 a) x z := by
  subst hm; subst hc; subst hk; subst ho; subst hp; subst hy; rfl

/-- From the bits of one half to the uniform deviate. -/
theorem unif_of {b s o : IVec S4x1024x128 32} {c9 c1 : IVec S_ 32} {k : FVec Ideal S_ .f32} {b9 b1 : IVec S4x1024x128 32} {f kb u : V4} {h h' h''}
    (e9 : c9 = constantI S_ 32 9#32) (f9 : b9 = broadcastInDim S4x1024x128 ![] h c9) (hs : s = Host.shrui b b9)
    (e1 : c1 = constantI S_ 32 1065353216#32) (f1 : b1 = broadcastInDim S4x1024x128 ![] h' c1) (ho : o = ori s b1) (hf : f = bitcastToFloat .f32 o)
    (hk : k = constant S_ .f32 0x3F800000#32) (hkb : kb = broadcastInDim S4x1024x128 ![] h'' k) (hu : u = subf f kb) (i : S4x1024x128.Idx) :
    u i = Scal.unif (b i) := by
  subst e9; subst f9; subst hs; subst e1; subst f1; subst ho; subst hf; subst hk; subst hkb; subst hu; rfl

/-- From the uniform deviate to the symmetric one, the argument, the choice and the chosen argument. -/
theorem sym_of {u a2 p al s am y n q g w c5 t k5 r3 : V4} {mk1 : IVec S4x1024x128 1} {c2 cl cm k0 k25 k3 : FVec Ideal S_ .f32} {h1 h2 h3 h4 h5 h6 }
    (e2 : c2 = constant S_ .f32 0x40000000#32) (f2 : a2 = broadcastInDim S4x1024x128 ![] h1 c2) (hp : p = mulf u a2)
    (el : cl = constant S_ .f32 0xBF7FFFFF#32) (fl : al = broadcastInDim S4x1024x128 ![] h2 cl) (hs : s = addf p al)
    (em : cm = constant S_ .f32 0xBF7FFFFF#32) (fm : am = broadcastInDim S4x1024x128 ![] h3 cm) (hy : y = maximumf am s)
    (hn : n = Host.negf y) (hq : q = mulf n y) (hg : g = Host.log1p q) (hw : w = Host.negf g)
    (e0 : k0 = constant S_ .f32 0x40A00000#32) (f0 : c5 = broadcastInDim S4x1024x128 ![] h4 k0) (hm : mk1 = cmpf .olt w c5)
    (e25 : k25 = constant S_ .f32 0x40200000#32) (f25 : k5 = broadcastInDim S4x1024x128 ![] h5 k25) (ht : t = subf w k5)
    {sq r' : V4} (hsq : sq = Host.sqrt w) (e3 : k3 = constant S_ .f32 0x40400000#32) (f3 : r3 = broadcastInDim S4x1024x128 ![] h6 k3) (hr : r' = subf sq r3)
    {v : V4} (hv : v = select mk1 t r') (i : S4x1024x128.Idx) {b : BitVec 32} (hu : u i = Scal.unif b) :
    y i = Scal.sym b ∧ mk1 i = Ideal.cmp .olt (Scal.rw' (Scal.sym b)) (Ideal.ofBits .f32 0x40A00000#32)
      ∧ v i = Scalar.select (Ideal.cmp .olt (Scal.rw' (Scal.sym b)) (Ideal.ofBits .f32 0x40A00000#32)) (Scal.rw' (Scal.sym b) - Ideal.ofBits .f32 0x40200000#32)
        (Ideal.sqrt (Scal.rw' (Scal.sym b)) - Ideal.ofBits .f32 0x40400000#32) := by
  have e : y i = Scal.sym b := by
    subst e2; subst f2; subst hp; subst el; subst fl; subst hs; subst em; subst fm; subst hy
    unfold Scal.sym; rw [← hu]; rfl
  have ew : w i = Scal.rw' (Scal.sym b) := by
    subst hn; subst hq; subst hg; subst hw
    rw [← e]; rfl
  subst e0; subst f0; subst hm; subst e25; subst f25; subst ht; subst hsq; subst e3; subst f3; subst hr; subst hv
  rw [← ew]
  exact ⟨e, rfl, rfl⟩

end Cert.RNoise

end
-- ==== Proof.Step.lean ====
/- One step of the chain over the reals, and what the reference's and the kernel's operations of one step leave. -/
module

public import proofs.«01_k».proof.Proof.RAcc
public import proofs.«01_k».proof.Proof.RNoise

@[expose] public section

set_option maxRecDepth 16384
set_option maxHeartbeats 400000

noncomputable section

namespace Cert.Step

open Idealize.ShloMosaic Idealize.ShloMosaic.ValueIdx
open Cert.ReferenceIdeal Cert.ReferenceIdeal.Gen Cert.ReferenceIdeal.Value Cert.Rl Cert.RAcc Cert.Scal
open scoped BigOperators

local notation "N" => Fin 1024 → Fin 128 → ℝ
local notation "T3" => FVec Ideal S4x1024x128 FTy.f32
local notation "T1" => FVec Ideal S1x1024x128 FTy.f32
local notation "V" => FVec Ideal S1024x128 FTy.f32

/-- The proposal: the state moved by the noise times the standard deviation. -/
def prop (P : Matrix (Fin 128) (Fin 128) ℝ) (Z C : N) (b : Fin 1024) (j : Fin 128) : ℝ := C b j + Real.sqrt (1 / P j j) * Z b j

/-- The difference of the log densities of the proposal and of the state, each put in the place of one entry of the row. -/
def gain (P : Matrix (Fin 128) (Fin 128) ℝ) (X : N) (mu : Fin 128 → ℝ) (Z C : N) (b : Fin 1024) (j : Fin 128) : ℝ :=
  -(1 / 2) * (quad P (dif (X b) mu j (prop P Z C b j)) + ell) - -(1 / 2) * (quad P (dif (X b) mu j (C b j)) + ell)

/-- The next state: the proposal where the logarithm of the uniform deviate lies below the gain. -/
def next (P : Matrix (Fin 128) (Fin 128) ℝ) (X : N) (mu : Fin 128 → ℝ) (Z : N) (U : Fin 1024 → Fin 128 → EReal) (C : N) (b : Fin 1024) (j : Fin 128) : ℝ :=
  if U b j < ((gain P X mu Z C b j : ℝ) : EReal) then prop P Z C b j else C b j

/-- The choice by a comparison of extended reals. -/
theorem choose {u d x y : EReal} {g s t : ℝ} (hd : d = (g : EReal)) (hx : x = (s : EReal)) (hy : y = (t : EReal)) :
    Scalar.select (Ideal.cmp .olt u d) x y = ((if u < (g : EReal) then s else t : ℝ) : EReal) := by
  subst hd; subst hx; subst hy
  show Scalar.select (BitVec.ofBool (decide (u < (g : EReal)))) _ _ = _
  by_cases h : u < (g : EReal)
  · rw [decide_eq_true h, if_pos h]; exact select_one _ _
  · rw [decide_eq_false h, if_neg h]; exact select_zero _ _

/-- One step's part of the draws. -/
theorem part {x : T3} {y : T1} {z : V} (s : Fin 4) (off : Fin 3 → ℕ) (ho : off = ![s.val, 0, 0]) {h} (hy : y = extractStridedSlice S1x1024x128 off x h)
    {h'} (hz : z = shapeCast S1024x128 y h') (r : Fin 1024) (l : Fin 128) : z (ix2 r l) = x (ix3 s r l) := by
  subst ho
  have e : (S1x1024x128.rowMajor (ix3 0 r l)).val = (S1024x128.rowMajor (ix2 r l)).val := by
    rw [Shape.rowMajor_val_three, Shape.rowMajor_val_two]; show (0 * 1024 + r.val) * 128 + l.val = r.val * 128 + l.val; ring
  rw [hz, shapeCast_apply _ _ _ (ix3 0 r l) e, hy]
  exact extractStridedSlice_apply _ _ _ _ _ (fun d => by fin_cases d; exacts [rfl, (Nat.zero_add _).symm, (Nat.zero_add _).symm])

/-- The reference's operations of one step that are not of a log density. -/
structure Rest (var : FVec Ideal S128 .f32) (noise logu : T3) (s : Fin 4) (xc xt qt qo xn : V) where
  (sd : FVec Ideal S128 .f32) (sd1 : FVec Ideal S1x128 .f32) (nz1 : T1) (nz sd2 mv : V) (lu1 : T1) (lu df : V) (ck : IVec S1024x128 1) (off off' : Fin 3 → ℕ)
  hoff : off = ![s.val, 0, 0]
  hoff' : off' = ![s.val, 0, 0]
  h1 : S4x1024x128.Slices off S1x1024x128
  h2 : S4x1024x128.Slices off' S1x1024x128
  hsd : sd = Host.sqrt var
  hsd1 : sd1 = broadcastInDim S1x128 ![1] bcast_S128_S1x128_1 sd
  hnz1 : nz1 = extractStridedSlice S1x1024x128 off noise h1
  hnz : nz = shapeCast S1024x128 nz1 shapeCasts_S1x1024x128_S1024x128
  hsd2 : sd2 = broadcastInDim S1024x128 ![0, 1] bcast_S1x128_S1024x128_0_1 sd1
  hmv : mv = mulf sd2 nz
  hxt : xt = addf xc mv
  hlu1 : lu1 = extractStridedSlice S1x1024x128 off' logu h2
  hlu : lu = shapeCast S1024x128 lu1 shapeCasts_S1x1024x128_S1024x128
  hdf : df = subf qt qo
  hck : ck = cmpf .olt lu df
  hxn : xn = select ck xt xc

variable {XL : FVec Ideal S1024x128x128 .f32} {A : FVec Ideal S128x128 .f32} {mu : FVec Ideal S128 .f32} {var : FVec Ideal S128 .f32} {noise logu : T3} {s : Fin 4} {xc xt qt qo xn : V}
  {P : Matrix (Fin 128) (Fin 128) ℝ} {X Z C : N} {m : Fin 128 → ℝ} {U : Fin 1024 → Fin 128 → EReal}

/-- One step of the reference. -/
theorem ref (o : Rest var noise logu s xc xt qt qo xn) (ot : Ops XL A mu xt qt) (oo : Ops XL A mu xc qo)
    (hXL : ∀ b j k, XL (ix3 b j k) = (X b k : EReal)) (hA : R2 (A : S128x128.Idx → EReal) P) (hmu : R1 (mu : S128.Idx → EReal) m)
    (hpos : ∀ j, 0 < P j j) (hvar : ∀ j, var (ix1 j) = Ideal.div (Ideal.ofBits .f32 0x3F800000#32) (P j j : EReal))
    (hZ : ∀ b j, noise (ix3 s b j) = (Z b j : EReal)) (hU : ∀ b j, logu (ix3 s b j) = U b j) (hC : R2 (xc : S1024x128.Idx → EReal) C) :
    R2 (xn : S1024x128.Idx → EReal) (next P X m Z U C) := by
  intro b j
  have ht : xt (ix2 b j) = (prop P Z C b j : EReal) := by
    have hs : o.sd2 (ix2 b j) = (Real.sqrt (1 / P j j) : EReal) := by
      rw [← std_eq (hpos j), o.hsd2, broadcastInDim_apply _ _ _ _ (ix2 0 j) (fun a => by fin_cases a <;> rfl), o.hsd1,
        broadcastInDim_apply _ _ _ _ (ix1 j) (fun a => by fin_cases a; rfl), o.hsd, ← hvar j]; rfl
    rw [o.hxt, addf_apply, o.hmv, mulf_apply, hs, part s o.off o.hoff o.hnz1 o.hnz b j, hZ, hC b j, ← EReal.coe_mul, ← EReal.coe_add]
    rfl
  have hd : o.df (ix2 b j) = (gain P X m Z C b j : EReal) := by
    rw [o.hdf, subf_apply, ot.eq hXL hA hmu b j ht, oo.eq hXL hA hmu b j (hC b j), ← EReal.coe_sub]
    rfl
  have hu : o.lu (ix2 b j) = U b j := (part s o.off' o.hoff' o.hlu1 o.hlu b j).trans (hU b j)
  rw [o.hxn, o.hck]
  show Scalar.select (Ideal.cmp .olt (o.lu (ix2 b j)) (o.df (ix2 b j))) (xt (ix2 b j)) (xc (ix2 b j)) = _
  rw [hu]
  exact choose hd ht (hC b j)

/-- One step of the chain with a zero matrix: the deviation from its zero diagonal, and a gain of zero. -/
def still (Z : N) (U C : Fin 1024 → Fin 128 → EReal) (b : Fin 1024) (j : Fin 128) : EReal :=
  Scalar.select (Ideal.cmp .olt (U b j) 0) (C b j + Ideal.sqrt (Ideal.div (Ideal.ofBits .f32 0x3F800000#32) 0) * (Z b j : EReal)) (C b j)

/-- One step of the reference with a zero matrix. -/
theorem ref_zero {C : Fin 1024 → Fin 128 → EReal} (o : Rest var noise logu s xc xt qt qo xn) (ot : Ops XL A mu xt qt) (oo : Ops XL A mu xc qo)
    (hA : R2 (A : S128x128.Idx → EReal) (0 : Matrix (Fin 128) (Fin 128) ℝ)) (hvar : ∀ j, var (ix1 j) = Ideal.div (Ideal.ofBits .f32 0x3F800000#32) 0)
    (hZ : ∀ b j, noise (ix3 s b j) = (Z b j : EReal)) (hU : ∀ b j, logu (ix3 s b j) = U b j) (hC : ∀ b j, xc (ix2 b j) = C b j) (b : Fin 1024) (j : Fin 128) :
    xn (ix2 b j) = still Z U C b j := by
  have hs : o.sd2 (ix2 b j) = Ideal.sqrt (Ideal.div (Ideal.ofBits .f32 0x3F800000#32) 0) := by
    rw [o.hsd2, broadcastInDim_apply _ _ _ _ (ix2 0 j) (fun a => by fin_cases a <;> rfl), o.hsd1,
      broadcastInDim_apply _ _ _ _ (ix1 j) (fun a => by fin_cases a; rfl), o.hsd, ← hvar j]; rfl
  have ht : xt (ix2 b j) = C b j + Ideal.sqrt (Ideal.div (Ideal.ofBits .f32 0x3F800000#32) 0) * (Z b j : EReal) := by
    rw [o.hxt, addf_apply, o.hmv, mulf_apply, hs, part s o.off o.hoff o.hnz1 o.hnz b j, hZ, hC b j]
  have hd : o.df (ix2 b j) = (0 : EReal) := by
    rw [o.hdf, subf_apply, ot.eq_zero hA b j, oo.eq_zero hA b j, ← EReal.coe_sub, sub_self]; rfl
  have hu : o.lu (ix2 b j) = U b j := (part s o.off' o.hoff' o.hlu1 o.hlu b j).trans (hU b j)
  rw [o.hxn, o.hck]
  show Scalar.select (Ideal.cmp .olt (o.lu (ix2 b j)) (o.df (ix2 b j))) (xt (ix2 b j)) (xc (ix2 b j)) = _
  rw [hu, hd, ht, hC b j]; rfl

end Cert.Step

end
-- ==== Proof.Draw.lean ====
/- The kernel's random draws, written once: the counter-based generator as rounds over pairs of words, the uniform and the
   normal deviate as functions of the bits; and that the values the kernel body binds for its four steps are these
   functions at the four steps' keys. -/
module

public import proofs.«01_k».proof.Proof.Gen.KernelIdeal.Frame

@[expose] public section

set_option maxRecDepth 16384

noncomputable section

namespace Cert.Draw

open Idealize.ShloMosaic Cert.KernelIdeal Cert.KernelIdeal.Gen

variable {F : FTy → Type} [FloatOps F]

local notation "W" => IVec S1024x128 32
local notation "V" => FVec F S1024x128 FTy.f32

/-- One round of the generator on a pair of vectors, handed on to `k`: add, rotate left by `r` (`r' = 32 - r`), exclusive or. -/
def vrnd (r r' : BitVec 32) (k : W → W → W) (x y : W) : W :=
  k (addi x y) (xori (ori (shli y (broadcast S1024x128 r)) (shrui y (broadcast S1024x128 r'))) (addi x y))

/-- The rounds of an even group, and of an odd one. -/
def veven (k : W → W → W) : W → W → W := vrnd 13 19 (vrnd 15 17 (vrnd 26 6 (vrnd 6 26 k)))
@[inherit_doc veven]
def vodd (k : W → W → W) : W → W → W := vrnd 17 15 (vrnd 29 3 (vrnd 16 16 (vrnd 24 8 k)))

/-- The key injection that follows a group. -/
def vinj (a b : BitVec 32) (k : W → W → W) (x y : W) : W := k (addi x (broadcast S1024x128 a)) (addi y (broadcast S1024x128 b))

/-- The kernel's bits at the key `(k0, k1)` (`k2` the third key word, the sums the injections' constants) from the
    counters `n`. -/
def vbits (k0 k1 k2 a0 a1 a2 a3 a4 : BitVec 32) (n : W) : W :=
  veven (vinj k1 a0 (vodd (vinj k2 a1 (veven (vinj k0 a2 (vodd (vinj k1 a3 (veven (vinj k2 a4 xori)))))))))
    (broadcast S1024x128 k0) (addi n (broadcast S1024x128 k1))

/-- The kernel's uniform deviate from bits. -/
def vunif (b : W) : V :=
  subf (bitcastToFloat .f32 (ori (shrui b (broadcast S1024x128 9#32)) (broadcast S1024x128 1065353216#32)))
    (broadcast S1024x128 (Scalar.ofBits .f32 0x3F800000#32))

/-- The logarithm of the kernel's uniform deviate. -/
def vlogu (b : W) : V := log (maximumf (broadcast S1024x128 (Scalar.ofBits .f32 0x00000000#32)) (vunif b))

/-- The kernel's uniform deviate on `(-1, 1)`. -/
def vsym (b : W) : V :=
  maximumf (broadcast S1024x128 (Scalar.ofBits .f32 0xBF7FFFFF#32))
    (addf (mulf (vunif b) (broadcast S1024x128 (Scalar.ofBits .f32 0x40000000#32))) (broadcast S1024x128 (Scalar.ofBits .f32 0xBF7FFFFF#32)))

/-- One step of a polynomial's evaluation, the coefficient as a word. -/
def vhorner (w : V) (p : V) (a : BitVec 32) : V := addf (broadcast S1024x128 (Scalar.ofBits .f32 a)) (mulf p w)

/-- The kernel's normal deviate from the uniform one `u`. -/
def vnormal (u : V) : V :=
  let w := subf (broadcast S1024x128 (Scalar.ofBits .f32 0x00000000#32))
    (log (mulf (subf (broadcast S1024x128 (Scalar.ofBits .f32 0x3F800000#32)) u) (addf (broadcast S1024x128 (Scalar.ofBits .f32 0x3F800000#32)) u)))
  let a := subf w (broadcast S1024x128 (Scalar.ofBits .f32 0x40200000#32))
  let b := subf (sqrt w) (broadcast S1024x128 (Scalar.ofBits .f32 0x40400000#32))
  let p := [0x34B84B36#32, 0xB66C7357#32, 0xB6935AC1#32, 0x396532DB#32, 0xBAA45408#32, 0xBB88E4EF#32, 0x3E7C8F63#32, 0x3FC02E2F#32].foldl
    (vhorner a) (broadcast S1024x128 (Scalar.ofBits .f32 0x32F16588#32))
  let q := [0x38D3B56B#32, 0x3AB0DC72#32, 0xBB70BDE7#32, 0x3BBC127B#32, 0xBBF9C5D7#32, 0x3C1AA57E#32, 0x3F8036DB#32, 0x40354F7E#32].foldl
    (vhorner b) (broadcast S1024x128 (Scalar.ofBits .f32 0xB951F09B#32))
  mulf (broadcast S1024x128 (Scalar.ofBits .f32 0x3FB504F3#32))
    (mulf (select (cmpf .olt w (broadcast S1024x128 (Scalar.ofBits .f32 0x40A00000#32))) p q) u)

/-! ## The rest of the body -/

local notation "M" => FVec F S128x128 FTy.f32
local notation "M16" => FVec F S128x128 FTy.bf16
local notation "R" => FVec F S1x128 FTy.f32

/-- The kernel's unit matrix. -/
def veye : M := sitofp .f32 (extui 32 (cmpi .eq (iota .tc S128x128 32 [0] iota_S128x128_d0_w32) (iota .tc S128x128 32 [1] iota_S128x128_d1_w32)) natLt_1_32)

/-- The kernel's scale `2 / (largest absolute row sum + 0.1)`. -/
def vscale (S : M) : F .f32 :=
  Scalar.divf (Scalar.ofBits .f32 0x40000000#32) (Scalar.addf (extractAt ![0, 0] (shapeCast S1x1
    (multiReduction .maximumf [1] S1 (shapeCast S1x128 (multiReduction .add [1] S128 (absf S) 0x00000000#32 reduces_S128x128_S128 (.inl rfl) rfl)
      shapeCasts_S128_S1x128) 0xFF800000#32 reduces_S1x128_S1 (.inl rfl) rfl) shapeCasts_S1_S1x1) inpos_S1x1_p0_0) (Scalar.ofBits .f32 0x3DCCCCCD#32))

/-- One narrow iteration towards the inverse. -/
def vnarrow (Sb Pb : M16) : M16 :=
  truncf .bf16 (subf (mulf (broadcast S128x128 (Scalar.ofBits .f32 0x40000000#32)) (extf .f32 Pb bitsLt_bf16_f32))
    (matmul dot_S128x128_S128x128_S128x128_1_0_0_1_n_n none Pb
      (truncf .bf16 (matmul dot_S128x128_S128x128_S128x128_1_0_0_1_n_n none Sb Pb (constant S128x128 .f32 0x00000000#32)) bitsLt_bf16_f32)
      (constant S128x128 .f32 0x00000000#32))) bitsLt_bf16_f32

/-- One wide iteration towards the inverse. -/
def vwide (S P : M) : M :=
  subf (mulf (broadcast S128x128 (Scalar.ofBits .f32 0x40000000#32)) P)
    (matmul dot_S128x128_S128x128_S128x128_1_0_0_1_n_n (some .fp32) P
      (matmul dot_S128x128_S128x128_S128x128_1_0_0_1_n_n (some .fp32) S P (constant S128x128 .f32 0x00000000#32)) (constant S128x128 .f32 0x00000000#32))

/-- The kernel's inverse of `S`: nine narrow iterations, then two wide ones. -/
def vinv (S : M) : M :=
  let n := vnarrow (truncf .bf16 S bitsLt_bf16_f32)
  vwide S (vwide S (extf .f32 (n (n (n (n (n (n (n (n (n
    (truncf .bf16 (mulf (broadcast S128x128 (vscale S)) veye) bitsLt_bf16_f32)))))))))) bitsLt_bf16_f32))

/-- The diagonal of the inverse, as a row. -/
def vdiag (P : M) : R :=
  shapeCast S1x128 (multiReduction .add [0] S128 (mulf P veye) 0x00000000#32 reduces_S128x128_S128_2 (.inl rfl) rfl) shapeCasts_S128_S1x128

/-- The conditional standard deviations. -/
def vstd (p : R) : R := sqrt (divf (broadcast S1x128 (Scalar.ofBits .f32 0x3F800000#32)) p)

/-- `(x - mu) P`. -/
def vgrad (x : V) (mu : R) (P : M) : V :=
  matmul dot_S1024x128_S128x128_S1024x128_1_0_0_1_n_n (some .fp32)
    (subf x (broadcastTo S1024x128 (shapeCast S1x128 mu shapeCasts_S1x128_S1x128) broadcasts_S1x128_S1024x128)) P (constant S1024x128 .f32 0x00000000#32)

/-- The kernel's proposal from `xc` with the deviate `z`. -/
def vtil (sd : R) (xc z : V) : V := addf xc (mulf (broadcastTo S1024x128 sd broadcasts_S1x128_S1024x128) z)

/-- The kernel's logarithm of the acceptance ratio of the proposal `xt` from `xc`. -/
def vlpa (p : R) (x g xc xt : V) : V :=
  mulf (subf (broadcast S1024x128 (Scalar.ofBits .f32 0x00000000#32)) (subf (subf xt x) (subf xc x)))
    (addf g (mulf (mulf (broadcast S1024x128 (Scalar.ofBits .f32 0x3F000000#32)) (addf (subf xt x) (subf xc x)))
      (broadcastTo S1024x128 p broadcasts_S1x128_S1024x128)))

/-- One step of the kernel's chain from `xc`: the proposal with the deviate `z` where its log ratio exceeds `lu`, else `xc`. -/
def vstep (S : M) (x : V) (mu : R) (xc z lu : V) : V :=
  select (cmpf .olt lu (vlpa (vdiag (vinv S)) x (vgrad x mu (vinv S)) xc (vtil (vstd (vdiag (vinv S))) xc z)))
    (vtil (vstd (vdiag (vinv S))) xc z) xc

/-- The kernel's bits for the deviates of its four steps, and for its four acceptance draws. -/
def nbits : Fin 4 → W
  | 0 => vbits 1012194634#32 3152801799#32 2624468631#32 2624468632#32 1012194636#32 3152801802#32 2624468635#32 1012194639#32 k0_pay3
  | 1 => vbits 3187376881#32 129218101#32 2711170846#32 2711170847#32 3187376883#32 129218104#32 2711170850#32 3187376886#32 k0_pay3
  | 2 => vbits 1605747716#32 4117073388#32 2969653810#32 2969653811#32 1605747718#32 4117073391#32 2969653814#32 1605747721#32 k0_pay3
  | 3 => vbits 2463158877#32 4047937370#32 2017941213#32 2017941214#32 2463158879#32 4047937373#32 2017941217#32 2463158882#32 k0_pay3
@[inherit_doc nbits]
def ubits : Fin 4 → W
  | 0 => vbits 1705926158#32 899080142#32 1273600538#32 1273600539#32 1705926160#32 899080145#32 1273600542#32 1705926163#32 k0_pay3
  | 1 => vbits 2350016172#32 1168365246#32 3529550792#32 3529550793#32 2350016174#32 1168365249#32 3529550796#32 2350016177#32 k0_pay3
  | 2 => vbits 2853785955#32 313133857#32 2741125528#32 2741125529#32 2853785957#32 313133860#32 2741125532#32 2853785960#32 k0_pay3
  | 3 => vbits 1914800406#32 1741898942#32 237229682#32 237229683#32 1914800408#32 1741898945#32 237229686#32 1914800411#32 k0_pay3

/-- The kernel's state after one, two, three and four steps. -/
def vst1 (S : M) (x : V) (mu : R) : V := vstep S x mu x (vnormal (vsym (nbits 0))) (vlogu (ubits 0))
@[inherit_doc vst1]
def vst2 (S : M) (x : V) (mu : R) : V := vstep S x mu (vst1 S x mu) (vnormal (vsym (nbits 1))) (vlogu (ubits 1))
@[inherit_doc vst1]
def vst3 (S : M) (x : V) (mu : R) : V := vstep S x mu (vst2 S x mu) (vnormal (vsym (nbits 2))) (vlogu (ubits 2))
@[inherit_doc vst1]
def vst4 (S : M) (x : V) (mu : R) : V := vstep S x mu (vst3 S x mu) (vnormal (vsym (nbits 3))) (vlogu (ubits 3))

attribute [local irreducible] addi xori ori shli shrui broadcast subf addf mulf divf bitcastToFloat log sqrt maximumf select cmpf
  truncf extf multiReduction shapeCast broadcastTo constant absf extractAt sitofp extui cmpi iota Scalar.divf Scalar.addf
  Scalar.ofBits View.canon

set_option maxHeartbeats 0 in
/-- What the body leaves in the output's buffer: the input, then the state after each step. -/
theorem out_eq (x0 : Vec F S1024x128 .f32) (x1 : Vec F S1x128 .f32) (x2 : Vec F S128x128 .f32) :
    out0_3 x0 x1 x2 = View.canon [
      ⟨r0_7, shapeCast S1x1024x128 (vst4 (View.ld x2 r0_0) (View.ld x0 r0_1) (View.ld x1 r0_2)) shapeCasts_S1024x128_S1x1024x128⟩,
      ⟨r0_6, shapeCast S1x1024x128 (vst3 (View.ld x2 r0_0) (View.ld x0 r0_1) (View.ld x1 r0_2)) shapeCasts_S1024x128_S1x1024x128⟩,
      ⟨r0_5, shapeCast S1x1024x128 (vst2 (View.ld x2 r0_0) (View.ld x0 r0_1) (View.ld x1 r0_2)) shapeCasts_S1024x128_S1x1024x128⟩,
      ⟨r0_4, shapeCast S1x1024x128 (vst1 (View.ld x2 r0_0) (View.ld x0 r0_1) (View.ld x1 r0_2)) shapeCasts_S1024x128_S1x1024x128⟩,
      ⟨r0_3, shapeCast S1x1024x128 (View.ld x0 r0_1) shapeCasts_S1024x128_S1x1024x128⟩] := by
  unfold out0_3
  dsimp only [vst4, vst3, vst2, vst1, vstep, vtil, vlpa, vstd, vdiag, vgrad, vinv, vwide, vnarrow, vscale, veye, nbits, ubits,
    vbits, veven, vodd, vinj, vrnd, vnormal, vhorner, List.foldl, vlogu, vsym, vunif]
  rfl

end Cert.Draw

end
-- ==== Proof.KMat.lean ====
/- The kernel's matrices over the reals: the scale, the inverse, its diagonal, the gradient; and one step of its chain. -/
module

public import proofs.«01_k».proof.Proof.Draw
public import proofs.«01_k».proof.Proof.Rl
public import Idealize.ShloMosaic.Lib.KernelVsHost
public import Idealize.ShloMosaic.Lib.ValueLayout

@[expose] public section

set_option maxRecDepth 16384
set_option maxHeartbeats 400000

noncomputable section

namespace Cert.KMat

open Idealize.ShloMosaic Idealize.ShloMosaic.ValueIdx Cert.KernelIdeal Cert.KernelIdeal.Gen Cert.Draw Cert.Mat Cert.Scal Cert.Rl
open scoped BigOperators

local notation "V" => FVec Ideal S1024x128 FTy.f32
local notation "M" => FVec Ideal S128x128 FTy.f32
local notation "M16" => FVec Ideal S128x128 FTy.bf16
local notation "R" => FVec Ideal S1x128 FTy.f32

variable {S P : Matrix (Fin 128) (Fin 128) ℝ}

/-- The unit matrix. -/
theorem veye_eq : R2 (veye (F := Ideal)) (1 : Matrix (Fin 128) (Fin 128) ℝ) := by
  intro i j
  show (((BitVec.setWidth 32 (BitVec.ofBool (iota .tc S128x128 32 [0] iota_S128x128_d0_w32 (ix2 i j) == iota .tc S128x128 32 [1] iota_S128x128_d1_w32 (ix2 i j)))).toInt : ℝ) : EReal) = _
  rw [iota_single_apply, iota_single_apply]
  show (((BitVec.setWidth 32 (BitVec.ofBool (BitVec.ofNat 32 i.val == BitVec.ofNat 32 j.val))).toInt : ℝ) : EReal) = _
  rw [word_eq, Matrix.one_apply]
  by_cases h : i = j
  · rw [decide_eq_true h, if_pos h, show (BitVec.setWidth 32 (BitVec.ofBool true)).toInt = 1 by decide]; norm_num
  · rw [decide_eq_false h, if_neg h, show (BitVec.setWidth 32 (BitVec.ofBool false)).toInt = 0 by decide]; norm_num

/-- The kernel's scale, from the largest absolute row sum. -/
theorem vscale_amax (s : M) : vscale s = Ideal.div (Ideal.ofBits .f32 0x40000000#32) (amax s + Ideal.ofBits .f32 0x3DCCCCCD#32) := by
  show Ideal.div (Ideal.ofBits .f32 0x40000000#32) (extractAt ![0, 0] (shapeCast S1x1 _ shapeCasts_S1_S1x1) inpos_S1x1_p0_0 + Ideal.ofBits .f32 0x3DCCCCCD#32) = _
  congr 2
  unfold extractAt
  rw [shapeCast_apply _ _ _ (ix1 0) (by rfl)]
  refine (Ideal.multiReduction_maximumf_single _ _ _ _ _ _).trans ?_
  show Finset.fold max (Ideal.ofBits .f32 0xFF800000#32) (fun i => shapeCast S1x128 _ shapeCasts_S128_S1x128 (reduces_S1x128_S1.lift (ix1 0) i)) Finset.univ
    = Finset.fold max ⊥ (asum s) Finset.univ
  rw [ofBits_bot]
  refine congrArg (fun f => Finset.fold max ⊥ f Finset.univ) (funext fun i : Fin 128 => ?_)
  show shapeCast S1x128 _ shapeCasts_S128_S1x128 (reduces_S1x128_S1.lift (ix1 0) i) = _
  rw [lift1]
  rw [shapeCast_apply _ _ _ (ix1 i) (by rw [Shape.rowMajor_val_one, Shape.rowMajor_val_two]; exact (Nat.zero_add _).symm)]
  refine (Ideal.multiReduction_add_single _ _ _ _ _ _).trans ?_
  refine Finset.sum_congr rfl fun (j : Fin 128) _ => ?_
  show absf s (reduces_S128x128_S128.lift (ix1 i) j) = _
  rw [lift1 reduces_S128x128_S128 i j]
  rfl

/-- The kernel's scale. -/
theorem vscale_eq {s : M} (hs : R2 s S) : vscale s = (scale S : EReal) := by rw [vscale_amax, amax_real hs, scale_eq]

theorem two_mul' {s : M} (hs : R2 s P) : R2 (mulf (broadcast S128x128 (Scalar.ofBits .f32 0x40000000#32)) s) ((2 : ℝ) • P) := by
  intro i j
  show Ideal.ofBits .f32 0x40000000#32 * s (ix2 i j) = _
  rw [ofBits_two, hs, ← EReal.coe_mul]; rfl

/-- A wide iteration. -/
theorem vwide_eq {s p : M} (hs : R2 s S) (hp : R2 p P) : R2 (vwide s p) ((2 : ℝ) • P - P * (S * P)) := by
  intro i j
  unfold vwide
  rw [matmul_zero_eq_dotGeneral, matmul_zero_eq_dotGeneral, subf_apply, two_mul' hp, Matrix.sub_apply, EReal.coe_sub]
  exact congrArg (_ - ·) ((hp.dot _ (hs.dot _ hp)) i j)

/-- A narrow iteration. -/
theorem vnarrow_eq {s p : M16} (hs : R2 (s : S128x128.Idx → EReal) S) (hp : R2 (p : S128x128.Idx → EReal) P) : R2 (vnarrow s p : S128x128.Idx → EReal) ((2 : ℝ) • P - P * (S * P)) := by
  intro i j
  unfold vnarrow
  rw [matmul_zero_eq_dotGeneral, matmul_zero_eq_dotGeneral, truncf_apply, subf_apply, Matrix.sub_apply, EReal.coe_sub]
  have h1 := two_mul' (s := extf .f32 p bitsLt_bf16_f32) hp i j
  rw [h1]
  refine congrArg (_ - ·) ((hp.dot none (R2.dot (φ := .bf16) (ψ := .bf16) none hs hp)) i j)

/-- The kernel's inverse is the series of 2048 terms. -/
theorem vinv_eq {s : M} (hs : R2 s S) : R2 (vinv s) (prec S) := by
  have h0 : R2 (truncf .bf16 (mulf (broadcast S128x128 (vscale s)) veye) bitsLt_bf16_f32 : S128x128.Idx → EReal) (neu (scale S) S 1) := by
    intro i j
    rw [truncf_apply, mulf_apply, veye_eq i j, neu_one]
    show vscale s * _ = _
    rw [vscale_eq hs, ← EReal.coe_mul]; rfl
  have hn : ∀ (N : ℕ) (p : M16), R2 (p : S128x128.Idx → EReal) (neu (scale S) S N) → R2 (vnarrow (truncf .bf16 s bitsLt_bf16_f32) p : S128x128.Idx → EReal) (neu (scale S) S (N + N)) := by
    intro N p hp; rw [← neu_double]; exact vnarrow_eq hs hp
  have hw : ∀ (N : ℕ) (p : M), R2 p (neu (scale S) S N) → R2 (vwide s p) (neu (scale S) S (N + N)) := by
    intro N p hp; rw [← neu_double]; exact vwide_eq hs hp
  exact hw 1024 _ (hw 512 _ (hn 256 _ (hn 128 _ (hn 64 _ (hn 32 _ (hn 16 _ (hn 8 _ (hn 4 _ (hn 2 _ (hn 1 _ h0))))))))))

/-- Where the scale vanishes, so does every iteration. -/
theorem vinv_zero {s : M} (h : vscale s = 0) : R2 (vinv s) (0 : Matrix (Fin 128) (Fin 128) ℝ) := by
  have h0 : R2 (truncf .bf16 (mulf (broadcast S128x128 (vscale s)) veye) bitsLt_bf16_f32 : S128x128.Idx → EReal) (0 : Matrix (Fin 128) (Fin 128) ℝ) := by
    intro i j
    rw [truncf_apply, mulf_apply]
    show vscale s * _ = _
    rw [h]; exact zero_mul _
  have z2 : (2 : ℝ) • (0 : Matrix (Fin 128) (Fin 128) ℝ) - 0 = 0 := by simp
  have hn : ∀ p : M16, R2 (p : S128x128.Idx → EReal) (0 : Matrix (Fin 128) (Fin 128) ℝ) →
      R2 (vnarrow (truncf .bf16 s bitsLt_bf16_f32) p : S128x128.Idx → EReal) (0 : Matrix (Fin 128) (Fin 128) ℝ) := by
    intro p hp i j
    rw [← z2]
    unfold vnarrow
    rw [matmul_zero_eq_dotGeneral, matmul_zero_eq_dotGeneral, truncf_apply, subf_apply, Matrix.sub_apply, EReal.coe_sub]
    have h1 := two_mul' (s := extf .f32 p bitsLt_bf16_f32) hp i j
    rw [h1]
    exact congrArg (_ - ·) (dot_zero_left none _ hp i j)
  have hw : ∀ p : M, R2 p (0 : Matrix (Fin 128) (Fin 128) ℝ) → R2 (vwide s p) (0 : Matrix (Fin 128) (Fin 128) ℝ) := by
    intro p hp i j
    rw [← z2]
    unfold vwide
    rw [matmul_zero_eq_dotGeneral, matmul_zero_eq_dotGeneral, subf_apply, two_mul' hp, Matrix.sub_apply, EReal.coe_sub]
    exact congrArg (_ - ·) (dot_zero_left _ _ hp i j)
  exact hw _ (hw _ (hn _ (hn _ (hn _ (hn _ (hn _ (hn _ (hn _ (hn _ (hn _ h0))))))))))

/-- The diagonal. -/
theorem vdiag_eq {p : M} (hp : R2 p P) (j : Fin 128) : vdiag p (ix2 0 j) = (P j j : EReal) := by
  unfold vdiag
  rw [shapeCast_apply _ _ _ (ix1 j) (by rw [Shape.rowMajor_val_one, Shape.rowMajor_val_two]; exact (Nat.zero_add _).symm)]
  refine (Ideal.multiReduction_add_single _ _ _ _ _ _).trans ?_
  have h : ∀ i : Fin 128, mulf p veye (reduces_S128x128_S128_2.lift (ix1 j) i) = ((P i j * (1 : Matrix (Fin 128) (Fin 128) ℝ) i j : ℝ) : EReal) := by
    intro i
    rw [lift0]
    show p (ix2 i j) * veye (F := Ideal) (ix2 i j) = _
    rw [hp, veye_eq, ← EReal.coe_mul]
  refine (Finset.sum_congr rfl fun i _ => h i).trans ?_
  refine (coe_sum Finset.univ fun i : Fin 128 => P i j * (1 : Matrix (Fin 128) (Fin 128) ℝ) i j).symm.trans ?_
  congr 1
  simp only [Matrix.one_apply, mul_ite, mul_one, mul_zero]
  exact (Finset.sum_ite_eq' Finset.univ j fun i => P i j).trans (if_pos (Finset.mem_univ j))

/-- The gradient. -/
theorem vgrad_eq {x : V} {mu : R} {p : M} {X : Matrix (Fin 1024) (Fin 128) ℝ} {m : Fin 128 → ℝ} (hx : R2 x X) (hm : ∀ k, mu (ix2 0 k) = (m k : EReal))
    (hp : R2 p P) (b : Fin 1024) (j : Fin 128) : vgrad x mu p (ix2 b j) = ((∑ k, (X b k - m k) * P k j : ℝ) : EReal) := by
  unfold vgrad
  rw [matmul_zero_eq_dotGeneral]
  have hd : R2 (subf x (broadcastTo S1024x128 (shapeCast S1x128 mu shapeCasts_S1x128_S1x128) broadcasts_S1x128_S1024x128)) (fun b k => X b k - m k) := by
    intro b k
    rw [subf_apply, hx, broadcastTo_1b_ab_apply, shapeCast_apply _ _ _ (ix2 0 k) rfl, hm, ← EReal.coe_sub]
  exact (hd.dot _ hp) b j

end Cert.KMat

end
-- ==== Proof.KBits.lean ====
/- The kernel's bits at one index are the generator's at the steps' keys. -/
module

public import proofs.«01_k».proof.Proof.Draw
public import proofs.«01_k».proof.Proof.RefTf

@[expose] public section

set_option maxRecDepth 16384

noncomputable section

namespace Cert.Draw

open Idealize.ShloMosaic Idealize.ShloMosaic.ValueIdx Cert.KernelIdeal Cert.KernelIdeal.Gen Cert.Tf

local notation "W" => IVec S1024x128 32

/-- A function of two vectors that at the index `i` is the function `g` of the pair of words there. -/
def At (i : S1024x128.Idx) (k : W → W → W) (g : BitVec 32 × BitVec 32 → BitVec 32) : Prop := ∀ x y, k x y i = g (x i, y i)

theorem At.rnd {i : S1024x128.Idx} {k : W → W → W} {g : BitVec 32 × BitVec 32 → BitVec 32} (h : At i k g) (r r' : BitVec 32) :
    At i (vrnd r r' k) (fun p => g (Tf.rnd r r' p)) := fun x y => by
  show k _ _ i = _
  rw [h]; exact congrArg (fun z => g (_, z)) (BitVec.xor_comm _ _)

theorem At.even {i : S1024x128.Idx} {k : W → W → W} {g : BitVec 32 × BitVec 32 → BitVec 32} (h : At i k g) :
    At i (veven k) (fun p => g (Tf.even p)) := (((h.rnd 6 26).rnd 26 6).rnd 15 17).rnd 13 19

theorem At.odd {i : S1024x128.Idx} {k : W → W → W} {g : BitVec 32 × BitVec 32 → BitVec 32} (h : At i k g) :
    At i (vodd k) (fun p => g (Tf.odd p)) := (((h.rnd 24 8).rnd 16 16).rnd 29 3).rnd 17 15

theorem At.inj {i : S1024x128.Idx} {k : W → W → W} {g : BitVec 32 × BitVec 32 → BitVec 32} (h : At i k g) (a b n : BitVec 32) :
    At i (vinj a (b + n) k) (fun p => g (Tf.inj a b n p)) := fun x y => by
  show k _ _ i = _
  rw [h]; exact congrArg (fun z => g (_, z)) (BitVec.add_assoc _ _ _).symm

/-- The kernel's bits at an index, from the counter there. -/
theorem vbits_apply (k0 k1 : BitVec 32) (n : W) (i : S1024x128.Idx) :
    vbits k0 k1 (k2 k0 k1) (k2 k0 k1 + 1) (k0 + 2) (k1 + 3) (k2 k0 k1 + 4) (k0 + 5) n i
      = (tf k0 k1 0 (n i)).1 ^^^ (tf k0 k1 0 (n i)).2 := by
  have h0 : At i xori (fun p => p.1 ^^^ p.2) := fun _ _ => rfl
  have h := (((((((((h0.inj (k2 k0 k1) k0 5).even).inj k1 (k2 k0 k1) 4).odd).inj k0 k1 3).even).inj (k2 k0 k1) k0 2).odd).inj k1 (k2 k0 k1) 1).even
  refine (h _ _).trans ?_
  have e : (broadcast S1024x128 k0 i, addi n (broadcast S1024x128 k1) i) = (0 + k0, n i + k1) := by
    exact congrArg (·, n i + k1) (BitVec.zero_add k0).symm
  rw [e]; rfl

/-- The kernel's counter. -/
theorem count_apply (r : Fin 1024) (l : Fin 128) : k0_pay3 (ix2 r l) = BitVec.ofNat 32 (128 * r.val + l.val) := by
  show IntOp.shli .vector (iota .tc S1024x128 32 [0] iota_S1024x128_d0_w32 (ix2 r l)) 7#32 + iota .tc S1024x128 32 [1] iota_S1024x128_d1_w32 (ix2 r l) = _
  rw [iota_single_apply, iota_single_apply]
  show BitVec.ofNat 32 r.val <<< (7#32) + BitVec.ofNat 32 l.val = _
  apply BitVec.eq_of_toNat_eq
  have := r.isLt; have := l.isLt
  simp [Nat.shiftLeft_eq]; omega

theorem key_eq : key 0 0 = (1012194634#32, 3152801799#32) ∧ key 0 1 = (1705926158#32, 899080142#32)
    ∧ key 1 0 = (3187376881#32, 129218101#32) ∧ key 1 1 = (2350016172#32, 1168365246#32)
    ∧ key 2 0 = (1605747716#32, 4117073388#32) ∧ key 2 1 = (2853785955#32, 313133857#32)
    ∧ key 3 0 = (2463158877#32, 4047937370#32) ∧ key 3 1 = (1914800406#32, 1741898942#32) := by decide +kernel

/-- The kernel's bits are the generator's at the steps' keys. -/
theorem nbits_eq (s : Fin 4) (r : Fin 1024) (l : Fin 128) : nbits s (ix2 r l) = bit (key s 0) r l := by
  obtain ⟨h0, -, h1, -, h2, -, h3, -⟩ := key_eq
  unfold bit; rw [← count_apply]
  fin_cases s
  · show _ = (tf (key 0 0).1 (key 0 0).2 _ _).1 ^^^ _; rw [h0]; exact vbits_apply 1012194634#32 3152801799#32 _ _
  · show _ = (tf (key 1 0).1 (key 1 0).2 _ _).1 ^^^ _; rw [h1]; exact vbits_apply 3187376881#32 129218101#32 _ _
  · show _ = (tf (key 2 0).1 (key 2 0).2 _ _).1 ^^^ _; rw [h2]; exact vbits_apply 1605747716#32 4117073388#32 _ _
  · show _ = (tf (key 3 0).1 (key 3 0).2 _ _).1 ^^^ _; rw [h3]; exact vbits_apply 2463158877#32 4047937370#32 _ _
@[inherit_doc nbits_eq]
theorem ubits_eq (s : Fin 4) (r : Fin 1024) (l : Fin 128) : ubits s (ix2 r l) = bit (key s 1) r l := by
  obtain ⟨-, h0, -, h1, -, h2, -, h3⟩ := key_eq
  unfold bit; rw [← count_apply]
  fin_cases s
  · show _ = (tf (key 0 1).1 (key 0 1).2 _ _).1 ^^^ _; rw [h0]; exact vbits_apply 1705926158#32 899080142#32 _ _
  · show _ = (tf (key 1 1).1 (key 1 1).2 _ _).1 ^^^ _; rw [h1]; exact vbits_apply 2350016172#32 1168365246#32 _ _
  · show _ = (tf (key 2 1).1 (key 2 1).2 _ _).1 ^^^ _; rw [h2]; exact vbits_apply 2853785955#32 313133857#32 _ _
  · show _ = (tf (key 3 1).1 (key 3 1).2 _ _).1 ^^^ _; rw [h3]; exact vbits_apply 1914800406#32 1741898942#32 _ _

end Cert.Draw

end
-- ==== Proof.KNoise.lean ====
/- The kernel's draws, read at an index at the extended reals. -/
module

public import proofs.«01_k».proof.Proof.KBits
public import proofs.«01_k».proof.Proof.Scal

@[expose] public section

set_option maxRecDepth 16384
set_option maxHeartbeats 400000

noncomputable section

namespace Cert.Draw

open Idealize.ShloMosaic Idealize.ShloMosaic.ValueIdx Cert.KernelIdeal Cert.KernelIdeal.Gen Cert.Tf

local notation "V" => FVec Ideal S1024x128 FTy.f32

/-- The uniform deviate at an index. -/
theorem vunif_apply (b : IVec S1024x128 32) (i : S1024x128.Idx) : (vunif b : V) i = Scal.unif (b i) := rfl

theorem vsym_apply (b : IVec S1024x128 32) (i : S1024x128.Idx) : (vsym b : V) i = Scal.sym (b i) := rfl

theorem vlogu_apply (b : IVec S1024x128 32) (i : S1024x128.Idx) : (vlogu b : V) i = Ideal.log (Scal.unif (b i)) :=
  Scal.logu_eq (b i)

/-- A polynomial's evaluation at an index. -/
theorem horner_apply (w : V) (i : S1024x128.Idx) : ∀ (l : List (BitVec 32)) (p : V),
    l.foldl (vhorner w) p i = l.foldl (fun p a => Ideal.ofBits .f32 a + p * w i) (p i)
  | [], _ => rfl
  | a :: l, p => horner_apply w i l (vhorner w p a)

/-- The normal deviate at an index. -/
theorem vnormal_apply (u : V) (i : S1024x128.Idx) : vnormal u i = Scal.knorm (u i) := by
  unfold vnormal
  show Ideal.ofBits .f32 0x3FB504F3#32 * (Scalar.select (Ideal.cmp .olt (Scal.kw (u i)) (Ideal.ofBits .f32 0x40A00000#32)) (List.foldl (vhorner _) _ _ i) (List.foldl (vhorner _) _ _ i) * u i) = _
  rw [horner_apply, horner_apply]
  rfl

/-- The kernel's proposal deviate and acceptance draw of step `s` at row `r`, column `l`. -/
theorem noise_eq (s : Fin 4) (r : Fin 1024) (l : Fin 128) :
    vnormal (F := Ideal) (vsym (nbits s)) (ix2 r l) = Scal.knorm (Scal.sym (bit (key s 0) r l)) := by
  rw [vnormal_apply, vsym_apply, nbits_eq]
@[inherit_doc noise_eq]
theorem logu_eq (s : Fin 4) (r : Fin 1024) (l : Fin 128) :
    vlogu (F := Ideal) (ubits s) (ix2 r l) = Ideal.log (Scal.unif (bit (key s 1) r l)) := by
  rw [vlogu_apply, ubits_eq]

end Cert.Draw

end
-- ==== Proof.KStep.lean ====
/- One step of the kernel over the reals is the same step of the chain as the reference's. -/
module

public import proofs.«01_k».proof.Proof.Step
public import proofs.«01_k».proof.Proof.KMat
public import proofs.«01_k».proof.Proof.KNoise

@[expose] public section

set_option maxRecDepth 16384
set_option maxHeartbeats 400000

noncomputable section

namespace Cert.KStep

open Idealize.ShloMosaic Idealize.ShloMosaic.ValueIdx
open Cert.KernelIdeal Cert.KernelIdeal.Gen Cert.Draw Cert.KMat Cert.Mat Cert.Scal Cert.Rl Cert.Step
open scoped BigOperators

local notation "N" => Fin 1024 → Fin 128 → ℝ
local notation "M" => FVec Ideal S128x128 FTy.f32
local notation "R" => FVec Ideal S1x128 FTy.f32
local notation "V" => FVec Ideal S1024x128 FTy.f32

theorem ofBits_half : Ideal.ofBits .f32 0x3F000000#32 = ((1 / 2 : ℝ) : EReal) := by
  simp [Ideal.ofBits, Ideal.ieee, -EReal.coe_mul]; norm_num

variable {S : M} {x xc z lu : V} {mu : R} {A : Matrix (Fin 128) (Fin 128) ℝ} {X Z C : N} {m : Fin 128 → ℝ} {U : Fin 1024 → Fin 128 → EReal}

/-- The kernel's standard deviations. -/
theorem vstd_eq {p : R} {P : Matrix (Fin 128) (Fin 128) ℝ} (hp : ∀ j, p (ix2 0 j) = (P j j : EReal)) (hpos : ∀ j, 0 < P j j) (j : Fin 128) :
    vstd p (ix2 0 j) = (Real.sqrt (1 / P j j) : EReal) := by
  rw [← std_eq (hpos j), ← hp j]; rfl

/-- The kernel's proposal. -/
theorem vtil_eq {sd : R} {P : Matrix (Fin 128) (Fin 128) ℝ} (hs : ∀ j, sd (ix2 0 j) = (Real.sqrt (1 / P j j) : EReal))
    (hC : R2 (xc : S1024x128.Idx → EReal) C) (hZ : ∀ b j, z (ix2 b j) = (Z b j : EReal)) (b : Fin 1024) (j : Fin 128) :
    vtil sd xc z (ix2 b j) = (prop P Z C b j : EReal) := by
  unfold vtil
  rw [addf_apply, mulf_apply, broadcastTo_1b_ab_apply, hs, hZ, hC b j, ← EReal.coe_mul, ← EReal.coe_add]
  rfl

/-- The kernel's logarithm of the ratio. -/
theorem vlpa_eq {p : R} {g xt : V} {b : Fin 1024} {j : Fin 128} {q d x0 c t : ℝ} (hp : p (ix2 0 j) = (q : EReal)) (hg : g (ix2 b j) = (d : EReal))
    (hx : x (ix2 b j) = (x0 : EReal)) (hc : xc (ix2 b j) = (c : EReal)) (ht : xt (ix2 b j) = (t : EReal)) :
    vlpa p x g xc xt (ix2 b j) = (((0 - ((t - x0) - (c - x0))) * (d + 1 / 2 * ((t - x0) + (c - x0)) * q) : ℝ) : EReal) := by
  unfold vlpa
  simp only [mulf_apply, subf_apply, addf_apply, broadcastTo_1b_ab_apply, hp, hg, hx, hc, ht]
  show (Ideal.ofBits .f32 0x00000000#32 - (((t : EReal) - x0) - (c - x0))) * ((d : EReal) + Ideal.ofBits .f32 0x3F000000#32 * ((t - x0) + (c - x0)) * q) = _
  rw [Ideal.ofBits_zero_f32, ofBits_half]
  norm_cast

/-- The choice at an index. -/
theorem sel_eq (u d s t : V) (i : S1024x128.Idx) : select (cmpf .olt u d) s t i = Scalar.select (Ideal.cmp .olt (u i) (d i)) (s i) (t i) := rfl

/-- One step of the kernel. -/
theorem ker (hS : R2 (S : S128x128.Idx → EReal) A) (hA : A.IsSymm) (hx : R2 (x : S1024x128.Idx → EReal) X) (hm : ∀ k, mu (ix2 0 k) = (m k : EReal))
    (hpos : ∀ j, 0 < prec A j j) (hZ : ∀ b j, z (ix2 b j) = (Z b j : EReal)) (hU : ∀ b j, lu (ix2 b j) = U b j)
    (hC : R2 (xc : S1024x128.Idx → EReal) C) : R2 (vstep S x mu xc z lu : S1024x128.Idx → EReal) (next (prec A) X m Z U C) := by
  intro b j
  have hP : R2 (vinv S) (prec A) := vinv_eq hS
  have ht := vtil_eq (vstd_eq (vdiag_eq hP) hpos) hC hZ b j
  have hg : vlpa (vdiag (vinv S)) x (vgrad x mu (vinv S)) xc (vtil (vstd (vdiag (vinv S))) xc z) (ix2 b j) = (gain (prec A) X m Z C b j : EReal) := by
    rw [vlpa_eq (vdiag_eq hP j) (vgrad_eq hx hm hP b j) (hx b j) (hC b j) ht]
    unfold gain
    rw [accept (prec A) (neu_symm hA _) (X b) m j]
  unfold vstep
  rw [sel_eq, hU]
  exact choose hg ht (hC b j)

/-- One step of the kernel with a zero matrix. -/
theorem ker_zero {C : Fin 1024 → Fin 128 → EReal} (hP : R2 (vinv S) (0 : Matrix (Fin 128) (Fin 128) ℝ)) (hx : R2 (x : S1024x128.Idx → EReal) X)
    (hm : ∀ k, mu (ix2 0 k) = (m k : EReal)) (hZ : ∀ b j, z (ix2 b j) = (Z b j : EReal)) (hU : ∀ b j, lu (ix2 b j) = U b j)
    (hC : ∀ b j, xc (ix2 b j) = C b j) (b : Fin 1024) (j : Fin 128) : vstep S x mu xc z lu (ix2 b j) = still Z U C b j := by
  have hd : vdiag (vinv S) (ix2 0 j) = (0 : EReal) := (vdiag_eq hP j).trans EReal.coe_zero
  have hs : vstd (vdiag (vinv S)) (ix2 0 j) = Ideal.sqrt (Ideal.div (Ideal.ofBits .f32 0x3F800000#32) 0) := by rw [← hd]; rfl
  have ht : vtil (vstd (vdiag (vinv S))) xc z (ix2 b j) = C b j + Ideal.sqrt (Ideal.div (Ideal.ofBits .f32 0x3F800000#32) 0) * (Z b j : EReal) := by
    unfold vtil
    rw [addf_apply, mulf_apply, broadcastTo_1b_ab_apply, hs, hZ, hC b j]
  have hq : vgrad x mu (vinv S) (ix2 b j) = (0 : EReal) := by
    rw [vgrad_eq hx hm hP b j]; simp
  have hg : vlpa (vdiag (vinv S)) x (vgrad x mu (vinv S)) xc (vtil (vstd (vdiag (vinv S))) xc z) (ix2 b j) = (0 : EReal) := by
    unfold vlpa
    simp only [mulf_apply, subf_apply, addf_apply, broadcastTo_1b_ab_apply, hd, hq]
    refine (congrArg (fun a : EReal => _ * a) ((congrArg (fun a : EReal => 0 + a) (mul_zero (M₀ := EReal) _)).trans (add_zero _))).trans ?_
    exact mul_zero (M₀ := EReal) _
  unfold vstep
  rw [sel_eq, hU, hg, ht, hC b j]; rfl

end Cert.KStep

end
-- ==== Proof.RDraws.lean ====
/- The reference's draws at the extended reals: the normal deviate and the logarithm of the uniform one, each from its word. -/
module

public import proofs.«01_k».proof.Proof.RNoise

@[expose] public section

set_option maxRecDepth 16384
set_option maxHeartbeats 400000

noncomputable section

namespace Cert.RNoise

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained Cert.Tf Cert.Scal

variable {V : Valuation τ sig (Elt Ideal)}

/-- The contents satisfy every operation after the loop. -/
def All (V : Valuation τ sig (Elt Ideal)) : Prop := ∀ (k : ℕ) (L : List (HloOp τ sig (Elt Ideal))), postI[k]? = some L → Holds V L

theorem All.get (H : All V) (k : ℕ) {L : List (HloOp τ sig (Elt Ideal))} (h : postI[k]? = some L) : Holds V L := H k L h

/-- The word of one draw. -/
theorem word (H : All V) (s : Fin 4) (j : Fin 2) (r : Fin 1024) (l : Fin 128) :
    (at' V main_v62 : IVec S4x2x1024x128 32) (ix4 s j r l) = bit (key s j) r l :=
  bits_eq (H.get (L := hostOps0_3) 2 rfl) (H.get (L := hostOps0_4) 3 rfl) (H.get (L := hostOps0_5) 4 rfl) (H.get (L := hostOps0_6) 5 rfl)
    (H.get (L := hostOps0_7) 6 rfl) (H.get (L := hostOps0_8) 7 rfl) s j r l

/-- The logarithm of the uniform deviate. -/
theorem logu (H : All V) (s : Fin 4) (r : Fin 1024) (l : Fin 128) :
    (V (Proc.devRef .tc main_v136) : FVec Ideal S4x1024x128 .f32) (ix3 s r l) = Ideal.log (Scal.unif (bit (key s 1) r l)) := by
  have A : Holds V hostOps0_8 := H.get 7 rfl
  have B : Holds V hostOps0_28 := H.get 27 rfl
  have hb : (V (Proc.devRef .tc main_v128) : IVec S4x1024x128 32) (ix3 s r l) = bit (key s 1) r l :=
    (half 1 _ rfl (Fix.eq1 (B.nth 7 rfl)) (Fix.eqR (B.nth 8 rfl)) s r l).trans (word H s 1 r l)
  have hu := unif_of (Fix.eq0 (B.nth 9 rfl)) (Fix.eq1 (B.nth 10 rfl)) (Fix.eq2 (B.nth 11 rfl)) (Fix.eq0 (B.nth 12 rfl)) (Fix.eq1 (B.nth 13 rfl))
    (Fix.eq2 (B.nth 14 rfl)) (Fix.eq1 (B.nth 15 rfl)) (Fix.eq0 (B.nth 16 rfl)) (Fix.eq1 (B.nth 17 rfl)) (Fix.eq2 (B.nth 18 rfl)) (ix3 s r l)
  rw [hb] at hu
  rw [Fix.eq1 (B.nth 19 rfl)]
  exact congrArg Ideal.log hu

/-- The normal deviate. -/
theorem noise (H : All V) (s : Fin 4) (r : Fin 1024) (l : Fin 128) :
    (V (Proc.devRef .tc main_v126) : FVec Ideal S4x1024x128 .f32) (ix3 s r l) = Scal.rnorm (Scal.sym (bit (key s 0) r l)) := by
  have A : Holds V hostOps0_8 := H.get 7 rfl
  have B : Holds V hostOps0_28 := H.get 27 rfl
  have D : Holds V hostOps0_9 := H.get 8 rfl
  have hb : (V (Proc.devRef .tc main_v64) : IVec S4x1024x128 32) (ix3 s r l) = bit (key s 0) r l :=
    (half 0 _ rfl (Fix.eq1 (A.nth 1 rfl)) (Fix.eqR (A.nth 2 rfl)) s r l).trans (word H s 0 r l)
  have hu := unif_of (Fix.eq0 (A.nth 3 rfl)) (Fix.eq1 (A.nth 4 rfl)) (Fix.eq2 (A.nth 5 rfl)) (Fix.eq0 (A.nth 6 rfl)) (Fix.eq1 (A.nth 7 rfl))
    (Fix.eq2 (A.nth 8 rfl)) (Fix.eq1 (A.nth 9 rfl)) (Fix.eq0 (A.nth 10 rfl)) (Fix.eq1 (A.nth 11 rfl)) (Fix.eq2 (A.nth 12 rfl)) (ix3 s r l)
  rw [hb] at hu
  generalize bit (key s 0) r l = b at hu ⊢
  have hv : (V (Proc.devRef .tc main_v89) : FVec Ideal S4x1024x128 .f32) = select (V (Proc.devRef .tc main_v83)) (V (Proc.devRef .tc main_v85)) (V (Proc.devRef .tc main_v88)) :=
    t3 D.head
  obtain ⟨hy, hm, hw⟩ := sym_of (Fix.eq0 (A.nth 13 rfl)) (Fix.eq1 (A.nth 14 rfl)) (Fix.eq2 (A.nth 15 rfl)) (Fix.eq0 (A.nth 16 rfl)) (Fix.eq1 (A.nth 17 rfl))
    (Fix.eq2 (A.nth 18 rfl)) (Fix.eq0 (A.nth 19 rfl)) (Fix.eq1 (A.nth 20 rfl)) (Fix.eq2 (A.nth 21 rfl)) (Fix.eq1 (A.nth 22 rfl)) (Fix.eq2 (A.nth 23 rfl))
    (Fix.eq1 (A.nth 24 rfl)) (Fix.eq1 (A.nth 25 rfl)) (Fix.eq0 (A.nth 26 rfl)) (Fix.eq1 (A.nth 27 rfl)) (Fix.eq2 (A.nth 28 rfl)) (Fix.eq0 (A.nth 29 rfl))
    (Fix.eq1 (A.nth 30 rfl)) (Fix.eq2 (A.nth 31 rfl)) (Fix.eq1 (A.nth 32 rfl)) (Fix.eq0 (A.nth 33 rfl)) (Fix.eq1 (A.nth 34 rfl)) (Fix.eq2 (A.nth 35 rfl)) hv (ix3 s r l) hu
  have C10 : Holds V hostOps0_10 := H.get 9 rfl
  have C11 : Holds V hostOps0_11 := H.get 10 rfl
  have q0 := (coef (o := (V (Proc.devRef .tc main_v90) : FVec Ideal S4x1024x128 .f32)) (Fix.eq0 (C10.nth 0 rfl)) (Fix.eq0 (C10.nth 1 rfl)) (t1 C11.head) (t1 C11.tail.head) (t3 C11.tail.tail.head) (ix3 s r l)).trans (congrArg (pick · _ _) hm)
  have C12 : Holds V hostOps0_12 := H.get 11 rfl
  have C13 : Holds V hostOps0_13 := H.get 12 rfl
  have q1 := (coef (o := (V (Proc.devRef .tc main_v91) : FVec Ideal S4x1024x128 .f32)) (Fix.eq0 (C12.nth 0 rfl)) (Fix.eq0 (C12.nth 1 rfl)) (t1 C13.head) (t1 C13.tail.head) (t3 C13.tail.tail.head) (ix3 s r l)).trans (congrArg (pick · _ _) hm)
  have C14 : Holds V hostOps0_14 := H.get 13 rfl
  have C15 : Holds V hostOps0_15 := H.get 14 rfl
  have q2 := (coef (o := (V (Proc.devRef .tc main_v96) : FVec Ideal S4x1024x128 .f32)) (Fix.eq0 (C14.nth 4 rfl)) (Fix.eq0 (C14.nth 5 rfl)) (t1 C15.head) (t1 C15.tail.head) (t3 C15.tail.tail.head) (ix3 s r l)).trans (congrArg (pick · _ _) hm)
  have C16 : Holds V hostOps0_16 := H.get 15 rfl
  have C17 : Holds V hostOps0_17 := H.get 16 rfl
  have q3 := (coef (o := (V (Proc.devRef .tc main_v100) : FVec Ideal S4x1024x128 .f32)) (Fix.eq0 (C16.nth 3 rfl)) (Fix.eq0 (C16.nth 4 rfl)) (t1 C17.head) (t1 C17.tail.head) (t3 C17.tail.tail.head) (ix3 s r l)).trans (congrArg (pick · _ _) hm)
  have C18 : Holds V hostOps0_18 := H.get 17 rfl
  have C19 : Holds V hostOps0_19 := H.get 18 rfl
  have q4 := (coef (o := (V (Proc.devRef .tc main_v104) : FVec Ideal S4x1024x128 .f32)) (Fix.eq0 (C18.nth 3 rfl)) (Fix.eq0 (C18.nth 4 rfl)) (t1 C19.head) (t1 C19.tail.head) (t3 C19.tail.tail.head) (ix3 s r l)).trans (congrArg (pick · _ _) hm)
  have C20 : Holds V hostOps0_20 := H.get 19 rfl
  have C21 : Holds V hostOps0_21 := H.get 20 rfl
  have q5 := (coef (o := (V (Proc.devRef .tc main_v108) : FVec Ideal S4x1024x128 .f32)) (Fix.eq0 (C20.nth 3 rfl)) (Fix.eq0 (C20.nth 4 rfl)) (t1 C21.head) (t1 C21.tail.head) (t3 C21.tail.tail.head) (ix3 s r l)).trans (congrArg (pick · _ _) hm)
  have C22 : Holds V hostOps0_22 := H.get 21 rfl
  have C23 : Holds V hostOps0_23 := H.get 22 rfl
  have q6 := (coef (o := (V (Proc.devRef .tc main_v112) : FVec Ideal S4x1024x128 .f32)) (Fix.eq0 (C22.nth 3 rfl)) (Fix.eq0 (C22.nth 4 rfl)) (t1 C23.head) (t1 C23.tail.head) (t3 C23.tail.tail.head) (ix3 s r l)).trans (congrArg (pick · _ _) hm)
  have C24 : Holds V hostOps0_24 := H.get 23 rfl
  have C25 : Holds V hostOps0_25 := H.get 24 rfl
  have q7 := (coef (o := (V (Proc.devRef .tc main_v116) : FVec Ideal S4x1024x128 .f32)) (Fix.eq0 (C24.nth 3 rfl)) (Fix.eq0 (C24.nth 4 rfl)) (t1 C25.head) (t1 C25.tail.head) (t3 C25.tail.tail.head) (ix3 s r l)).trans (congrArg (pick · _ _) hm)
  have C26 : Holds V hostOps0_26 := H.get 25 rfl
  have C27 : Holds V hostOps0_27 := H.get 26 rfl
  have q8 := (coef (o := (V (Proc.devRef .tc main_v120) : FVec Ideal S4x1024x128 .f32)) (Fix.eq0 (C26.nth 3 rfl)) (Fix.eq0 (C26.nth 4 rfl)) (t1 C27.head) (t1 C27.tail.head) (t3 C27.tail.tail.head) (ix3 s r l)).trans (congrArg (pick · _ _) hm)
  have p1 := stage (Fix.eq1 (C14.nth 0 rfl)) (Fix.eq2 (C14.nth 1 rfl)) (Fix.eq1 (C14.nth 2 rfl)) (Fix.eq2 (C14.nth 3 rfl)) q0 hw q1
  have p2 := stage rfl (Fix.eq2 (C16.nth 0 rfl)) (Fix.eq1 (C16.nth 1 rfl)) (Fix.eq2 (C16.nth 2 rfl)) p1 hw q2
  have p3 := stage rfl (Fix.eq2 (C18.nth 0 rfl)) (Fix.eq1 (C18.nth 1 rfl)) (Fix.eq2 (C18.nth 2 rfl)) p2 hw q3
  have p4 := stage rfl (Fix.eq2 (C20.nth 0 rfl)) (Fix.eq1 (C20.nth 1 rfl)) (Fix.eq2 (C20.nth 2 rfl)) p3 hw q4
  have p5 := stage rfl (Fix.eq2 (C22.nth 0 rfl)) (Fix.eq1 (C22.nth 1 rfl)) (Fix.eq2 (C22.nth 2 rfl)) p4 hw q5
  have p6 := stage rfl (Fix.eq2 (C24.nth 0 rfl)) (Fix.eq1 (C24.nth 1 rfl)) (Fix.eq2 (C24.nth 2 rfl)) p5 hw q6
  have p7 := stage rfl (Fix.eq2 (C26.nth 0 rfl)) (Fix.eq1 (C26.nth 1 rfl)) (Fix.eq2 (C26.nth 2 rfl)) p6 hw q7
  have p8 := stage rfl (Fix.eq2 (B.nth 0 rfl)) (Fix.eq1 (B.nth 1 rfl)) (Fix.eq2 (B.nth 2 rfl)) p7 hw q8
  have e := last (Fix.eq2 (B.nth 3 rfl)) (Fix.eq0 (B.nth 4 rfl)) (Fix.eq1 (B.nth 5 rfl)) (Fix.eq2 (B.nth 6 rfl)) (ix3 s r l) p8 hy
  exact e.trans (rnorm_eq _).symm

/-- The states one by one in the third axis. -/
theorem long (H : All V) (b : Fin 1024) (j k : Fin 128) :
    (V (Proc.devRef .tc main_v28) : FVec Ideal S1024x128x128 .f32) (ix3 b j k) = (V (Proc.devRef .tc main_arg0) : FVec Ideal S1024x128 .f32) (ix2 b k) := by
  have A : Holds V hostOps0_3 := H.get 2 rfl
  have e : (S1024x1x128x128.rowMajor (ix4 b 0 j k)).val = (S1024x128x128.rowMajor (ix3 b j k)).val := by
    rw [Shape.rowMajor_val_three, Shape.rowMajor_val_four]; show ((b.val * 1 + 0) * 128 + j.val) * 128 + k.val = (b.val * 128 + j.val) * 128 + k.val; ring
  rw [Fix.eqR (A.nth 7 rfl)]
  refine (shapeCast_apply _ _ _ (ix4 b 0 j k) e).trans ?_
  rw [Fix.eq1 (A.nth 6 rfl), broadcastInDim_apply _ _ _ _ (ix3 b 0 k) (fun d => by fin_cases d <;> rfl), Fix.eq1 (A.nth 5 rfl),
    broadcastInDim_apply _ _ _ _ (ix2 b k) (fun d => by fin_cases d <;> rfl)]

end Cert.RNoise

end
-- ==== Proof.RefSteps.lean ====
/- The reference's four steps: the operations of each step in the final contents, and the states they leave. -/
module

public import proofs.«01_k».proof.Proof.Step
public import proofs.«01_k».proof.Proof.RDraws
public import proofs.«01_k».proof.Proof.RMat

@[expose] public section

set_option maxRecDepth 16384
set_option maxHeartbeats 400000

noncomputable section

namespace Cert.RefSteps

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained Cert.Tf Cert.Scal Cert.RNoise Cert.RAcc Cert.Step Cert.Rl

variable {V : Valuation τ sig (Elt Ideal)}

/-- The deviates as reals. -/
def zr (s : Fin 4) (r : Fin 1024) (l : Fin 128) : ℝ := (Scal.knorm (Scal.sym (bit (key s 0) r l))).toReal

theorem zr_eq (s : Fin 4) (r : Fin 1024) (l : Fin 128) : Scal.knorm (Scal.sym (bit (key s 0) r l)) = (zr s r l : EReal) := by
  obtain ⟨z, h⟩ := (Scal.norm_eq (bit (key s 0) r l)).2
  unfold zr; rw [h, EReal.toReal_coe]

/-- The logarithms of the acceptance draws. -/
def ur (s : Fin 4) (r : Fin 1024) (l : Fin 128) : EReal := Ideal.log (Scal.unif (bit (key s 1) r l))

/-- The operations of the log density of step 0's proposal. -/
theorem ot0 (H : All V) : Nonempty (Ops (V (Proc.devRef .tc main_v28)) (V (Proc.devRef .tc main_v16_5)) (V (Proc.devRef .tc main_arg1))
    (V (Proc.devRef .tc main_v143)) (V (Proc.devRef .tc main_v166))) :=
  have A : Holds V hostOps0_28 := H.get 27 rfl
  have B : Holds V hostOps0_29 := H.get 28 rfl
  have C : Holds V hostOps0_30 := H.get 29 rfl
  ⟨⟨_, _, _, _, _, _, _, _, _, _, _, _, _, _, _, _, _, _, _, _, _, _, _, _, _, _, _, _, _,
    (Fix.eq0 (A.nth 27 rfl) :), (Fix.eq0 (A.nth 28 rfl) :), (Fix.eq0 (A.nth 29 rfl) :), (Fix.eq1 (A.nth 30 rfl) :), (Fix.eq2 (A.nth 31 rfl) :), (Fix.eq2 (A.nth 32 rfl) :), (Fix.eq1 (A.nth 33 rfl) :), (Fix.eq1 (A.nth 34 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The operations of the log density of step 0's state. -/
theorem oo0 (H : All V) : Nonempty (Ops (V (Proc.devRef .tc main_v28)) (V (Proc.devRef .tc main_v16_5)) (V (Proc.devRef .tc main_arg1))
    (V (Proc.devRef .tc main_arg0)) (V (Proc.devRef .tc main_v189))) :=
  have A : Holds V hostOps0_30 := H.get 29 rfl
  have B : Holds V hostOps0_31 := H.get 30 rfl
  have C : Holds V hostOps0_32 := H.get 31 rfl
  ⟨⟨_, _, _, _, _, _, _, _, _, _, _, _, _, _, _, _, _, _, _, _, _, _, _, _, _, _, _, _, _,
    (Fix.eq0 (A.nth 19 rfl) :), (Fix.eq0 (A.nth 20 rfl) :), (Fix.eq0 (A.nth 21 rfl) :), (Fix.eq1 (A.nth 22 rfl) :), (Fix.eq2 (A.nth 23 rfl) :), (Fix.eq2 (A.nth 24 rfl) :), (Fix.eq1 (A.nth 25 rfl) :), (Fix.eq1 (A.nth 26 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The other operations of step 0. -/
theorem or0 (H : All V) : Nonempty (Rest (V (Proc.devRef .tc main_v25)) (V (Proc.devRef .tc main_v126)) (V (Proc.devRef .tc main_v136)) 0
    (V (Proc.devRef .tc main_arg0)) (V (Proc.devRef .tc main_v143)) (V (Proc.devRef .tc main_v166)) (V (Proc.devRef .tc main_v189)) (V (Proc.devRef .tc main_v194))) :=
  have A : Holds V hostOps0_28 := H.get 27 rfl
  have D : Holds V hostOps0_32 := H.get 31 rfl
  have E : Holds V hostOps0_33 := H.get 32 rfl
  ⟨⟨_, _, _, _, _, _, _, _, _, _, _, _, rfl, rfl, _, _, (Fix.eq1 (A.nth 20 rfl) :), (Fix.eq1 (A.nth 21 rfl) :), (Fix.eq1 (A.nth 22 rfl) :), (Fix.eqR (A.nth 23 rfl) :), (Fix.eq1 (A.nth 24 rfl) :), (Fix.eq2 (A.nth 25 rfl) :), (Fix.eq2 (A.nth 26 rfl) :), (Fix.eq1 (D.nth 19 rfl) :), (Fix.eqR (D.nth 20 rfl) :), (Fix.eq2 (D.nth 21 rfl) :), (Fix.eq2 (D.nth 22 rfl) :), t3 E.head⟩⟩

/-- The operations of the log density of step 1's proposal. -/
theorem ot1 (H : All V) : Nonempty (Ops (V (Proc.devRef .tc main_v28)) (V (Proc.devRef .tc main_v16_5)) (V (Proc.devRef .tc main_arg1))
    (V (Proc.devRef .tc main_v201)) (V (Proc.devRef .tc main_v224))) :=
  have A : Holds V hostOps0_34 := H.get 33 rfl
  have B : Holds V hostOps0_35 := H.get 34 rfl
  have C : Holds V hostOps0_36 := H.get 35 rfl
  ⟨⟨_, _, _, _, _, _, _, _, _, _, _, _, _, _, _, _, _, _, _, _, _, _, _, _, _, _, _, _, _,
    (Fix.eq0 (A.nth 7 rfl) :), (Fix.eq0 (A.nth 8 rfl) :), (Fix.eq0 (A.nth 9 rfl) :), (Fix.eq1 (A.nth 10 rfl) :), (Fix.eq2 (A.nth 11 rfl) :), (Fix.eq2 (A.nth 12 rfl) :), (Fix.eq1 (A.nth 13 rfl) :), (Fix.eq1 (A.nth 14 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The operations of the log density of step 1's state. -/
theorem oo1 (H : All V) : Nonempty (Ops (V (Proc.devRef .tc main_v28)) (V (Proc.devRef .tc main_v16_5)) (V (Proc.devRef .tc main_arg1))
    (V (Proc.devRef .tc main_v194)) (V (Proc.devRef .tc main_v247))) :=
  have A : Holds V hostOps0_36 := H.get 35 rfl
  have B : Holds V hostOps0_37 := H.get 36 rfl
  have C : Holds V hostOps0_38 := H.get 37 rfl
  ⟨⟨_, _, _, _, _, _, _, _, _, _, _, _, _, _, _, _, _, _, _, _, _, _, _, _, _, _, _, _, _,
    (Fix.eq0 (A.nth 19 rfl) :), (Fix.eq0 (A.nth 20 rfl) :), (Fix.eq0 (A.nth 21 rfl) :), (Fix.eq1 (A.nth 22 rfl) :), (Fix.eq2 (A.nth 23 rfl) :), (Fix.eq2 (A.nth 24 rfl) :), (Fix.eq1 (A.nth 25 rfl) :), (Fix.eq1 (A.nth 26 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The other operations of step 1. -/
theorem or1 (H : All V) : Nonempty (Rest (V (Proc.devRef .tc main_v25)) (V (Proc.devRef .tc main_v126)) (V (Proc.devRef .tc main_v136)) 1
    (V (Proc.devRef .tc main_v194)) (V (Proc.devRef .tc main_v201)) (V (Proc.devRef .tc main_v224)) (V (Proc.devRef .tc main_v247)) (V (Proc.devRef .tc main_v252))) :=
  have A : Holds V hostOps0_34 := H.get 33 rfl
  have D : Holds V hostOps0_38 := H.get 37 rfl
  have E : Holds V hostOps0_39 := H.get 38 rfl
  ⟨⟨_, _, _, _, _, _, _, _, _, _, _, _, rfl, rfl, _, _, (Fix.eq1 (A.nth 0 rfl) :), (Fix.eq1 (A.nth 1 rfl) :), (Fix.eq1 (A.nth 2 rfl) :), (Fix.eqR (A.nth 3 rfl) :), (Fix.eq1 (A.nth 4 rfl) :), (Fix.eq2 (A.nth 5 rfl) :), (Fix.eq2 (A.nth 6 rfl) :), (Fix.eq1 (D.nth 19 rfl) :), (Fix.eqR (D.nth 20 rfl) :), (Fix.eq2 (D.nth 21 rfl) :), (Fix.eq2 (D.nth 22 rfl) :), t3 E.head⟩⟩

/-- The operations of the log density of step 2's proposal. -/
theorem ot2 (H : All V) : Nonempty (Ops (V (Proc.devRef .tc main_v28)) (V (Proc.devRef .tc main_v16_5)) (V (Proc.devRef .tc main_arg1))
    (V (Proc.devRef .tc main_v259)) (V (Proc.devRef .tc main_v282))) :=
  have A : Holds V hostOps0_40 := H.get 39 rfl
  have B : Holds V hostOps0_41 := H.get 40 rfl
  have C : Holds V hostOps0_42 := H.get 41 rfl
  ⟨⟨_, _, _, _, _, _, _, _, _, _, _, _, _, _, _, _, _, _, _, _, _, _, _, _, _, _, _, _, _,
    (Fix.eq0 (A.nth 7 rfl) :), (Fix.eq0 (A.nth 8 rfl) :), (Fix.eq0 (A.nth 9 rfl) :), (Fix.eq1 (A.nth 10 rfl) :), (Fix.eq2 (A.nth 11 rfl) :), (Fix.eq2 (A.nth 12 rfl) :), (Fix.eq1 (A.nth 13 rfl) :), (Fix.eq1 (A.nth 14 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The operations of the log density of step 2's state. -/
theorem oo2 (H : All V) : Nonempty (Ops (V (Proc.devRef .tc main_v28)) (V (Proc.devRef .tc main_v16_5)) (V (Proc.devRef .tc main_arg1))
    (V (Proc.devRef .tc main_v252)) (V (Proc.devRef .tc main_v305))) :=
  have A : Holds V hostOps0_42 := H.get 41 rfl
  have B : Holds V hostOps0_43 := H.get 42 rfl
  have C : Holds V hostOps0_44 := H.get 43 rfl
  ⟨⟨_, _, _, _, _, _, _, _, _, _, _, _, _, _, _, _, _, _, _, _, _, _, _, _, _, _, _, _, _,
    (Fix.eq0 (A.nth 19 rfl) :), (Fix.eq0 (A.nth 20 rfl) :), (Fix.eq0 (A.nth 21 rfl) :), (Fix.eq1 (A.nth 22 rfl) :), (Fix.eq2 (A.nth 23 rfl) :), (Fix.eq2 (A.nth 24 rfl) :), (Fix.eq1 (A.nth 25 rfl) :), (Fix.eq1 (A.nth 26 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The other operations of step 2. -/
theorem or2 (H : All V) : Nonempty (Rest (V (Proc.devRef .tc main_v25)) (V (Proc.devRef .tc main_v126)) (V (Proc.devRef .tc main_v136)) 2
    (V (Proc.devRef .tc main_v252)) (V (Proc.devRef .tc main_v259)) (V (Proc.devRef .tc main_v282)) (V (Proc.devRef .tc main_v305)) (V (Proc.devRef .tc main_v310))) :=
  have A : Holds V hostOps0_40 := H.get 39 rfl
  have D : Holds V hostOps0_44 := H.get 43 rfl
  have E : Holds V hostOps0_45 := H.get 44 rfl
  ⟨⟨_, _, _, _, _, _, _, _, _, _, _, _, rfl, rfl, _, _, (Fix.eq1 (A.nth 0 rfl) :), (Fix.eq1 (A.nth 1 rfl) :), (Fix.eq1 (A.nth 2 rfl) :), (Fix.eqR (A.nth 3 rfl) :), (Fix.eq1 (A.nth 4 rfl) :), (Fix.eq2 (A.nth 5 rfl) :), (Fix.eq2 (A.nth 6 rfl) :), (Fix.eq1 (D.nth 19 rfl) :), (Fix.eqR (D.nth 20 rfl) :), (Fix.eq2 (D.nth 21 rfl) :), (Fix.eq2 (D.nth 22 rfl) :), t3 E.head⟩⟩

/-- The operations of the log density of step 3's proposal. -/
theorem ot3 (H : All V) : Nonempty (Ops (V (Proc.devRef .tc main_v28)) (V (Proc.devRef .tc main_v16_5)) (V (Proc.devRef .tc main_arg1))
    (V (Proc.devRef .tc main_v317)) (V (Proc.devRef .tc main_v340))) :=
  have A : Holds V hostOps0_46 := H.get 45 rfl
  have B : Holds V hostOps0_47 := H.get 46 rfl
  have C : Holds V hostOps0_48 := H.get 47 rfl
  ⟨⟨_, _, _, _, _, _, _, _, _, _, _, _, _, _, _, _, _, _, _, _, _, _, _, _, _, _, _, _, _,
    (Fix.eq0 (A.nth 7 rfl) :), (Fix.eq0 (A.nth 8 rfl) :), (Fix.eq0 (A.nth 9 rfl) :), (Fix.eq1 (A.nth 10 rfl) :), (Fix.eq2 (A.nth 11 rfl) :), (Fix.eq2 (A.nth 12 rfl) :), (Fix.eq1 (A.nth 13 rfl) :), (Fix.eq1 (A.nth 14 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The operations of the log density of step 3's state. -/
theorem oo3 (H : All V) : Nonempty (Ops (V (Proc.devRef .tc main_v28)) (V (Proc.devRef .tc main_v16_5)) (V (Proc.devRef .tc main_arg1))
    (V (Proc.devRef .tc main_v310)) (V (Proc.devRef .tc main_v363))) :=
  have A : Holds V hostOps0_48 := H.get 47 rfl
  have B : Holds V hostOps0_49 := H.get 48 rfl
  have C : Holds V hostOps0_50 := H.get 49 rfl
  ⟨⟨_, _, _, _, _, _, _, _, _, _, _, _, _, _, _, _, _, _, _, _, _, _, _, _, _, _, _, _, _,
    (Fix.eq0 (A.nth 19 rfl) :), (Fix.eq0 (A.nth 20 rfl) :), (Fix.eq0 (A.nth 21 rfl) :), (Fix.eq1 (A.nth 22 rfl) :), (Fix.eq2 (A.nth 23 rfl) :), (Fix.eq2 (A.nth 24 rfl) :), (Fix.eq1 (A.nth 25 rfl) :), (Fix.eq1 (A.nth 26 rfl) :), t1 B.head, t1 B.tail.head, t3 B.tail.tail.head, (Fix.eqR (C.nth 0 rfl) :), (Fix.eq1 (C.nth 1 rfl) :), (Fix.eq1 (C.nth 2 rfl) :), (Fix.eq2 (C.nth 3 rfl) :), (Fix.eq2 (C.nth 4 rfl) :), (Fix.eq2 (C.nth 5 rfl) :), (Fix.eq0 (C.nth 6 rfl) :), (Fix.eq2 (C.nth 7 rfl) :), (Fix.eq0 (C.nth 8 rfl) :), (Fix.eq1 (C.nth 9 rfl) :), (Fix.eq0 (C.nth 10 rfl) :), (Fix.eq2 (C.nth 11 rfl) :), (Fix.eq1 (C.nth 12 rfl) :), (Fix.eq1 (C.nth 13 rfl) :), (Fix.eq2 (C.nth 14 rfl) :), (Fix.eq0 (C.nth 15 rfl) :), (Fix.eq1 (C.nth 16 rfl) :), (Fix.eq2 (C.nth 17 rfl) :), (Fix.eqR (C.nth 18 rfl) :)⟩⟩

/-- The other operations of step 3. -/
theorem or3 (H : All V) : Nonempty (Rest (V (Proc.devRef .tc main_v25)) (V (Proc.devRef .tc main_v126)) (V (Proc.devRef .tc main_v136)) 3
    (V (Proc.devRef .tc main_v310)) (V (Proc.devRef .tc main_v317)) (V (Proc.devRef .tc main_v340)) (V (Proc.devRef .tc main_v363)) (V (Proc.devRef .tc main_v368))) :=
  have A : Holds V hostOps0_46 := H.get 45 rfl
  have D : Holds V hostOps0_50 := H.get 49 rfl
  have E : Holds V hostOps0_51 := H.get 50 rfl
  ⟨⟨_, _, _, _, _, _, _, _, _, _, _, _, rfl, rfl, _, _, (Fix.eq1 (A.nth 0 rfl) :), (Fix.eq1 (A.nth 1 rfl) :), (Fix.eq1 (A.nth 2 rfl) :), (Fix.eqR (A.nth 3 rfl) :), (Fix.eq1 (A.nth 4 rfl) :), (Fix.eq2 (A.nth 5 rfl) :), (Fix.eq2 (A.nth 6 rfl) :), (Fix.eq1 (D.nth 19 rfl) :), (Fix.eqR (D.nth 20 rfl) :), (Fix.eq2 (D.nth 21 rfl) :), (Fix.eq2 (D.nth 22 rfl) :), t3 E.head⟩⟩

variable {P : Matrix (Fin 128) (Fin 128) ℝ} {X : Fin 1024 → Fin 128 → ℝ} {m : Fin 128 → ℝ}

/-- One step of the chain with the draws of step `s`. -/
def stp (P : Matrix (Fin 128) (Fin 128) ℝ) (X : Fin 1024 → Fin 128 → ℝ) (m : Fin 128 → ℝ) (s : Fin 4) (C : Fin 1024 → Fin 128 → ℝ) : Fin 1024 → Fin 128 → ℝ :=
  next P X m (zr s) (ur s) C

/-- What the operations of a step leave, whatever its number, holds of the four steps. -/
theorem each (H : All V) {Q : Fin 4 → FVec Ideal S1024x128 .f32 → FVec Ideal S1024x128 .f32 → Prop}
    (hq : ∀ (s : Fin 4) (xc xt qt qo xn : FVec Ideal S1024x128 .f32),
      Rest (V (Proc.devRef .tc main_v25)) (V (Proc.devRef .tc main_v126)) (V (Proc.devRef .tc main_v136)) s xc xt qt qo xn →
      Ops (V (Proc.devRef .tc main_v28)) (V (Proc.devRef .tc main_v16_5)) (V (Proc.devRef .tc main_arg1)) xt qt →
      Ops (V (Proc.devRef .tc main_v28)) (V (Proc.devRef .tc main_v16_5)) (V (Proc.devRef .tc main_arg1)) xc qo → Q s xc xn) :
    Q 0 (V (Proc.devRef .tc main_arg0)) (V (Proc.devRef .tc main_v194)) ∧ Q 1 (V (Proc.devRef .tc main_v194)) (V (Proc.devRef .tc main_v252))
    ∧ Q 2 (V (Proc.devRef .tc main_v252)) (V (Proc.devRef .tc main_v310)) ∧ Q 3 (V (Proc.devRef .tc main_v310)) (V (Proc.devRef .tc main_v368)) := by
  have ⟨r0⟩ := or0 H; have ⟨t0⟩ := ot0 H; have ⟨c0⟩ := oo0 H
  have ⟨r1⟩ := or1 H; have ⟨t1⟩ := ot1 H; have ⟨c1⟩ := oo1 H
  have ⟨r2⟩ := or2 H; have ⟨t2⟩ := ot2 H; have ⟨c2⟩ := oo2 H
  have ⟨r3⟩ := or3 H; have ⟨t3⟩ := ot3 H; have ⟨c3⟩ := oo3 H
  exact ⟨hq 0 _ _ _ _ _ r0 t0 c0, hq 1 _ _ _ _ _ r1 t1 c1, hq 2 _ _ _ _ _ r2 t2 c2, hq 3 _ _ _ _ _ r3 t3 c3⟩

/-- The draws of the steps. -/
theorem noise_real (H : All V) (s : Fin 4) (b : Fin 1024) (j : Fin 128) : (V (Proc.devRef .tc main_v126) : FVec Ideal S4x1024x128 .f32) (ix3 s b j) = (zr s b j : EReal) :=
  (noise H s b j).trans ((Scal.norm_eq _).1.symm.trans (zr_eq s b j))

/-- The states the reference leaves. -/
theorem states (H : All V) (hA : R2 (V (Proc.devRef .tc main_v16_5) : S128x128.Idx → EReal) P) (hmu : R1 (V (Proc.devRef .tc main_arg1) : S128.Idx → EReal) m)
    (hX : R2 (V (Proc.devRef .tc main_arg0) : S1024x128.Idx → EReal) X) (hpos : ∀ j, 0 < P j j) :
    R2 (V (Proc.devRef .tc main_v194) : S1024x128.Idx → EReal) (stp P X m 0 X)
    ∧ R2 (V (Proc.devRef .tc main_v252) : S1024x128.Idx → EReal) (stp P X m 1 (stp P X m 0 X))
    ∧ R2 (V (Proc.devRef .tc main_v310) : S1024x128.Idx → EReal) (stp P X m 2 (stp P X m 1 (stp P X m 0 X)))
    ∧ R2 (V (Proc.devRef .tc main_v368) : S1024x128.Idx → EReal) (stp P X m 3 (stp P X m 2 (stp P X m 1 (stp P X m 0 X)))) := by
  have hXL : ∀ b j k, (V (Proc.devRef .tc main_v28) : FVec Ideal S1024x128x128 .f32) (ix3 b j k) = (X b k : EReal) :=
    fun b j k => (long H b j k).trans (hX b k)
  have hvar : ∀ j, (V (Proc.devRef .tc main_v25) : FVec Ideal S128 .f32) (ix1 j) = Ideal.div (Ideal.ofBits .f32 0x3F800000#32) (P j j : EReal) :=
    RMat.var_eq (H.get 0 rfl) (H.get 1 rfl) (H.get 2 rfl) hA
  obtain ⟨s1, s2, s3, s4⟩ := each H (Q := fun s xc xn => ∀ C, R2 (xc : S1024x128.Idx → EReal) C → R2 (xn : S1024x128.Idx → EReal) (stp P X m s C))
    fun s xc xt qt qo xn r t c C hC => ref r t c hXL hA hmu hpos hvar (noise_real H s) (logu H s) hC
  exact ⟨s1 _ hX, s2 _ (s1 _ hX), s3 _ (s2 _ (s1 _ hX)), s4 _ (s3 _ (s2 _ (s1 _ hX)))⟩

/-- The states the reference leaves with a zero matrix. -/
theorem states_zero (H : All V) (hA : R2 (V (Proc.devRef .tc main_v16_5) : S128x128.Idx → EReal) (0 : Matrix (Fin 128) (Fin 128) ℝ))
    {X : Fin 1024 → Fin 128 → EReal} (hX : ∀ b j, (V (Proc.devRef .tc main_arg0) : S1024x128.Idx → EReal) (ix2 b j) = X b j) :
    (∀ b j, (V (Proc.devRef .tc main_v194) : S1024x128.Idx → EReal) (ix2 b j) = still (zr 0) (ur 0) X b j)
    ∧ (∀ b j, (V (Proc.devRef .tc main_v252) : S1024x128.Idx → EReal) (ix2 b j) = still (zr 1) (ur 1) (still (zr 0) (ur 0) X) b j)
    ∧ (∀ b j, (V (Proc.devRef .tc main_v310) : S1024x128.Idx → EReal) (ix2 b j) = still (zr 2) (ur 2) (still (zr 1) (ur 1) (still (zr 0) (ur 0) X)) b j)
    ∧ (∀ b j, (V (Proc.devRef .tc main_v368) : S1024x128.Idx → EReal) (ix2 b j)
        = still (zr 3) (ur 3) (still (zr 2) (ur 2) (still (zr 1) (ur 1) (still (zr 0) (ur 0) X))) b j) := by
  have hvar : ∀ j, (V (Proc.devRef .tc main_v25) : FVec Ideal S128 .f32) (ix1 j) = Ideal.div (Ideal.ofBits .f32 0x3F800000#32) 0 :=
    fun j => (RMat.var_eq (H.get 0 rfl) (H.get 1 rfl) (H.get 2 rfl) hA j).trans (congrArg _ EReal.coe_zero)
  obtain ⟨s1, s2, s3, s4⟩ := each H (Q := fun s xc xn => ∀ C : Fin 1024 → Fin 128 → EReal, (∀ b j, xc (ix2 b j) = C b j) → ∀ b j, xn (ix2 b j) = still (zr s) (ur s) C b j)
    fun s xc xt qt qo xn r t c C hC => ref_zero r t c hA hvar (noise_real H s) (logu H s) hC
  exact ⟨s1 _ hX, s2 _ (s1 _ hX), s3 _ (s2 _ (s1 _ hX)), s4 _ (s3 _ (s2 _ (s1 _ hX)))⟩

end Cert.RefSteps

end
-- ==== Proof.KArr.lean ====
/- The kernel's result array: the starting state, then the four states, each a slab. -/
module

public import proofs.«01_k».proof.Proof.KStep
public import proofs.«01_k».proof.Proof.RefSteps
public import proofs.«01_k».proof.Proof.Gen.KernelIdeal.Value
public import Idealize.ShloMosaic.Lib.Pipeline.ValueKit.Geometry

@[expose] public section

set_option maxRecDepth 16384
set_option maxHeartbeats 400000

noncomputable section

namespace Cert.KArr

open Idealize.ShloMosaic Idealize.ShloMosaic.TcCoe Idealize.ShloMosaic.ValueIdx
open Cert.KernelIdeal Cert.KernelIdeal.Gen Cert.Draw Cert.Rl Cert.Mat Cert.Scal Cert.Step Cert.RefSteps

local notation "V2" => FVec Ideal S1024x128 FTy.f32

/-- A slab lies inside the array. -/
theorem bnd (n : ℕ) (hn : n < 5) (a : Fin S5x1024x128.rank) : (![n, 0, 0] : Fin 3 → ℕ) a + S1x1024x128.size a ≤ S5x1024x128.size a := by
  fin_cases a
  · exact hn
  · exact le_refl 1024
  · exact le_refl 128

/-- Where a slab's entries lie. -/
theorem slab_emb (n : ℕ) (hn : n < 5) (inb) (b : Fin 1024) (j : Fin 128) :
    (Rect.unit (s := S5x1024x128) ![n, 0, 0] S1x1024x128.size inb).emb (ix3 0 b j : S1x1024x128.Idx) = ix3 ⟨n, hn⟩ b j := by
  funext a; apply Fin.ext
  rw [ValueKit.rect_emb_unit_val]
  fin_cases a
  · exact Nat.add_zero n
  · exact Nat.zero_add _
  · exact Nat.zero_add _

/-- A slab's payload. -/
theorem slab_pay (t : V2) (b : Fin 1024) (j : Fin 128) : shapeCast S1x1024x128 t shapeCasts_S1024x128_S1x1024x128 (ix3 0 b j) = t (ix2 b j) := by
  refine shapeCast_apply _ _ _ (ix2 b j) ?_
  rw [Shape.rowMajor_val_three, Shape.rowMajor_val_two]; show b.val * 128 + j.val = (0 * 1024 + b.val) * 128 + j.val; ring

/-- The slabs as one array. -/
def stack (t : Fin 5 → V2) : S5x1024x128.Idx → EReal := fun i => t (i 0) (ix2 (i 1) (i 2))

theorem slab_eq (t : Fin 5 → V2) (n : ℕ) (hn : n < 5) (inb) (x : S1x1024x128.Idx) :
    shapeCast S1x1024x128 (t ⟨n, hn⟩) shapeCasts_S1024x128_S1x1024x128 x
      = stack t ((Rect.unit (s := S5x1024x128) ![n, 0, 0] S1x1024x128.size inb).emb x) := by
  obtain ⟨a, b, j, rfl⟩ : ∃ (a : Fin 1) (b : Fin 1024) (j : Fin 128), x = ix3 a b j := ⟨x 0, x 1, x 2, eq_ix3 x⟩
  obtain rfl : a = 0 := Subsingleton.elim _ _
  rw [slab_pay, slab_emb n hn inb b j]
  rfl

theorem slab_mem (n : ℕ) (hn : n < 5) (inb) (b : Fin 1024) (j : Fin 128) :
    (ix3 ⟨n, hn⟩ b j : S5x1024x128.Idx) ∈ (Rect.unit (s := S5x1024x128) ![n, 0, 0] S1x1024x128.size inb).set := by
  refine Rect.mem_set_unit.2 fun a => ?_
  fin_cases a
  · exact ⟨le_refl n, Nat.lt_succ_self n⟩
  · exact ⟨Nat.zero_le _, (Nat.zero_add 1024).symm ▸ b.isLt⟩
  · exact ⟨Nat.zero_le _, (Nat.zero_add 128).symm ▸ j.isLt⟩

/-- The stores of the five slabs leave the array of the slabs. -/
theorem canon_eq (t : Fin 5 → V2) :
    (View.canon (Val := Elt Ideal) (s := S5x1024x128) (e := .f32) [
      ⟨r0_7, shapeCast S1x1024x128 (t 4) shapeCasts_S1024x128_S1x1024x128⟩,
      ⟨r0_6, shapeCast S1x1024x128 (t 3) shapeCasts_S1024x128_S1x1024x128⟩,
      ⟨r0_5, shapeCast S1x1024x128 (t 2) shapeCasts_S1024x128_S1x1024x128⟩,
      ⟨r0_4, shapeCast S1x1024x128 (t 1) shapeCasts_S1024x128_S1x1024x128⟩,
      ⟨r0_3, shapeCast S1x1024x128 (t 0) shapeCasts_S1024x128_S1x1024x128⟩] : S5x1024x128.Idx → EReal) = stack t := by
  funext y
  refine View.canon_apply_of_pieces (Val := Elt Ideal) (e := .f32) (stack t) _ ?_ y ?_
  · refine List.forall_mem_cons.2 ⟨slab_eq t 4 (by decide) (bnd 4 (by decide)), List.forall_mem_cons.2 ⟨slab_eq t 3 (by decide) (bnd 3 (by decide)), List.forall_mem_cons.2 ⟨slab_eq t 2 (by decide) (bnd 2 (by decide)),
      List.forall_mem_cons.2 ⟨slab_eq t 1 (by decide) (bnd 1 (by decide)), List.forall_mem_cons.2 ⟨slab_eq t 0 (by decide) (bnd 0 (by decide)), fun _ h => nomatch h⟩⟩⟩⟩⟩
  · obtain ⟨s, b, j, rfl⟩ : ∃ (s : Fin 5) (b : Fin 1024) (j : Fin 128), y = ix3 s b j := ⟨y 0, y 1, y 2, eq_ix3 y⟩
    fin_cases s
    · exact ⟨_, .tail _ (.tail _ (.tail _ (.tail _ (.head _)))), slab_mem 0 (by decide) (bnd 0 (by decide)) b j⟩
    · exact ⟨_, .tail _ (.tail _ (.tail _ (.head _))), slab_mem 1 (by decide) (bnd 1 (by decide)) b j⟩
    · exact ⟨_, .tail _ (.tail _ (.head _)), slab_mem 2 (by decide) (bnd 2 (by decide)) b j⟩
    · exact ⟨_, .tail _ (.head _), slab_mem 3 (by decide) (bnd 3 (by decide)) b j⟩
    · exact ⟨_, .head _, slab_mem 4 (by decide) (bnd 4 (by decide)) b j⟩

variable (m : (ℓ : Loc nD τ sig) → Buf (Elt Ideal) ℓ)

/-- The one point. -/
abbrev pt : Fin cfg0.N := ⟨0, by decide⟩

/-- The windows are the whole arrays. -/
theorem blk0 (c : Dev nD) : (iblk m c 0 pt : S1024x128.Idx → EReal) = m ((c : Thread nD τ).loc main_arg0) := by
  have e : ∀ y : S1024x128.Idx, ((cfg0.win 0).blk pt).view.emb y = y := by
    intro y; funext a; apply Fin.ext
    match a with
    | ⟨0, _⟩ => show 0 * 1024 + 1 * (y 0).val = (y 0).val; omega
    | ⟨1, _⟩ => show 0 * 128 + 1 * (y 1).val = (y 1).val; omega
  rw [← V_main_arg0 m c]
  funext y
  show V m c main_arg0 (((cfg0.win 0).blk pt).view.emb y) = _
  rw [e]
theorem blk2 (c : Dev nD) : (iblk m c 2 pt : S128x128.Idx → EReal) = m ((c : Thread nD τ).loc main_arg2) := by
  have e : ∀ y : S128x128.Idx, ((cfg0.win 2).blk pt).view.emb y = y := by
    intro y; funext a; apply Fin.ext
    match a with
    | ⟨0, _⟩ => show 0 * 128 + 1 * (y 0).val = (y 0).val; omega
    | ⟨1, _⟩ => show 0 * 128 + 1 * (y 1).val = (y 1).val; omega
  rw [← V_main_arg2 m c]
  funext y
  show V m c main_arg2 (((cfg0.win 2).blk pt).view.emb y) = _
  rw [e]
/-- The row of means. -/
theorem blk1 (c : Dev nD) (k : Fin 128) : (iblk m c 1 pt : S1x128.Idx → EReal) (ix2 0 k) = (m ((c : Thread nD τ).loc main_arg1) : S128.Idx → EReal) (ix1 k) := by
  have e : ∀ y : S1x128.Idx, ((cfg0.win 1).blk pt).view.emb y = y := by
    intro y; funext a; apply Fin.ext
    match a with
    | ⟨0, _⟩ => show 0 * 1 + 1 * (y 0).val = (y 0).val; omega
    | ⟨1, _⟩ => show 0 * 128 + 1 * (y 1).val = (y 1).val; omega
  show V m c main_v0 (((cfg0.win 1).blk pt).view.emb (ix2 0 k)) = _
  rw [e]
  have h : V m c main_v0 = broadcastInDim S1x128 ![1] bcast_S128_S1x128_1 (m ((c : Thread nD τ).loc main_arg1) : S128.Idx → EReal) :=
    (congrFun (StableHlo.after_cons ..) _).trans ((congrFun (StableHlo.after_nil ..) _).trans (StableHlo.unary_result ..))
  rw [h]
  exact broadcastInDim_apply _ _ _ _ (ix1 k) (fun a => by fin_cases a; rfl)

/-- The states' tensors. -/
def tens (S : FVec Ideal S128x128 .f32) (x : V2) (mu : FVec Ideal S1x128 .f32) : Fin 5 → V2
  | 0 => x
  | 1 => vst1 S x mu
  | 2 => vst2 S x mu
  | 3 => vst3 S x mu
  | 4 => vst4 S x mu

/-- The array after the run. -/
theorem arr_eq (c : Dev nD) : ((dats m 0 c).arrAt 3 cfg0.N : S5x1024x128.Idx → EReal)
    = stack (tens (m ((c : Thread nD τ).loc main_arg2)) (m ((c : Thread nD τ).loc main_arg0)) (iblk m c 1 pt)) := by
  have e : ∀ y : S5x1024x128.Idx, ((cfg0.win 3).blk pt).view.emb y = y := by
    intro y; funext a; apply Fin.ext
    match a with
    | ⟨0, _⟩ => show 0 * 5 + 1 * (y 0).val = (y 0).val; omega
    | ⟨1, _⟩ => show 0 * 1024 + 1 * (y 1).val = (y 1).val; omega
    | ⟨2, _⟩ => show 0 * 128 + 1 * (y 2).val = (y 2).val; omega
  have h : out0_3 (iblk m c 0 pt) (iblk m c 1 pt) (iblk m c 2 pt)
      = stack (tens (m ((c : Thread nD τ).loc main_arg2)) (m ((c : Thread nD τ).loc main_arg0)) (iblk m c 1 pt)) := by
    rw [out_eq, View.ld_unit_lit _ _ (by decide), View.ld_unit_lit _ _ (by decide), View.ld_unit_lit _ _ (by decide)]
    refine (canon_eq (tens (iblk m c 2 pt) (iblk m c 0 pt) (iblk m c 1 pt))).trans ?_
    rw [blk0 m c, blk2 m c]
  funext y
  have b := congrFun (Value.blocks3 m c pt rfl) y
  rw [Value.flushed3] at b
  have b' : ((dats m 0 c).arrAt 3 cfg0.N : S5x1024x128.Idx → EReal) (((cfg0.win 3).blk pt).view.emb y) = _ := b
  rw [e] at b'
  refine b'.trans ?_
  rw [← h]

variable {m}

/-- The draws of the steps. -/
theorem noise_real (s : Fin 4) (b : Fin 1024) (j : Fin 128) : vnormal (F := Ideal) (vsym (nbits s)) (ix2 b j) = (zr s b j : EReal) :=
  (noise_eq s b j).trans (zr_eq s b j)

/-- The states' tensors over the reals. -/
theorem states {S : FVec Ideal S128x128 .f32} {x : V2} {mu : FVec Ideal S1x128 .f32} {A : Matrix (Fin 128) (Fin 128) ℝ} {X : Fin 1024 → Fin 128 → ℝ} {a : Fin 128 → ℝ}
    (hS : R2 (S : S128x128.Idx → EReal) A) (hA : A.IsSymm) (hx : R2 (x : S1024x128.Idx → EReal) X) (hm : ∀ k, mu (ix2 0 k) = (a k : EReal)) (hpos : ∀ j, 0 < prec A j j) :
    R2 (vst1 S x mu : S1024x128.Idx → EReal) (stp (prec A) X a 0 X)
    ∧ R2 (vst2 S x mu : S1024x128.Idx → EReal) (stp (prec A) X a 1 (stp (prec A) X a 0 X))
    ∧ R2 (vst3 S x mu : S1024x128.Idx → EReal) (stp (prec A) X a 2 (stp (prec A) X a 1 (stp (prec A) X a 0 X)))
    ∧ R2 (vst4 S x mu : S1024x128.Idx → EReal) (stp (prec A) X a 3 (stp (prec A) X a 2 (stp (prec A) X a 1 (stp (prec A) X a 0 X)))) := by
  have s1 := KStep.ker hS hA hx hm hpos (noise_real 0) (logu_eq 0) hx
  have s2 := KStep.ker hS hA hx hm hpos (noise_real 1) (logu_eq 1) s1
  have s3 := KStep.ker hS hA hx hm hpos (noise_real 2) (logu_eq 2) s2
  exact ⟨s1, s2, s3, KStep.ker hS hA hx hm hpos (noise_real 3) (logu_eq 3) s3⟩

/-- The states' tensors with a zero matrix. -/
theorem states_zero {S : FVec Ideal S128x128 .f32} {x : V2} {mu : FVec Ideal S1x128 .f32} {X : Fin 1024 → Fin 128 → ℝ} {a : Fin 128 → ℝ}
    (hP : R2 (vinv S : S128x128.Idx → EReal) (0 : Matrix (Fin 128) (Fin 128) ℝ)) (hx : R2 (x : S1024x128.Idx → EReal) X) (hm : ∀ k, mu (ix2 0 k) = (a k : EReal))
    {C : Fin 1024 → Fin 128 → EReal} (hC : ∀ b j, x (ix2 b j) = C b j) :
    (∀ b j, vst1 S x mu (ix2 b j) = still (zr 0) (ur 0) C b j)
    ∧ (∀ b j, vst2 S x mu (ix2 b j) = still (zr 1) (ur 1) (still (zr 0) (ur 0) C) b j)
    ∧ (∀ b j, vst3 S x mu (ix2 b j) = still (zr 2) (ur 2) (still (zr 1) (ur 1) (still (zr 0) (ur 0) C)) b j)
    ∧ (∀ b j, vst4 S x mu (ix2 b j) = still (zr 3) (ur 3) (still (zr 2) (ur 2) (still (zr 1) (ur 1) (still (zr 0) (ur 0) C))) b j) := by
  have s1 := KStep.ker_zero hP hx hm (noise_real 0) (logu_eq 0) hC
  have s2 := KStep.ker_zero hP hx hm (noise_real 1) (logu_eq 1) s1
  have s3 := KStep.ker_zero hP hx hm (noise_real 2) (logu_eq 2) s2
  exact ⟨s1, s2, s3, KStep.ker_zero hP hx hm (noise_real 3) (logu_eq 3) s3⟩

end Cert.KArr

end
-- ==== Proof.Pre.lean ====
/- The precondition read back: two arrays of reals, and a symmetric third. -/
module

public import proofs.«01_k».proof.Pre_tame
public import proofs.«01_k».proof.Proof.Rl
public import Idealize.ShloMosaic.Lib.ReduceAll
public import Idealize.ShloMosaic.Lib.WordArith

@[expose] public section

set_option maxRecDepth 16384
set_option maxHeartbeats 400000

noncomputable section

namespace Cert.Pre

open Idealize.ShloMosaic Idealize.ShloMosaic.ValueIdx Cert.Pre_tame Cert.Rl

/-- The shape relations the precondition's operations take. -/
theorem facts : Cert.Pre_tame.Facts where
  bcast_S_S1024x128 := by decide
  reducesTo_S1024x128_S_d0_1 := by decide
  h_S_ := by decide
  bcast_S_S128 := by decide
  reducesTo_S128_S_d0 := by decide
  reducesTo_S128x128_S_d0_1 := by decide
  transposes_S128x128_S128x128_1_0 := by decide

theorem ofBits_top : Ideal.ofBits .f32 0x7F800000#32 = ⊤ := by simp [Ideal.ofBits, Ideal.ieee]

/-- An extended real whose absolute value lies below the top is a real number. -/
theorem real_of {x : EReal} (h : Ideal.cmp .olt (max x (-x)) (Ideal.ofBits .f32 0x7F800000#32) = 1#1) : x = (x.toReal : EReal) := by
  rw [ofBits_top] at h
  have h' : max x (-x) < ⊤ := by
    by_contra hc
    rw [show Ideal.cmp .olt (max x (-x)) ⊤ = BitVec.ofBool (decide (max x (-x) < ⊤)) from rfl, decide_eq_false hc] at h
    exact absurd h (by decide)
  refine (EReal.coe_toReal ?_ ?_).symm
  · rintro rfl; exact absurd h' (by simp)
  · rintro rfl; exact absurd h' (by simp)

/-- Two equal ones. -/
theorem and_one {a b : IVec S_ 1} (h : andi a b = fun _ => 1#1) : a ix0 = 1#1 ∧ b ix0 = 1#1 :=
  IntOp.andi_eq_one.1 (congrFun h ix0)

instance : Subsingleton S_.Idx := ⟨fun a b => funext fun i => i.elim0⟩

/-- The precondition says: real entries in the first two arrays, and a symmetric third. -/
theorem of_fn [Cert.Pre_tame.Facts] {a0 : FVec Ideal S1024x128 .f32} {a1 : FVec Ideal S128 .f32} {a2 : FVec Ideal S128x128 .f32}
    (h : Cert.Pre_tame.fn a0 a1 a2 = fun _ => 1#1) : ∃ (X : Fin 1024 → Fin 128 → ℝ) (m : Fin 128 → ℝ),
      R2 (a0 : S1024x128.Idx → EReal) X ∧ R1 (a1 : S128.Idx → EReal) m ∧ ∀ i j, a2 (ix2 i j) = a2 (ix2 j i) := by
  obtain ⟨h8, h11⟩ := and_one h
  obtain ⟨h3, h7⟩ := IntOp.andi_eq_one.1 h8
  have f0 : ∀ i, a0 i = ((a0 i).toReal : EReal) := fun i => real_of (Host.reduce_andi_all _ _ _ _ _ h3 i)
  have f1 : ∀ i, a1 i = ((a1 i).toReal : EReal) := fun i => real_of (Host.reduce_andi_all _ _ _ _ _ h7 i)
  refine ⟨fun b j => (a0 (ix2 b j)).toReal, fun j => (a1 (ix1 j)).toReal, fun b j => f0 _, fun j => f1 _, fun i j => ?_⟩
  have e : Ideal.cmp .oeq (a2 (ix2 i j)) (transpose S128x128 [1, 0] a2 Facts.transposes_S128x128_S128x128_1_0 (ix2 i j)) = 1#1 :=
    Host.reduce_andi_all _ _ _ _ _ h11 (ix2 i j)
  have e' := of_decide_eq_true ((WordArith.ofBool_eq_one_iff _).1 e)
  refine e'.trans (congrArg a2 ?_)
  funext d; fin_cases d <;> rfl

/-- A symmetric matrix of extended reals has an infinite entry or is a symmetric matrix of reals. -/
theorem cases {a : S128x128.Idx → EReal} (hs : ∀ i j, a (ix2 i j) = a (ix2 j i)) :
    (∃ i j, a (ix2 i j) = ⊤ ∨ a (ix2 i j) = ⊥) ∨ ∃ S : Matrix (Fin 128) (Fin 128) ℝ, R2 a S ∧ S.IsSymm := by
  by_cases h : ∃ i j, a (ix2 i j) = ⊤ ∨ a (ix2 i j) = ⊥
  · exact .inl h
  · push Not at h
    exact .inr ⟨fun i j => (a (ix2 i j)).toReal, fun i j => (EReal.coe_toReal (h i j).1 (h i j).2).symm,
      Matrix.IsSymm.ext fun i j => congrArg EReal.toReal (hs j i)⟩

end Cert.Pre

end
-- ==== Proof.Final.lean ====
/- The two programs' results: the same array. -/
module

public import proofs.«01_k».proof.Proof.KArr
public import proofs.«01_k».proof.Proof.Pre

@[expose] public section

set_option maxRecDepth 16384
set_option maxHeartbeats 400000

noncomputable section

namespace Cert.Final

open Idealize.ShloMosaic Idealize.ShloMosaic.TcCoe Idealize.ShloMosaic.StableHlo Idealize.ShloMosaic.ValueIdx
open Cert.ReferenceIdeal Cert.ReferenceIdeal.Gen Cert.ReferenceIdeal.Value Cert.ReferenceIdeal.Chained Cert.Tf Cert.Scal Cert.RNoise Cert.RAcc Cert.Step Cert.Rl Cert.RefSteps Cert.Mat

local notation "A2" => (S1024x128.Idx → EReal)

/-- A tensor as a slab. -/
abbrev up (t : A2) : S1x1024x128.Idx → EReal := broadcastInDim S1x1024x128 ![1, 2] bcast_S1024x128_S1x1024x128_1_2 t

theorem up_eq (t : A2) (b : Fin 1024) (j : Fin 128) : up t (ix3 0 b j) = t (ix2 b j) :=
  broadcastInDim_apply _ _ _ _ (ix2 b j) (fun a => by fin_cases a <;> rfl)

/-- The concatenation of five slabs, read at an index. -/
theorem cat_eq (t : Fin 5 → A2) (h) (s : Fin 5) (b : Fin 1024) (j : Fin 128) :
    concatenate S5x1024x128 0 [⟨S1x1024x128, up (t 0)⟩, ⟨S1x1024x128, up (t 1)⟩, ⟨S1x1024x128, up (t 2)⟩, ⟨S1x1024x128, up (t 3)⟩, ⟨S1x1024x128, up (t 4)⟩] h (ix3 s b j)
      = t s (ix2 b j) := by
  rw [← up_eq (t s) b j]
  refine concatenate_apply_piece 0 _ h (ix3 s b j) s.val s.isLt S1x1024x128 (up (t s)) ?_ rfl s.val ?_ (ix3 0 b j) ?_ rfl
  · fin_cases s <;> rfl
  · fin_cases s <;> rfl
  · intro a ha
    match a with
    | ⟨0, _⟩ => exact absurd rfl ha
    | ⟨1, _⟩ => rfl
    | ⟨2, _⟩ => rfl

variable {V : Valuation τ sig (Elt Ideal)}

/-- The reference's tensors of states. -/
def tens (V : Valuation τ sig (Elt Ideal)) : Fin 5 → A2
  | 0 => V (Proc.devRef .tc main_arg0)
  | 1 => V (Proc.devRef .tc main_v194)
  | 2 => V (Proc.devRef .tc main_v252)
  | 3 => V (Proc.devRef .tc main_v310)
  | 4 => V (Proc.devRef .tc main_v368)

/-- The reference's result, read at an index. -/
theorem res_eq (H : All V) (s : Fin 5) (b : Fin 1024) (j : Fin 128) :
    (V (Proc.devRef .tc main_v374) : S5x1024x128.Idx → EReal) (ix3 s b j) = tens V s (ix2 b j) := by
  have A : Holds V hostOps0_52 := H.get 51 rfl
  have e0 : (V (Proc.devRef .tc main_v369) : S1x1024x128.Idx → EReal) = up (tens V 0) := (Fix.eq1 (A.nth 0 rfl) :)
  have e1 : (V (Proc.devRef .tc main_v370) : S1x1024x128.Idx → EReal) = up (tens V 1) := (Fix.eq1 (A.nth 1 rfl) :)
  have e2 : (V (Proc.devRef .tc main_v371) : S1x1024x128.Idx → EReal) = up (tens V 2) := (Fix.eq1 (A.nth 2 rfl) :)
  have e3 : (V (Proc.devRef .tc main_v372) : S1x1024x128.Idx → EReal) = up (tens V 3) := (Fix.eq1 (A.nth 3 rfl) :)
  have e4 : (V (Proc.devRef .tc main_v373) : S1x1024x128.Idx → EReal) = up (tens V 4) := (Fix.eq1 (A.nth 4 rfl) :)
  have e := congrFun (Fix.eqN (A.nth 5 rfl) :) (ix3 s b j : S5x1024x128.Idx)
  refine Eq.trans e ?_
  show concatenate S5x1024x128 0 [⟨S1x1024x128, (V (Proc.devRef .tc main_v369) : S1x1024x128.Idx → EReal)⟩, ⟨S1x1024x128, (V (Proc.devRef .tc main_v370) : S1x1024x128.Idx → EReal)⟩,
    ⟨S1x1024x128, (V (Proc.devRef .tc main_v371) : S1x1024x128.Idx → EReal)⟩, ⟨S1x1024x128, (V (Proc.devRef .tc main_v372) : S1x1024x128.Idx → EReal)⟩,
    ⟨S1x1024x128, (V (Proc.devRef .tc main_v373) : S1x1024x128.Idx → EReal)⟩] _ (ix3 s b j) = _
  simp only [e0, e1, e2, e3, e4]
  exact cat_eq (tens V) _ s b j

/-- Two arrays of tensors of the same real states. -/
theorem same {t u : A2} {X : Fin 1024 → Fin 128 → ℝ} (ht : R2 t X) (hu : R2 u X) (b : Fin 1024) (j : Fin 128) : t (ix2 b j) = u (ix2 b j) :=
  (ht b j).trans (hu b j).symm

section Meet

variable {S : FVec Ideal S128x128 .f32} {x : FVec Ideal S1024x128 .f32} {mu : FVec Ideal S1x128 .f32} {X : Fin 1024 → Fin 128 → ℝ} {a : Fin 128 → ℝ}

/-- The states agree where the matrix is one of reals. -/
theorem meet (H : All V) {A : Matrix (Fin 128) (Fin 128) ℝ} (k2 : R2 (V (Proc.devRef .tc main_v16_5) : S128x128.Idx → EReal) (prec A))
    (k1 : R1 (V (Proc.devRef .tc main_arg1) : S128.Idx → EReal) a) (k0 : R2 (V (Proc.devRef .tc main_arg0) : S1024x128.Idx → EReal) X)
    (hS : R2 (S : S128x128.Idx → EReal) A) (hs : A.IsSymm) (hX : R2 (x : S1024x128.Idx → EReal) X) (hm : ∀ k, mu (ix2 0 k) = (a k : EReal))
    (s : Fin 5) (b : Fin 1024) (j : Fin 128) : tens V s (ix2 b j) = KArr.tens S x mu s (ix2 b j) := by
  have hpos : ∀ j, 0 < prec A j j := neu_diag_pos hs (scale_pos A) (scale_row A) 1023
  obtain ⟨r1, r2, r3, r4⟩ := RefSteps.states H k2 k1 k0 hpos
  obtain ⟨q1, q2, q3, q4⟩ := KArr.states hS hs hX hm hpos
  match s with
  | 0 => exact same k0 hX b j
  | 1 => exact same r1 q1 b j
  | 2 => exact same r2 q2 b j
  | 3 => exact same r3 q3 b j
  | 4 => exact same r4 q4 b j

/-- The states agree where the matrix has an infinite entry: the inverse vanishes in both. -/
theorem meet_zero (H : All V) (k2 : R2 (V (Proc.devRef .tc main_v16_5) : S128x128.Idx → EReal) (0 : Matrix (Fin 128) (Fin 128) ℝ))
    (k0 : R2 (V (Proc.devRef .tc main_arg0) : S1024x128.Idx → EReal) X) (ht : amax S = ⊤)
    (hX : R2 (x : S1024x128.Idx → EReal) X) (hm : ∀ k, mu (ix2 0 k) = (a k : EReal))
    (s : Fin 5) (b : Fin 1024) (j : Fin 128) : tens V s (ix2 b j) = KArr.tens S x mu s (ix2 b j) := by
  have q2 := KMat.vinv_zero (s := S) (by rw [KMat.vscale_amax, ht, scale_top])
  obtain ⟨r1, r2, r3, r4⟩ := RefSteps.states_zero H k2 (X := fun b j => (X b j : EReal)) k0
  obtain ⟨q1, q2, q3, q4⟩ := KArr.states_zero q2 hX hm (C := fun b j => (X b j : EReal)) hX
  match s with
  | 0 => exact same k0 hX b j
  | 1 => exact (r1 b j).trans (q1 b j).symm
  | 2 => exact (r2 b j).trans (q2 b j).symm
  | 3 => exact (r3 b j).trans (q3 b j).symm
  | 4 => exact (r4 b j).trans (q4 b j).symm

end Meet

/-- Where the precondition holds and the arguments agree, the reference's result is the kernel's. -/
theorem agree [Cert.Pre_tame.Facts]
    (m : (ℓ : Loc KernelIdeal.nD KernelIdeal.τ KernelIdeal.sig) → Buf (Elt Ideal) ℓ) (m' : (ℓ : Loc nD τ sig) → Buf (Elt Ideal) ℓ) (c : Dev nD)
    (hp : Cert.Pre_tame.fn (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2)) = fun _ => 1#1)
    (h0 : m' ((c.tc : Thread nD τ).loc main_arg0) = m ((c.tc : Thread KernelIdeal.nD KernelIdeal.τ).loc KernelIdeal.main_arg0))
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2)) :
    (VF m' c (Proc.devRef .tc main_v374) : S5x1024x128.Idx → EReal) = (KernelIdeal.Gen.dats m 0 c).arrAt 3 KernelIdeal.cfg0.N := by
  obtain ⟨X, a, hX, ha, hs⟩ := Pre.of_fn hp
  have k0 : R2 (VF m' c (Proc.devRef .tc main_arg0) : S1024x128.Idx → EReal) X := by
    rw [VF_arg m' c (by decide)]; intro b j; exact (congrFun h0 _).trans (hX b j)
  have k1 : R1 (VF m' c (Proc.devRef .tc main_arg1) : S128.Idx → EReal) a := by
    rw [VF_arg m' c (by decide)]; intro j; exact (congrFun h1 _).trans (ha j)
  have q0 : ∀ k, (KernelIdeal.Gen.iblk m c 1 KArr.pt : KernelIdeal.S1x128.Idx → EReal) (ix2 0 k) = (a k : EReal) := fun k => (KArr.blk1 m c k).trans (ha k)
  have H : All (VF m' c) := fun k L h => RMat.hold m' c h
  rw [KArr.arr_eq]
  funext y
  obtain ⟨s, b, j, rfl⟩ : ∃ (s : Fin 5) (b : Fin 1024) (j : Fin 128), y = ix3 s b j := ⟨y 0, y 1, y 2, eq_ix3 y⟩
  rw [res_eq H]
  rcases Pre.cases hs with ⟨i, l, h⟩ | ⟨S, hS, hs⟩
  · have t := amax_top h
    exact meet_zero H (RMat.inv_zero (m := m') (c := c) ((congrArg amax h2).trans t)) k0 t hX q0 s b j
  · exact meet H (RMat.inv_eq (fun i j => (congrFun h2 _).trans (hS i j))) k1 k0 hS hs hX q0 s b j

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefRun
public import proofs.«01_k».proof.Proof.Final
public import Idealize.ShloMosaic.Adequacy
public import Idealize.ShloMosaic.Init

@[expose] public section

noncomputable section

namespace Cert.Proof

open Idealize.ShloMosaic Idealize.SL.Sem Cert.Kernel

/-- The two programs, run where the precondition holds on the same arguments, end with the same result. -/
theorem algebraic [hP : Cert.Pre_tame.Facts] :
    algebraic_KernelIdeal_ReferenceIdeal_pre_tame (hKernelIdeal := Cert.KernelIdeal.Gen.facts) (hReferenceIdeal := Cert.ReferenceIdeal.Gen.facts) (hPre_tame := hP) :=
  fun m g m' g' hp ha => ⟨fun c => (Cert.KernelIdeal.Gen.dats m 0 c).arrAt 3 Cert.KernelIdeal.cfg0.N, Cert.KernelIdeal.Value.run_blocks m g,
    (θ_run Cert.ReferenceIdeal.defs _ _).mono (fun r h c =>
      ⟨(h c Cert.ReferenceIdeal.main_v374 rfl).trans (Cert.Final.agree m m' c (hp c) (ha c).1 (ha c).2.1 (ha c).2.2),
        (h c Cert.ReferenceIdeal.main_arg0 rfl).trans (Cert.ReferenceIdeal.Chained.VF_arg m' c (by decide)),
        (h c Cert.ReferenceIdeal.main_arg1 rfl).trans (Cert.ReferenceIdeal.Chained.VF_arg m' c (by decide)),
        (h c Cert.ReferenceIdeal.main_arg2 rfl).trans (Cert.ReferenceIdeal.Chained.VF_arg m' c (by decide))⟩)
      (Cert.ReferenceIdeal.Chained.run_VF m' g')⟩

/-- Everything claimed. -/
theorem claim : Cert.Claim :=
  ⟨Cert.Kernel.Gen.facts, Cert.KernelIdeal.Gen.facts, Cert.ReferenceIdeal.Gen.facts, Cert.Pre.facts, fun m g _ => Cert.Kernel.Gen.frame m g,
    fun m g _ => Cert.KernelIdeal.Gen.frame m g, fun m g _ => Cert.KernelIdeal.Gen.frame m g, fun m g _ => Cert.ReferenceIdeal.Chained.frame m g,
    fun m g _ => Cert.ReferenceIdeal.Chained.frame m g, trivial, algebraic (hP := Cert.Pre.facts)⟩

end Cert.Proof

end
